-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v131) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_experts_named : Cert.Pre_experts_named.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal) (hPre_experts_named := hPre_experts_named)
-- ==== Pre_experts_named.lean ====
abbrev S71680x1024 : Shape := ⟨2, ![71680, 1024]⟩
abbrev S140 : Shape := ⟨1, ![140]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S_ : Shape := ⟨0, ![]⟩

class Facts : Prop where
  bcast_S_S140 : S_.BroadcastsInDim S140 (![] : Fin 0 → Fin S140.rank)

variable [Facts]

def fn {F : FTy → Type} [FloatOps F] (main_arg0 : FVec F S71680x1024 .f32) (main_arg1 : IVec S140 32) (main_arg2 : IVec S1 32) (main_arg3 : FVec F S2x8x1024x2816 .f32) (main_arg4 : FVec F S2x8x1024x2816 .f32) (main_arg5 : FVec F S2x8x2816x1024 .f32) : IVec S140 1 :=
  let main_c : IVec S_ 32 := constantI S_ 32 0#32
  let main_v0 : IVec S140 32 := broadcastInDim S140 ![] bcast_S_S140 main_c
  let main_v1 : IVec S140 1 := cmpi .sge main_arg1 main_v0
  let main_c_0 : IVec S_ 32 := constantI S_ 32 8#32
  let main_v2 : IVec S140 32 := broadcastInDim S140 ![] bcast_S_S140 main_c_0
  let main_v3 : IVec S140 1 := cmpi .slt main_arg1 main_v2
  let main_v4 : IVec S140 1 := andi main_v1 main_v3
  main_v4
-- ==== Pre_finite_scores.lean ====
abbrev S4x8448x2x4x64 : Shape := ⟨5, ![4, 8448, 2, 4, 64]⟩
abbrev S4x8448x8x1x96 : Shape := ⟨5, ![4, 8448, 8, 1, 96]⟩
abbrev S4x8448x2x64 : Shape := ⟨4, ![4, 8448, 2, 64]⟩
abbrev S4x8448x8x96 : Shape := ⟨4, ![4, 8448, 8, 96]⟩
abbrev S4x8448x8x64 : Shape := ⟨4, ![4, 8448, 8, 64]⟩
abbrev S_ : Shape := ⟨0, ![]⟩

class Facts : Prop where
  bcast_S_S4x8448x2x4x64 : S_.BroadcastsInDim S4x8448x2x4x64 (![] : Fin 0 → Fin S4x8448x2x4x64.rank)
  bcast_S_S4x8448x8x1x96 : S_.BroadcastsInDim S4x8448x8x1x96 (![] : Fin 0 → Fin S4x8448x8x1x96.rank)
  bcast_S_S4x8448x2x64 : S_.BroadcastsInDim S4x8448x2x64 (![] : Fin 0 → Fin S4x8448x2x64.rank)
  bcast_S_S4x8448x8x96 : S_.BroadcastsInDim S4x8448x8x96 (![] : Fin 0 → Fin S4x8448x8x96.rank)

variable [Facts]

def fn {F : FTy → Type} [FloatOps F] (main_arg0 : FVec F S4x8448x2x4x64 .f32) (main_arg1 : FVec F S4x8448x8x1x96 .f32) (main_arg2 : FVec F S4x8448x2x64 .f32) (main_arg3 : FVec F S4x8448x8x96 .f32) (main_arg4 : FVec F S4x8448x2x64 .f32) (main_arg5 : FVec F S4x8448x8x64 .f32) : IVec S4x8448x2x4x64 1 × IVec S4x8448x8x1x96 1 × IVec S4x8448x2x64 1 × IVec S4x8448x8x96 1 :=
  let main_v0 : FVec F S4x8448x2x4x64 .f32 := Host.absf main_arg0
  let main_cst : FVec F S_ .f32 := constant S_ .f32 0x7F800000#32
  let main_v1 : FVec F S4x8448x2x4x64 .f32 := broadcastInDim S4x8448x2x4x64 ![] bcast_S_S4x8448x2x4x64 main_cst
  let main_v2 : IVec S4x8448x2x4x64 1 := cmpf .olt main_v0 main_v1
  let main_v3 : FVec F S4x8448x8x1x96 .f32 := Host.absf main_arg1
  let main_cst_0 : FVec F S_ .f32 := constant S_ .f32 0x7F800000#32
  let main_v4 : FVec F S4x8448x8x1x96 .f32 := broadcastInDim S4x8448x8x1x96 ![] bcast_S_S4x8448x8x1x96 main_cst_0
  let main_v5 : IVec S4x8448x8x1x96 1 := cmpf .olt main_v3 main_v4
  let main_v6 : FVec F S4x8448x2x64 .f32 := Host.absf main_arg2
  let main_cst_1 : FVec F S_ .f32 := constant S_ .f32 0x7F800000#32
  let main_v7 : FVec F S4x8448x2x64 .f32 := broadcastInDim S4x8448x2x64 ![] bcast_S_S4x8448x2x64 main_cst_1
  let main_v8 : IVec S4x8448x2x64 1 := cmpf .olt main_v6 main_v7
  let main_v9 : FVec F S4x8448x8x96 .f32 := Host.absf main_arg3
  let main_cst_2 : FVec F S_ .f32 := constant S_ .f32 0x7F800000#32
  let main_v10 : FVec F S4x8448x8x96 .f32 := broadcastInDim S4x8448x8x96 ![] bcast_S_S4x8448x8x96 main_cst_2
  let main_v11 : IVec S4x8448x8x96 1 := cmpf .olt main_v9 main_v10
  (main_v2, main_v5, main_v8, main_v11)
-- ==== Kernel.lean ====
abbrev S4x8448x2x4x64 : Shape := ⟨5, ![4, 8448, 2, 4, 64]⟩
abbrev S4x8448x8x1x96 : Shape := ⟨5, ![4, 8448, 8, 1, 96]⟩
abbrev S4x8448x2x64 : Shape := ⟨4, ![4, 8448, 2, 64]⟩
abbrev S4x8448x8x96 : Shape := ⟨4, ![4, 8448, 8, 96]⟩
abbrev S4x8448x8x64 : Shape := ⟨4, ![4, 8448, 8, 64]⟩
abbrev S_ : Shape := ⟨0, ![]⟩
abbrev S4x8448x8x128 : Shape := ⟨4, ![4, 8448, 8, 128]⟩
abbrev S4x8x128x8448 : Shape := ⟨4, ![4, 8, 128, 8448]⟩
abbrev S4x1024x8448 : Shape := ⟨3, ![4, 1024, 8448]⟩
abbrev S4x2048x8448 : Shape := ⟨3, ![4, 2048, 8448]⟩
abbrev S4x8448x2x128 : Shape := ⟨4, ![4, 8448, 2, 128]⟩
abbrev S4x33x256x2x128 : Shape := ⟨5, ![4, 33, 256, 2, 128]⟩
abbrev S4x33x2x256x128 : Shape := ⟨5, ![4, 33, 2, 256, 128]⟩
abbrev S4x33x256x8x128 : Shape := ⟨5, ![4, 33, 256, 8, 128]⟩
abbrev S4x33x8x256x128 : Shape := ⟨5, ![4, 33, 8, 256, 128]⟩
abbrev S4x33x10x256x128 : Shape := ⟨5, ![4, 33, 10, 256, 128]⟩
abbrev S4x33x256x128 : Shape := ⟨4, ![4, 33, 256, 128]⟩
abbrev S4x33x128x256 : Shape := ⟨4, ![4, 33, 128, 256]⟩
abbrev S4x33x256x512 : Shape := ⟨4, ![4, 33, 256, 512]⟩
abbrev S4x33x512x256 : Shape := ⟨4, ![4, 33, 512, 256]⟩
abbrev S4x33x640x256 : Shape := ⟨4, ![4, 33, 640, 256]⟩
abbrev S4x8448x1024 : Shape := ⟨3, ![4, 8448, 1024]⟩
abbrev S1x2048x256 : Shape := ⟨3, ![1, 2048, 256]⟩
abbrev S1x33x10x256x128 : Shape := ⟨5, ![1, 33, 10, 256, 128]⟩
abbrev S1x33x640x256 : Shape := ⟨4, ![1, 33, 640, 256]⟩
abbrev S1x256x1024 : Shape := ⟨3, ![1, 256, 1024]⟩
abbrev S16x256x256 : Shape := ⟨3, ![16, 256, 256]⟩
abbrev S16x1x256 : Shape := ⟨3, ![16, 1, 256]⟩
abbrev S16x80x256 : Shape := ⟨3, ![16, 80, 256]⟩
abbrev S1x1x1x256x128 : Shape := ⟨5, ![1, 1, 1, 256, 128]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S1x1x64x256 : Shape := ⟨4, ![1, 1, 64, 256]⟩
abbrev S64x256 : Shape := ⟨2, ![64, 256]⟩
abbrev S16x256 : Shape := ⟨2, ![16, 256]⟩
abbrev S80x256 : Shape := ⟨2, ![80, 256]⟩
abbrev S1x80x256 : Shape := ⟨3, ![1, 80, 256]⟩
abbrev S1x64x256 : Shape := ⟨3, ![1, 64, 256]⟩
abbrev S1024x256 : Shape := ⟨2, ![1024, 256]⟩
abbrev S256x1024 : Shape := ⟨2, ![256, 1024]⟩

abbrev nBuf : Space → Nat
  | .hbm => 54
  | .vmem => 12
  | .smem => 0
  | _ => 0

abbrev bufTy : (tb : Table) → Fin (tcTables nBuf tb) → BufTy
  | .hbm, ⟨0, _⟩ => ⟨S4x8448x2x4x64, .f32⟩
  | .hbm, ⟨1, _⟩ => ⟨S4x8448x8x1x96, .f32⟩
  | .hbm, ⟨2, _⟩ => ⟨S4x8448x2x64, .f32⟩
  | .hbm, ⟨3, _⟩ => ⟨S4x8448x8x96, .f32⟩
  | .hbm, ⟨4, _⟩ => ⟨S4x8448x2x64, .f32⟩
  | .hbm, ⟨5, _⟩ => ⟨S4x8448x8x64, .f32⟩
  | .hbm, ⟨6, _⟩ => ⟨S4x8448x8x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8448x8x64, .f32⟩
  | .hbm, ⟨12, _⟩ => ⟨S4x8448x8x64, .f32⟩
  | .hbm, ⟨13, _⟩ => ⟨S4x8448x8x64, .bf16⟩
  | .hbm, ⟨14, _⟩ => ⟨S_, .i32⟩
  | .hbm, ⟨15, _⟩ => ⟨S_, .bf16⟩
  | .hbm, ⟨16, _⟩ => ⟨S4x8448x8x128, .bf16⟩
  | .hbm, ⟨17, _⟩ => ⟨S4x8x128x8448, .bf16⟩
  | .hbm, ⟨18, _⟩ => ⟨S4x1024x8448, .bf16⟩
  | .hbm, ⟨19, _⟩ => ⟨S4x8448x8x96, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8448x8x96, .f32⟩
  | .hbm, ⟨25, _⟩ => ⟨S4x8448x8x96, .f32⟩
  | .hbm, ⟨26, _⟩ => ⟨S4x8448x8x96, .bf16⟩
  | .hbm, ⟨27, _⟩ => ⟨S_, .i32⟩
  | .hbm, ⟨28, _⟩ => ⟨S_, .bf16⟩
  | .hbm, ⟨29, _⟩ => ⟨S4x8448x8x128, .bf16⟩
  | .hbm, ⟨30, _⟩ => ⟨S4x8x128x8448, .bf16⟩
  | .hbm, ⟨31, _⟩ => ⟨S4x1024x8448, .bf16⟩
  | .hbm, ⟨32, _⟩ => ⟨S4x2048x8448, .bf16⟩
  | .hbm, ⟨33, _⟩ => ⟨S4x8448x2x64, .bf16⟩
  | .hbm, ⟨34, _⟩ => ⟨S_, .i32⟩
  | .hbm, ⟨35, _⟩ => ⟨S_, .bf16⟩
  | .hbm, ⟨36, _⟩ => ⟨S4x8448x2x128, .bf16⟩
  | .hbm, ⟨37, _⟩ => ⟨S4x33x256x2x128, .bf16⟩
  | .hbm, ⟨38, _⟩ => ⟨S4x33x2x256x128, .bf16⟩
  | .hbm, ⟨39, _⟩ => ⟨S4x8448x8x96, .bf16⟩
  | .hbm, ⟨40, _⟩ => ⟨S_, .i32⟩
  | .hbm, ⟨41, _⟩ => ⟨S_, .bf16⟩
  | .hbm, ⟨42, _⟩ => ⟨S4x8448x8x128, .bf16⟩
  | .hbm, ⟨43, _⟩ => ⟨S4x33x256x8x128, .bf16⟩
  | .hbm, ⟨44, _⟩ => ⟨S4x33x8x256x128, .bf16⟩
  | .hbm, ⟨45, _⟩ => ⟨S4x33x10x256x128, .bf16⟩
  | .hbm, ⟨46, _⟩ => ⟨S4x8448x2x64, .bf16⟩
  | .hbm, ⟨47, _⟩ => ⟨S4x33x256x128, .bf16⟩
  | .hbm, ⟨48, _⟩ => ⟨S4x33x128x256, .bf16⟩
  | .hbm, ⟨49, _⟩ => ⟨S4x8448x8x64, .bf16⟩
  | .hbm, ⟨50, _⟩ => ⟨S4x33x256x512, .bf16⟩
  | .hbm, ⟨51, _⟩ => ⟨S4x33x512x256, .bf16⟩
  | .hbm, ⟨52, _⟩ => ⟨S4x33x640x256, .bf16⟩
  | .hbm, ⟨53, _⟩ => ⟨S4x8448x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x33x10x256x128, .bf16⟩
  | .local _ .vmem, ⟨3, _⟩ => ⟨S1x33x640x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S16x256x256, .f32⟩
  | .local _ .vmem, ⟨7, _⟩ => ⟨S16x256x256, .f32⟩
  | .local _ .vmem, ⟨8, _⟩ => ⟨S16x1x256, .f32⟩
  | .local _ .vmem, ⟨9, _⟩ => ⟨S16x1x256, .f32⟩
  | .local _ .vmem, ⟨10, _⟩ => ⟨S16x1x256, .f32⟩
  | .local _ .vmem, ⟨11, _⟩ => ⟨S16x80x256, .f32⟩
  | _, _ => ⟨S4x8448x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 33], ![false, false]⟩

def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .slt v0 c256_i32_0
  let v_true : BitVec 1 := 1#1
  let v4 : BitVec 1 := Scalar.xori v1 v_true
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_234 : BitVec 32 := 0#32
  let c4_i32 : BitVec 32 := 4#32
  let v223 : BitVec 32 := Scalar.addi c0_i32_234 c4_i32
  let c1_i32 : BitVec 32 := 1#32
  ⟨c0_i32_234, v223, c1_i32⟩
def k0_off1 (k0_t1 : Fin k0_t1_loop.trips) (c0_i32_713 : BitVec 32) : Fin 5 → Nat :=
  let c0_715 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v793 : Index := Scalar.indexCast v792
  let c0_716 : Index := 0#32
  let c0_717 : Index := 0#32
  let c0_718 : Index := 0#32
  ![0, v793.toNat, 0, 0, 0]
def k0_off2 (k0_t1 : Fin k0_t1_loop.trips) (c0_i32_713 : BitVec 32) : Fin 4 → Nat :=
  let c0_742 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v823 : Index := Scalar.indexCast v791
  let c0_743 : Index := 0#32
  let c0_744 : Index := 0#32
  ![0, v823.toNat, 0, 0]
def k0_off3 (k0_t1 : Fin k0_t1_loop.trips) (c0_i32_713 : BitVec 32) : Fin 5 → Nat :=
  let c0_867 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v969 : Index := Scalar.indexCast v792
  let c1_868 : Index := 1#32
  let c0_869 : Index := 0#32
  let c0_870 : Index := 0#32
  ![0, v969.toNat, 1, 0, 0]
def k0_off4 (k0_t1 : Fin k0_t1_loop.trips) (c0_i32_713 : BitVec 32) : Fin 4 → Nat :=
  let c0_894 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v999 : Index := Scalar.indexCast v791
  let c64_895 : Index := 64#32
  let c0_896 : Index := 0#32
  ![0, v999.toNat, 64, 0]
def k0_off5 (k0_t1 : Fin k0_t1_loop.trips) (c0_i32_713 : BitVec 32) : Fin 5 → Nat :=
  let c0_1019 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1145 : Index := Scalar.indexCast v792
  let c2_1020 : Index := 2#32
  let c0_1021 : Index := 0#32
  let c0_1022 : Index := 0#32
  ![0, v1145.toNat, 2, 0, 0]
def k0_off6 (k0_t1 : Fin k0_t1_loop.trips) (c0_i32_713 : BitVec 32) : Fin 4 → Nat :=
  let c0_1046 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1175 : Index := Scalar.indexCast v791
  let c128_1047 : Index := 128#32
  let c0_1048 : Index := 0#32
  ![0, v1175.toNat, 128, 0]
def k0_off7 (k0_t1 : Fin k0_t1_loop.trips) (c0_i32_713 : BitVec 32) : Fin 5 → Nat :=
  let c0_1057 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1189 : Index := Scalar.indexCast v792
  let c3_1058 : Index := 3#32
  let c0_1059 : Index := 0#32
  let c0_1060 : Index := 0#32
  ![0, v1189.toNat, 3, 0, 0]
def k0_off8 (k0_t1 : Fin k0_t1_loop.trips) (c0_i32_713 : BitVec 32) : Fin 4 → Nat :=
  let c0_1084 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1219 : Index := Scalar.indexCast v791
  let c192_1085 : Index := 192#32
  let c0_1086 : Index := 0#32
  ![0, v1219.toNat, 192, 0]
def k0_off9 (k0_t1 : Fin k0_t1_loop.trips) (c0_i32_713 : BitVec 32) : Fin 5 → Nat :=
  let c0_1095 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1233 : Index := Scalar.indexCast v792
  let c4_1096 : Index := 4#32
  let c0_1097 : Index := 0#32
  let c0_1098 : Index := 0#32
  ![0, v1233.toNat, 4, 0, 0]
def k0_off10 (k0_t1 : Fin k0_t1_loop.trips) (c0_i32_713 : BitVec 32) : Fin 4 → Nat :=
  let c0_1122 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1263 : Index := Scalar.indexCast v791
  let c256_1123 : Index := 256#32
  let c0_1124 : Index := 0#32
  ![0, v1263.toNat, 256, 0]
def k0_off11 (k0_t1 : Fin k0_t1_loop.trips) (c0_i32_713 : BitVec 32) : Fin 5 → Nat :=
  let c0_1133 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1277 : Index := Scalar.indexCast v792
  let c5_1134 : Index := 5#32
  let c0_1135 : Index := 0#32
  let c0_1136 : Index := 0#32
  ![0, v1277.toNat, 5, 0, 0]
def k0_off12 (k0_t1 : Fin k0_t1_loop.trips) (c0_i32_713 : BitVec 32) : Fin 4 → Nat :=
  let c0_1160 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1307 : Index := Scalar.indexCast v791
  let c320_1161 : Index := 320#32
  let c0_1162 : Index := 0#32
  ![0, v1307.toNat, 320, 0]
def k0_off13 (k0_t1 : Fin k0_t1_loop.trips) (c0_i32_713 : BitVec 32) : Fin 5 → Nat :=
  let c0_1171 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1321 : Index := Scalar.indexCast v792
  let c6_1172 : Index := 6#32
  let c0_1173 : Index := 0#32
  let c0_1174 : Index := 0#32
  ![0, v1321.toNat, 6, 0, 0]
def k0_off14 (k0_t1 : Fin k0_t1_loop.trips) (c0_i32_713 : BitVec 32) : Fin 4 → Nat :=
  let c0_1198 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1351 : Index := Scalar.indexCast v791
  let c384_1199 : Index := 384#32
  let c0_1200 : Index := 0#32
  ![0, v1351.toNat, 384, 0]
def k0_off15 (k0_t1 : Fin k0_t1_loop.trips) (c0_i32_713 : BitVec 32) : Fin 5 → Nat :=
  let c0_1209 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1365 : Index := Scalar.indexCast v792
  let c7_1210 : Index := 7#32
  let c0_1211 : Index := 0#32
  let c0_1212 : Index := 0#32
  ![0, v1365.toNat, 7, 0, 0]
def k0_off16 (k0_t1 : Fin k0_t1_loop.trips) (c0_i32_713 : BitVec 32) : Fin 4 → Nat :=
  let c0_1236 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1395 : Index := Scalar.indexCast v791
  let c448_1237 : Index := 448#32
  let c0_1238 : Index := 0#32
  ![0, v1395.toNat, 448, 0]
def k0_off17 (k0_t1 : Fin k0_t1_loop.trips) (c0_i32_713 : BitVec 32) : Fin 5 → Nat :=
  let c0_1247 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1409 : Index := Scalar.indexCast v792
  let c8_1248 : Index := 8#32
  let c0_1249 : Index := 0#32
  let c0_1250 : Index := 0#32
  ![0, v1409.toNat, 8, 0, 0]
def k0_off18 (k0_t1 : Fin k0_t1_loop.trips) (c0_i32_713 : BitVec 32) : Fin 4 → Nat :=
  let c0_1274 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1439 : Index := Scalar.indexCast v791
  let c512_1275 : Index := 512#32
  let c0_1276 : Index := 0#32
  ![0, v1439.toNat, 512, 0]
def k0_off19 (k0_t1 : Fin k0_t1_loop.trips) (c0_i32_713 : BitVec 32) : Fin 5 → Nat :=
  let c0_1285 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let c1_i32_714 : BitVec 32 := 1#32
  let v792 : BitVec 32 := Scalar.addi v791 c1_i32_714
  let v1453 : Index := Scalar.indexCast v792
  let c9_1286 : Index := 9#32
  let c0_1287 : Index := 0#32
  let c0_1288 : Index := 0#32
  ![0, v1453.toNat, 9, 0, 0]
def k0_off20 (k0_t1 : Fin k0_t1_loop.trips) (c0_i32_713 : BitVec 32) : Fin 4 → Nat :=
  let c0_1312 : Index := 0#32
  let c8_i32 : BitVec 32 := 8#32
  let c0_i32_234 : BitVec 32 := 0#32
  let c1_i32 : BitVec 32 := 1#32
  let arg12 : BitVec 32 := Scf.iv c0_i32_234 c1_i32 k0_t1
  let v790 : BitVec 32 := Scalar.muli c8_i32 arg12
  let v791 : BitVec 32 := Scalar.addi v790 c0_i32_713
  let v1483 : Index := Scalar.indexCast v791
  let c576_1313 : Index := 576#32
  let c0_1314 : Index := 0#32
  ![0, v1483.toNat, 576, 0]
def k0_cond1 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 1 := Scalar.cmpi .slt v0 c256_i32_0
  let v2 : BitVec 32 := Scalar.extui v1
  let c0_i32 : BitVec 32 := 0#32
  let v3 : BitVec 1 := Scalar.cmpi .ne v2 c0_i32
  v3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x33x10x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x33x640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8448x2x4x64 : Shape := ⟨5, ![4, 8448, 2, 4, 64]⟩
abbrev S4x8448x8x1x96 : Shape := ⟨5, ![4, 8448, 8, 1, 96]⟩
abbrev S4x8448x2x64 : Shape := ⟨4, ![4, 8448, 2, 64]⟩
abbrev S4x8448x8x96 : Shape := ⟨4, ![4, 8448, 8, 96]⟩
abbrev S4x8448x8x64 : Shape := ⟨4, ![4, 8448, 8, 64]⟩
abbrev S4x256x2x4x64 : Shape := ⟨5, ![4, 256, 2, 4, 64]⟩
abbrev S4x256x8x1x96 : Shape := ⟨5, ![4, 256, 8, 1, 96]⟩
abbrev S4x256x2x64 : Shape := ⟨4, ![4, 256, 2, 64]⟩
abbrev S4x256x8x96 : Shape := ⟨4, ![4, 256, 8, 96]⟩
abbrev S4x256x8x64 : Shape := ⟨4, ![4, 256, 8, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x256x512 : Shape := ⟨3, ![4, 256, 512]⟩
abbrev S4x8x256x256x1 : Shape := ⟨5, ![4, 8, 256, 256, 1]⟩
abbrev S4x8x1x256x256 : Shape := ⟨5, ![4, 8, 1, 256, 256]⟩
abbrev S4x8x1x256 : Shape := ⟨4, ![4, 8, 1, 256]⟩
abbrev S4x8x1x256x1 : Shape := ⟨5, ![4, 8, 1, 256, 1]⟩
abbrev S4x8x64x1x256 : Shape := ⟨5, ![4, 8, 64, 1, 256]⟩
abbrev S4x256x8x1x64 : Shape := ⟨5, ![4, 256, 8, 1, 64]⟩
abbrev S4x256x1024 : Shape := ⟨3, ![4, 256, 1024]⟩
abbrev S4x8192x2x4x64 : Shape := ⟨5, ![4, 8192, 2, 4, 64]⟩
abbrev S4x8192x8x1x96 : Shape := ⟨5, ![4, 8192, 8, 1, 96]⟩
abbrev S4x2x8448x8192x4 : Shape := ⟨5, ![4, 2, 8448, 8192, 4]⟩
abbrev S4x2x4x8192x8448 : Shape := ⟨5, ![4, 2, 4, 8192, 8448]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x8192x512 : Shape := ⟨3, ![4, 8192, 512]⟩
abbrev S4x8x8448x8192x1 : Shape := ⟨5, ![4, 8, 8448, 8192, 1]⟩
abbrev S4x8x1x8192x8448 : Shape := ⟨5, ![4, 8, 1, 8192, 8448]⟩
abbrev S4x8x1x8192 : Shape := ⟨4, ![4, 8, 1, 8192]⟩
abbrev S4x8x1x8192x1 : Shape := ⟨5, ![4, 8, 1, 8192, 1]⟩
abbrev S4x8x64x1x8192 : Shape := ⟨5, ![4, 8, 64, 1, 8192]⟩
abbrev S4x8192x8x1x64 : Shape := ⟨5, ![4, 8192, 8, 1, 64]⟩
abbrev S4x8192x1024 : Shape := ⟨3, ![4, 8192, 1024]⟩
abbrev S4x8448x1024 : Shape := ⟨3, ![4, 8448, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4x8448x2x4x64, .f32⟩
  | .hbm, ⟨1, _⟩ => ⟨S4x8448x8x1x96, .f32⟩
  | .hbm, ⟨2, _⟩ => ⟨S4x8448x2x64, .f32⟩
  | .hbm, ⟨3, _⟩ => ⟨S4x8448x8x96, .f32⟩
  | .hbm, ⟨4, _⟩ => ⟨S4x8448x2x64, .f32⟩
  | .hbm, ⟨5, _⟩ => ⟨S4x8448x8x64, .f32⟩
  | .hbm, ⟨6, _⟩ => ⟨S4x256x2x4x64, .f32⟩
  | .hbm, ⟨7, _⟩ => ⟨S4x256x8x1x96, .f32⟩
  | .hbm, ⟨8, _⟩ => ⟨S4x256x2x64, .f32⟩
  | .hbm, ⟨9, _⟩ => ⟨S4x256x8x96, .f32⟩
  | .hbm, ⟨10, _⟩ => ⟨S4x256x2x64, .f32⟩
  | .hbm, ⟨11, _⟩ => ⟨S4x256x8x64, .f32⟩
  | .hbm, ⟨12, _⟩ => ⟨S4x2x256x256x4, .f32⟩
  | .hbm, ⟨13, _⟩ => ⟨S4x2x4x256x256, .f32⟩
  | .hbm, ⟨14, _⟩ => ⟨S_, .f32⟩
  | .hbm, ⟨15, _⟩ => ⟨S4x2x4x256x256, .f32⟩
  | .hbm, ⟨16, _⟩ => ⟨S4x2x4x256x256, .f32⟩
  | .hbm, ⟨17, _⟩ => ⟨S_, .f32⟩
  | .hbm, ⟨18, _⟩ => ⟨S4x2x4x256, .f32⟩
  | .hbm, ⟨19, _⟩ => ⟨S_, .f32⟩
  | .hbm, ⟨20, _⟩ => ⟨S4x2x4x256, .f32⟩
  | .hbm, ⟨21, _⟩ => ⟨S4x2x4x256, .f32⟩
  | .hbm, ⟨22, _⟩ => ⟨S4x2x4x256x1, .f32⟩
  | .hbm, ⟨23, _⟩ => ⟨S4x2x4x256x256, .f32⟩
  | .hbm, ⟨24, _⟩ => ⟨S4x2x4x256x256, .f32⟩
  | .hbm, ⟨25, _⟩ => ⟨S4x2x4x256x256, .f32⟩
  | .hbm, ⟨26, _⟩ => ⟨S_, .f32⟩
  | .hbm, ⟨27, _⟩ => ⟨S4x2x4x256, .f32⟩
  | .hbm, ⟨28, _⟩ => ⟨S4x2x4x256x1, .f32⟩
  | .hbm, ⟨29, _⟩ => ⟨S4x2x4x256x256, .f32⟩
  | .hbm, ⟨30, _⟩ => ⟨S4x2x4x256x256, .f32⟩
  | .hbm, ⟨31, _⟩ => ⟨S4x2x64x4x256, .f32⟩
  | .hbm, ⟨32, _⟩ => ⟨S4x256x2x4x64, .f32⟩
  | .hbm, ⟨33, _⟩ => ⟨S4x256x512, .f32⟩
  | .hbm, ⟨34, _⟩ => ⟨S4x8x256x256x1, .f32⟩
  | .hbm, ⟨35, _⟩ => ⟨S4x8x1x256x256, .f32⟩
  | .hbm, ⟨36, _⟩ => ⟨S_, .f32⟩
  | .hbm, ⟨37, _⟩ => ⟨S4x8x1x256x256, .f32⟩
  | .hbm, ⟨38, _⟩ => ⟨S4x8x1x256x256, .f32⟩
  | .hbm, ⟨39, _⟩ => ⟨S_, .f32⟩
  | .hbm, ⟨40, _⟩ => ⟨S4x8x1x256, .f32⟩
  | .hbm, ⟨41, _⟩ => ⟨S_, .f32⟩
  | .hbm, ⟨42, _⟩ => ⟨S4x8x1x256, .f32⟩
  | .hbm, ⟨43, _⟩ => ⟨S4x8x1x256, .f32⟩
  | .hbm, ⟨44, _⟩ => ⟨S4x8x1x256x1, .f32⟩
  | .hbm, ⟨45, _⟩ => ⟨S4x8x1x256x256, .f32⟩
  | .hbm, ⟨46, _⟩ => ⟨S4x8x1x256x256, .f32⟩
  | .hbm, ⟨47, _⟩ => ⟨S4x8x1x256x256, .f32⟩
  | .hbm, ⟨48, _⟩ => ⟨S_, .f32⟩
  | .hbm, ⟨49, _⟩ => ⟨S4x8x1x256, .f32⟩
  | .hbm, ⟨50, _⟩ => ⟨S4x8x1x256x1, .f32⟩
  | .hbm, ⟨51, _⟩ => ⟨S4x8x1x256x256, .f32⟩
  | .hbm, ⟨52, _⟩ => ⟨S4x8x1x256x256, .f32⟩
  | .hbm, ⟨53, _⟩ => ⟨S4x8x64x1x256, .f32⟩
  | .hbm, ⟨54, _⟩ => ⟨S4x256x8x1x64, .f32⟩
  | .hbm, ⟨55, _⟩ => ⟨S4x256x512, .f32⟩
  | .hbm, ⟨56, _⟩ => ⟨S4x256x1024, .f32⟩
  | .hbm, ⟨57, _⟩ => ⟨S4x8192x2x4x64, .f32⟩
  | .hbm, ⟨58, _⟩ => ⟨S4x8192x8x1x96, .f32⟩
  | .hbm, ⟨59, _⟩ => ⟨S4x2x8448x8192x4, .f32⟩
  | .hbm, ⟨60, _⟩ => ⟨S4x2x4x8192x8448, .f32⟩
  | .hbm, ⟨61, _⟩ => ⟨S_, .f32⟩
  | .hbm, ⟨62, _⟩ => ⟨S4x2x4x8192x8448, .f32⟩
  | .hbm, ⟨63, _⟩ => ⟨S4x2x4x8192x8448, .f32⟩
  | .hbm, ⟨64, _⟩ => ⟨S_, .f32⟩
  | .hbm, ⟨65, _⟩ => ⟨S4x2x4x8192, .f32⟩
  | .hbm, ⟨66, _⟩ => ⟨S_, .f32⟩
  | .hbm, ⟨67, _⟩ => ⟨S4x2x4x8192, .f32⟩
  | .hbm, ⟨68, _⟩ => ⟨S4x2x4x8192, .f32⟩
  | .hbm, ⟨69, _⟩ => ⟨S4x2x4x8192x1, .f32⟩
  | .hbm, ⟨70, _⟩ => ⟨S4x2x4x8192x8448, .f32⟩
  | .hbm, ⟨71, _⟩ => ⟨S4x2x4x8192x8448, .f32⟩
  | .hbm, ⟨72, _⟩ => ⟨S4x2x4x8192x8448, .f32⟩
  | .hbm, ⟨73, _⟩ => ⟨S_, .f32⟩
  | .hbm, ⟨74, _⟩ => ⟨S4x2x4x8192, .f32⟩
  | .hbm, ⟨75, _⟩ => ⟨S4x2x4x8192x1, .f32⟩
  | .hbm, ⟨76, _⟩ => ⟨S4x2x4x8192x8448, .f32⟩
  | .hbm, ⟨77, _⟩ => ⟨S4x2x4x8192x8448, .f32⟩
  | .hbm, ⟨78, _⟩ => ⟨S4x2x64x4x8192, .f32⟩
  | .hbm, ⟨79, _⟩ => ⟨S4x8192x2x4x64, .f32⟩
  | .hbm, ⟨80, _⟩ => ⟨S4x8192x512, .f32⟩
  | .hbm, ⟨81, _⟩ => ⟨S4x8x8448x8192x1, .f32⟩
  | .hbm, ⟨82, _⟩ => ⟨S4x8x1x8192x8448, .f32⟩
  | .hbm, ⟨83, _⟩ => ⟨S_, .f32⟩
  | .hbm, ⟨84, _⟩ => ⟨S4x8x1x8192x8448, .f32⟩
  | .hbm, ⟨85, _⟩ => ⟨S4x8x1x8192x8448, .f32⟩
  | .hbm, ⟨86, _⟩ => ⟨S_, .f32⟩
  | .hbm, ⟨87, _⟩ => ⟨S4x8x1x8192, .f32⟩
  | .hbm, ⟨88, _⟩ => ⟨S_, .f32⟩
  | .hbm, ⟨89, _⟩ => ⟨S4x8x1x8192, .f32⟩
  | .hbm, ⟨90, _⟩ => ⟨S4x8x1x8192, .f32⟩
  | .hbm, ⟨91, _⟩ => ⟨S4x8x1x8192x1, .f32⟩
  | .hbm, ⟨92, _⟩ => ⟨S4x8x1x8192x8448, .f32⟩
  | .hbm, ⟨93, _⟩ => ⟨S4x8x1x8192x8448, .f32⟩
  | .hbm, ⟨94, _⟩ => ⟨S4x8x1x8192x8448, .f32⟩
  | .hbm, ⟨95, _⟩ => ⟨S_, .f32⟩
  | .hbm, ⟨96, _⟩ => ⟨S4x8x1x8192, .f32⟩
  | .hbm, ⟨97, _⟩ => ⟨S4x8x1x8192x1, .f32⟩
  | .hbm, ⟨98, _⟩ => ⟨S4x8x1x8192x8448, .f32⟩
  | .hbm, ⟨99, _⟩ => ⟨S4x8x1x8192x8448, .f32⟩
  | .hbm, ⟨100, _⟩ => ⟨S4x8x64x1x8192, .f32⟩
  | .hbm, ⟨101, _⟩ => ⟨S4x8192x8x1x64, .f32⟩
  | .hbm, ⟨102, _⟩ => ⟨S4x8192x512, .f32⟩
  | .hbm, ⟨103, _⟩ => ⟨S4x8192x1024, .f32⟩
  | .hbm, ⟨104, _⟩ => ⟨S4x8448x1024, .f32⟩
  | .hbm, ⟨105, _⟩ => ⟨S4x8448x1024, .bf16⟩
  | _, _ => ⟨S4x8448x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x256x1024 : Shape := ⟨3, ![4, 256, 1024]⟩
abbrev S4x8192x1024 : Shape := ⟨3, ![4, 8192, 1024]⟩
abbrev S4x6144 : Shape := ⟨2, ![4, 6144]⟩
abbrev S1x6144 : Shape := ⟨2, ![1, 6144]⟩
abbrev S1024x2816 : Shape := ⟨2, ![1024, 2816]⟩
abbrev S2816x1024 : Shape := ⟨2, ![2816, 1024]⟩
abbrev S_ : Shape := ⟨0, ![]⟩
abbrev S3x6144 : Shape := ⟨2, ![3, 6144]⟩
abbrev S8x6144 : Shape := ⟨2, ![8, 6144]⟩
abbrev S8x6x1024 : Shape := ⟨3, ![8, 6, 1024]⟩
abbrev S1x1024x2816 : Shape := ⟨3, ![1, 1024, 2816]⟩
abbrev S1x2816x1024 : Shape := ⟨3, ![1, 2816, 1024]⟩
abbrev S1x768x1024 : Shape := ⟨3, ![1, 768, 1024]⟩
abbrev S1x6x1024 : Shape := ⟨3, ![1, 6, 1024]⟩
abbrev S768x1 : Shape := ⟨2, ![768, 1]⟩
abbrev S768x1024 : Shape := ⟨2, ![768, 1024]⟩
abbrev S1x1024x256 : Shape := ⟨3, ![1, 1024, 256]⟩
abbrev S1024x256 : Shape := ⟨2, ![1024, 256]⟩
abbrev S768x256 : Shape := ⟨2, ![768, 256]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 21
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S4x256x1024, .f32⟩
  | .hbm, ⟨2, _⟩ => ⟨S4x8192x1024, .f32⟩
  | .hbm, ⟨3, _⟩ => ⟨S4x6144, .f32⟩
  | .hbm, ⟨4, _⟩ => ⟨S1x6144, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x8448x1024, .f32⟩
  | .hbm, ⟨9, _⟩ => ⟨S_, .f32⟩
  | .hbm, ⟨10, _⟩ => ⟨S3x6144, .f32⟩
  | .hbm, ⟨11, _⟩ => ⟨S8x6144, .f32⟩
  | .hbm, ⟨12, _⟩ => ⟨S8x6x1024, .f32⟩
  | .hbm, ⟨13, _⟩ => ⟨S4x8448x1024, .bf16⟩
  | .hbm, ⟨14, _⟩ => ⟨S1x1024x2816, .f32⟩
  | .hbm, ⟨15, _⟩ => ⟨S1x1024x2816, .bf16⟩
  | .hbm, ⟨16, _⟩ => ⟨S1x1024x2816, .f32⟩
  | .hbm, ⟨17, _⟩ => ⟨S1x1024x2816, .bf16⟩
  | .hbm, ⟨18, _⟩ => ⟨S1x2816x1024, .f32⟩
  | .hbm, ⟨19, _⟩ => ⟨S1x2816x1024, .bf16⟩
  | .hbm, ⟨20, _⟩ => ⟨S4x8448x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x768x1024, .f32⟩
  | .local _ .vmem, ⟨3, _⟩ => ⟨S1x768x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024x2816, .bf16⟩
  | .local _ .vmem, ⟨8, _⟩ => ⟨S1x1024x2816, .bf16⟩
  | .local _ .vmem, ⟨9, _⟩ => ⟨S1x2816x1024, .bf16⟩
  | .local _ .vmem, ⟨10, _⟩ => ⟨S1x768x1024, .f32⟩
  | .local _ .vmem, ⟨11, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8448x1024 : Shape := ⟨3, ![4, 8448, 1024]⟩
abbrev S4x256x1024 : Shape := ⟨3, ![4, 256, 1024]⟩
abbrev S4x8192x1024 : Shape := ⟨3, ![4, 8192, 1024]⟩
abbrev S4x6144 : Shape := ⟨2, ![4, 6144]⟩
abbrev S1x6144 : Shape := ⟨2, ![1, 6144]⟩
abbrev S1024x2816 : Shape := ⟨2, ![1024, 2816]⟩
abbrev S2816x1024 : Shape := ⟨2, ![2816, 1024]⟩
abbrev S4x1x6144 : Shape := ⟨3, ![4, 1, 6144]⟩
abbrev S4x1x1024 : Shape := ⟨3, ![4, 1, 1024]⟩
abbrev S1x1x6144 : Shape := ⟨3, ![1, 1, 6144]⟩
abbrev S1x1x1024 : Shape := ⟨3, ![1, 1, 1024]⟩
abbrev S4x8448x2816 : Shape := ⟨3, ![4, 8448, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x256x1024, .f32⟩
  | .hbm, ⟨2, _⟩ => ⟨S4x8192x1024, .f32⟩
  | .hbm, ⟨3, _⟩ => ⟨S4x6144, .f32⟩
  | .hbm, ⟨4, _⟩ => ⟨S1x6144, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S4x8448x2816, .f32⟩
  | .hbm, ⟨23, _⟩ => ⟨S4x8448x2816, .f32⟩
  | .hbm, ⟨24, _⟩ => ⟨S4x8448x2816, .f32⟩
  | .hbm, ⟨25, _⟩ => ⟨S_, .f32⟩
  | .hbm, ⟨26, _⟩ => ⟨S4x8448x2816, .f32⟩
  | .hbm, ⟨27, _⟩ => ⟨S4x8448x2816, .f32⟩
  | .hbm, ⟨28, _⟩ => ⟨S_, .f32⟩
  | .hbm, ⟨29, _⟩ => ⟨S4x8448x2816, .f32⟩
  | .hbm, ⟨30, _⟩ => ⟨S4x8448x2816, .f32⟩
  | .hbm, ⟨31, _⟩ => ⟨S4x8448x2816, .f32⟩
  | .hbm, ⟨32, _⟩ => ⟨S4x8448x2816, .f32⟩
  | .hbm, ⟨33, _⟩ => ⟨S4x8448x2816, .f32⟩
  | .hbm, ⟨34, _⟩ => ⟨S4x8448x1024, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S71680x1024 : Shape := ⟨2, ![71680, 1024]⟩
abbrev S140 : Shape := ⟨1, ![140]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1x1024x2816 : Shape := ⟨3, ![1, 1024, 2816]⟩
abbrev S1x1024x256 : Shape := ⟨3, ![1, 1024, 256]⟩
abbrev S1024x256 : Shape := ⟨2, ![1024, 256]⟩
abbrev S512x256 : Shape := ⟨2, ![512, 256]⟩
abbrev S1x2816x1024 : Shape := ⟨3, ![1, 2816, 1024]⟩
abbrev S1x256x1024 : Shape := ⟨3, ![1, 256, 1024]⟩
abbrev S256x1024 : Shape := ⟨2, ![256, 1024]⟩

abbrev nBuf : Space → Nat
  | .hbm => 6
  | .vmem => 7
  | .smem => 2
  | _ => 0

abbrev bufTy : (tb : Table) → Fin (tcTables nBuf tb) → BufTy
  | .hbm, ⟨0, _⟩ => ⟨S71680x1024, .f32⟩
  | .hbm, ⟨1, _⟩ => ⟨S2x8x1024x2816, .f32⟩
  | .hbm, ⟨2, _⟩ => ⟨S2x8x1024x2816, .f32⟩
  | .hbm, ⟨3, _⟩ => ⟨S2x8x2816x1024, .f32⟩
  | .hbm, ⟨4, _⟩ => ⟨S71680x1024, .bf16⟩
  | .hbm, ⟨5, _⟩ => ⟨S71680x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2816, .f32⟩
  | .local _ .vmem, ⟨3, _⟩ => ⟨S1x1x1024x2816, .f32⟩
  | .local _ .vmem, ⟨4, _⟩ => ⟨S1x1x2816x1024, .f32⟩
  | .local _ .vmem, ⟨5, _⟩ => ⟨S512x1024, .bf16⟩
  | .local _ .vmem, ⟨6, _⟩ => ⟨S512x1024, .bf16⟩
  | .local _ .smem, ⟨0, _⟩ => ⟨S140, .i32⟩
  | .local _ .smem, ⟨1, _⟩ => ⟨S1, .i32⟩
  | _, _ => ⟨S71680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![140], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S71680x1024 : Shape := ⟨2, ![71680, 1024]⟩
abbrev S140 : Shape := ⟨1, ![140]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S140x1 : Shape := ⟨2, ![140, 1]⟩
abbrev S140x512 : Shape := ⟨2, ![140, 512]⟩
abbrev S71680x1 : Shape := ⟨2, ![71680, 1]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S71680x2816 : Shape := ⟨2, ![71680, 2816]⟩

abbrev nBuf : Space → Nat
  | .hbm => 247
  | .vmem => 0
  | .smem => 0
  | _ => 0

abbrev hbmTy0_0 (i : Nat) : BufTy := match i % 128 with
  | 0 => ⟨S71680x1024, .f32⟩
  | 1 => ⟨S140, .i32⟩
  | 2 => ⟨S1, .i32⟩
  | 3 => ⟨S2x8x1024x2816, .f32⟩
  | 4 => ⟨S2x8x1024x2816, .f32⟩
  | 5 => ⟨S2x8x2816x1024, .f32⟩
  | 6 => ⟨S140, .i32⟩
  | 7 => ⟨S140, .i32⟩
  | 8 => ⟨S140, .i1⟩
  | 9 => ⟨S140x1, .i1⟩
  | 10 => ⟨S140x512, .i1⟩
  | 11 => ⟨S71680x1, .i1⟩
  | 12 => ⟨S140x1, .i32⟩
  | 13 => ⟨S140x512, .i32⟩
  | 14 => ⟨S71680x1, .i32⟩
  | 15 => ⟨S_, .f32⟩
  | 16 => ⟨S71680x1024, .f32⟩
  | 17 => ⟨S1x1x1024x2816, .f32⟩
  | 18 => ⟨S1024x2816, .f32⟩
  | 19 => ⟨S1x1x1024x2816, .f32⟩
  | 20 => ⟨S1024x2816, .f32⟩
  | 21 => ⟨S1x1x2816x1024, .f32⟩
  | 22 => ⟨S2816x1024, .f32⟩
  | 23 => ⟨S71680x2816, .f32⟩
  | 24 => ⟨S71680x2816, .f32⟩
  | 25 => ⟨S71680x2816, .f32⟩
  | 26 => ⟨S_, .f32⟩
  | 27 => ⟨S71680x2816, .f32⟩
  | 28 => ⟨S71680x2816, .f32⟩
  | 29 => ⟨S_, .f32⟩
  | 30 => ⟨S71680x2816, .f32⟩
  | 31 => ⟨S71680x2816, .f32⟩
  | 32 => ⟨S71680x2816, .f32⟩
  | 33 => ⟨S71680x2816, .f32⟩
  | 34 => ⟨S71680x2816, .f32⟩
  | 35 => ⟨S71680x1024, .f32⟩
  | 36 => ⟨S_, .i32⟩
  | 37 => ⟨S71680x1, .i32⟩
  | 38 => ⟨S71680x1, .i1⟩
  | 39 => ⟨S_, .f32⟩
  | 40 => ⟨S_, .f32⟩
  | 41 => ⟨S71680x1024, .i1⟩
  | 42 => ⟨S71680x1024, .f32⟩
  | 43 => ⟨S71680x1024, .f32⟩
  | 44 => ⟨S71680x1024, .f32⟩
  | 45 => ⟨S1x1x1024x2816, .f32⟩
  | 46 => ⟨S1024x2816, .f32⟩
  | 47 => ⟨S1x1x1024x2816, .f32⟩
  | 48 => ⟨S1024x2816, .f32⟩
  | 49 => ⟨S1x1x2816x1024, .f32⟩
  | 50 => ⟨S2816x1024, .f32⟩
  | 51 => ⟨S71680x2816, .f32⟩
  | 52 => ⟨S71680x2816, .f32⟩
  | 53 => ⟨S71680x2816, .f32⟩
  | 54 => ⟨S_, .f32⟩
  | 55 => ⟨S71680x2816, .f32⟩
  | 56 => ⟨S71680x2816, .f32⟩
  | 57 => ⟨S_, .f32⟩
  | 58 => ⟨S71680x2816, .f32⟩
  | 59 => ⟨S71680x2816, .f32⟩
  | 60 => ⟨S71680x2816, .f32⟩
  | 61 => ⟨S71680x2816, .f32⟩
  | 62 => ⟨S71680x2816, .f32⟩
  | 63 => ⟨S71680x1024, .f32⟩
  | 64 => ⟨S_, .i32⟩
  | 65 => ⟨S71680x1, .i32⟩
  | 66 => ⟨S71680x1, .i1⟩
  | 67 => ⟨S_, .f32⟩
  | 68 => ⟨S_, .f32⟩
  | 69 => ⟨S71680x1024, .i1⟩
  | 70 => ⟨S71680x1024, .f32⟩
  | 71 => ⟨S71680x1024, .f32⟩
  | 72 => ⟨S71680x1024, .f32⟩
  | 73 => ⟨S1x1x1024x2816, .f32⟩
  | 74 => ⟨S1024x2816, .f32⟩
  | 75 => ⟨S1x1x1024x2816, .f32⟩
  | 76 => ⟨S1024x2816, .f32⟩
  | 77 => ⟨S1x1x2816x1024, .f32⟩
  | 78 => ⟨S2816x1024, .f32⟩
  | 79 => ⟨S71680x2816, .f32⟩
  | 80 => ⟨S71680x2816, .f32⟩
  | 81 => ⟨S71680x2816, .f32⟩
  | 82 => ⟨S_, .f32⟩
  | 83 => ⟨S71680x2816, .f32⟩
  | 84 => ⟨S71680x2816, .f32⟩
  | 85 => ⟨S_, .f32⟩
  | 86 => ⟨S71680x2816, .f32⟩
  | 87 => ⟨S71680x2816, .f32⟩
  | 88 => ⟨S71680x2816, .f32⟩
  | 89 => ⟨S71680x2816, .f32⟩
  | 90 => ⟨S71680x2816, .f32⟩
  | 91 => ⟨S71680x1024, .f32⟩
  | 92 => ⟨S_, .i32⟩
  | 93 => ⟨S71680x1, .i32⟩
  | 94 => ⟨S71680x1, .i1⟩
  | 95 => ⟨S_, .f32⟩
  | 96 => ⟨S_, .f32⟩
  | 97 => ⟨S71680x1024, .i1⟩
  | 98 => ⟨S71680x1024, .f32⟩
  | 99 => ⟨S71680x1024, .f32⟩
  | 100 => ⟨S71680x1024, .f32⟩
  | 101 => ⟨S1x1x1024x2816, .f32⟩
  | 102 => ⟨S1024x2816, .f32⟩
  | 103 => ⟨S1x1x1024x2816, .f32⟩
  | 104 => ⟨S1024x2816, .f32⟩
  | 105 => ⟨S1x1x2816x1024, .f32⟩
  | 106 => ⟨S2816x1024, .f32⟩
  | 107 => ⟨S71680x2816, .f32⟩
  | 108 => ⟨S71680x2816, .f32⟩
  | 109 => ⟨S71680x2816, .f32⟩
  | 110 => ⟨S_, .f32⟩
  | 111 => ⟨S71680x2816, .f32⟩
  | 112 => ⟨S71680x2816, .f32⟩
  | 113 => ⟨S_, .f32⟩
  | 114 => ⟨S71680x2816, .f32⟩
  | 115 => ⟨S71680x2816, .f32⟩
  | 116 => ⟨S71680x2816, .f32⟩
  | 117 => ⟨S71680x2816, .f32⟩
  | 118 => ⟨S71680x2816, .f32⟩
  | 119 => ⟨S71680x1024, .f32⟩
  | 120 => ⟨S_, .i32⟩
  | 121 => ⟨S71680x1, .i32⟩
  | 122 => ⟨S71680x1, .i1⟩
  | 123 => ⟨S_, .f32⟩
  | 124 => ⟨S_, .f32⟩
  | 125 => ⟨S71680x1024, .i1⟩
  | 126 => ⟨S71680x1024, .f32⟩
  | 127 => ⟨S71680x1024, .f32⟩
  | _ => ⟨S71680x1024, .f32⟩

abbrev hbmTy0_1 (i : Nat) : BufTy := match i % 128 with
  | 0 => ⟨S71680x1024, .f32⟩
  | 1 => ⟨S1x1x1024x2816, .f32⟩
  | 2 => ⟨S1024x2816, .f32⟩
  | 3 => ⟨S1x1x1024x2816, .f32⟩
  | 4 => ⟨S1024x2816, .f32⟩
  | 5 => ⟨S1x1x2816x1024, .f32⟩
  | 6 => ⟨S2816x1024, .f32⟩
  | 7 => ⟨S71680x2816, .f32⟩
  | 8 => ⟨S71680x2816, .f32⟩
  | 9 => ⟨S71680x2816, .f32⟩
  | 10 => ⟨S_, .f32⟩
  | 11 => ⟨S71680x2816, .f32⟩
  | 12 => ⟨S71680x2816, .f32⟩
  | 13 => ⟨S_, .f32⟩
  | 14 => ⟨S71680x2816, .f32⟩
  | 15 => ⟨S71680x2816, .f32⟩
  | 16 => ⟨S71680x2816, .f32⟩
  | 17 => ⟨S71680x2816, .f32⟩
  | 18 => ⟨S71680x2816, .f32⟩
  | 19 => ⟨S71680x1024, .f32⟩
  | 20 => ⟨S_, .i32⟩
  | 21 => ⟨S71680x1, .i32⟩
  | 22 => ⟨S71680x1, .i1⟩
  | 23 => ⟨S_, .f32⟩
  | 24 => ⟨S_, .f32⟩
  | 25 => ⟨S71680x1024, .i1⟩
  | 26 => ⟨S71680x1024, .f32⟩
  | 27 => ⟨S71680x1024, .f32⟩
  | 28 => ⟨S71680x1024, .f32⟩
  | 29 => ⟨S1x1x1024x2816, .f32⟩
  | 30 => ⟨S1024x2816, .f32⟩
  | 31 => ⟨S1x1x1024x2816, .f32⟩
  | 32 => ⟨S1024x2816, .f32⟩
  | 33 => ⟨S1x1x2816x1024, .f32⟩
  | 34 => ⟨S2816x1024, .f32⟩
  | 35 => ⟨S71680x2816, .f32⟩
  | 36 => ⟨S71680x2816, .f32⟩
  | 37 => ⟨S71680x2816, .f32⟩
  | 38 => ⟨S_, .f32⟩
  | 39 => ⟨S71680x2816, .f32⟩
  | 40 => ⟨S71680x2816, .f32⟩
  | 41 => ⟨S_, .f32⟩
  | 42 => ⟨S71680x2816, .f32⟩
  | 43 => ⟨S71680x2816, .f32⟩
  | 44 => ⟨S71680x2816, .f32⟩
  | 45 => ⟨S71680x2816, .f32⟩
  | 46 => ⟨S71680x2816, .f32⟩
  | 47 => ⟨S71680x1024, .f32⟩
  | 48 => ⟨S_, .i32⟩
  | 49 => ⟨S71680x1, .i32⟩
  | 50 => ⟨S71680x1, .i1⟩
  | 51 => ⟨S_, .f32⟩
  | 52 => ⟨S_, .f32⟩
  | 53 => ⟨S71680x1024, .i1⟩
  | 54 => ⟨S71680x1024, .f32⟩
  | 55 => ⟨S71680x1024, .f32⟩
  | 56 => ⟨S71680x1024, .f32⟩
  | 57 => ⟨S1x1x1024x2816, .f32⟩
  | 58 => ⟨S1024x2816, .f32⟩
  | 59 => ⟨S1x1x1024x2816, .f32⟩
  | 60 => ⟨S1024x2816, .f32⟩
  | 61 => ⟨S1x1x2816x1024, .f32⟩
  | 62 => ⟨S2816x1024, .f32⟩
  | 63 => ⟨S71680x2816, .f32⟩
  | 64 => ⟨S71680x2816, .f32⟩
  | 65 => ⟨S71680x2816, .f32⟩
  | 66 => ⟨S_, .f32⟩
  | 67 => ⟨S71680x2816, .f32⟩
  | 68 => ⟨S71680x2816, .f32⟩
  | 69 => ⟨S_, .f32⟩
  | 70 => ⟨S71680x2816, .f32⟩
  | 71 => ⟨S71680x2816, .f32⟩
  | 72 => ⟨S71680x2816, .f32⟩
  | 73 => ⟨S71680x2816, .f32⟩
  | 74 => ⟨S71680x2816, .f32⟩
  | 75 => ⟨S71680x1024, .f32⟩
  | 76 => ⟨S_, .i32⟩
  | 77 => ⟨S71680x1, .i32⟩
  | 78 => ⟨S71680x1, .i1⟩
  | 79 => ⟨S_, .f32⟩
  | 80 => ⟨S_, .f32⟩
  | 81 => ⟨S71680x1024, .i1⟩
  | 82 => ⟨S71680x1024, .f32⟩
  | 83 => ⟨S71680x1024, .f32⟩
  | 84 => ⟨S71680x1024, .f32⟩
  | 85 => ⟨S1x1x1024x2816, .f32⟩
  | 86 => ⟨S1024x2816, .f32⟩
  | 87 => ⟨S1x1x1024x2816, .f32⟩
  | 88 => ⟨S1024x2816, .f32⟩
  | 89 => ⟨S1x1x2816x1024, .f32⟩
  | 90 => ⟨S2816x1024, .f32⟩
  | 91 => ⟨S71680x2816, .f32⟩
  | 92 => ⟨S71680x2816, .f32⟩
  | 93 => ⟨S71680x2816, .f32⟩
  | 94 => ⟨S_, .f32⟩
  | 95 => ⟨S71680x2816, .f32⟩
  | 96 => ⟨S71680x2816, .f32⟩
  | 97 => ⟨S_, .f32⟩
  | 98 => ⟨S71680x2816, .f32⟩
  | 99 => ⟨S71680x2816, .f32⟩
  | 100 => ⟨S71680x2816, .f32⟩
  | 101 => ⟨S71680x2816, .f32⟩
  | 102 => ⟨S71680x2816, .f32⟩
  | 103 => ⟨S71680x1024, .f32⟩
  | 104 => ⟨S_, .i32⟩
  | 105 => ⟨S71680x1, .i32⟩
  | 106 => ⟨S71680x1, .i1⟩
  | 107 => ⟨S_, .f32⟩
  | 108 => ⟨S_, .f32⟩
  | 109 => ⟨S71680x1024, .i1⟩
  | 110 => ⟨S71680x1024, .f32⟩
  | 111 => ⟨S71680x1024, .f32⟩
  | 112 => ⟨S71680x1024, .f32⟩
  | 113 => ⟨S_, .f32⟩
  | 114 => ⟨S_, .f32⟩
  | 115 => ⟨S71680x1024, .i1⟩
  | 116 => ⟨S71680x1024, .f32⟩
  | 117 => ⟨S71680x1024, .f32⟩
  | 118 => ⟨S71680x1024, .bf16⟩
  | _ => ⟨S71680x1024, .f32⟩

abbrev hbmTy (i : Nat) : BufTy := match i / 128 with
  | 0 => hbmTy0_0 i
  | 1 => hbmTy0_1 i
  | _ => ⟨S71680x1024, .f32⟩

abbrev bufTy : (tb : Table) → Fin (tcTables nBuf tb) → BufTy
  | .hbm, ⟨i, _⟩ => hbmTy i
  | _, _ => ⟨S71680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_1 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_3 : Ref sig .tc := ⟨.hbm, 92, rfl⟩
abbrev main_v51 : Ref sig .tc := ⟨.hbm, 93, rfl⟩
abbrev main_v52 : Ref sig .tc := ⟨.hbm, 94, rfl⟩
abbrev main_cst_4 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_call6_v0 : Ref sig .tc := ⟨.hbm, 108, rfl⟩
abbrev main_call6_v1 : Ref sig .tc := ⟨.hbm, 109, rfl⟩
abbrev main_call6_cst : Ref sig .tc := ⟨.hbm, 110, rfl⟩
abbrev main_call6_v2 : Ref sig .tc := ⟨.hbm, 111, rfl⟩
abbrev main_call6_v3 : Ref sig .tc := ⟨.hbm, 112, rfl⟩
abbrev main_call6_cst_0 : Ref sig .tc := ⟨.hbm, 113, rfl⟩
abbrev main_call6_v4 : Ref sig .tc := ⟨.hbm, 114, rfl⟩
abbrev main_call6_v5 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_5 : Ref sig .tc := ⟨.hbm, 120, rfl⟩
abbrev main_v66 : Ref sig .tc := ⟨.hbm, 121, rfl⟩
abbrev main_v67 : Ref sig .tc := ⟨.hbm, 122, rfl⟩
abbrev main_cst_6 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call8_v0 : Ref sig .tc := ⟨.hbm, 136, rfl⟩
abbrev main_call8_v1 : Ref sig .tc := ⟨.hbm, 137, rfl⟩
abbrev main_call8_cst : Ref sig .tc := ⟨.hbm, 138, rfl⟩
abbrev main_call8_v2 : Ref sig .tc := ⟨.hbm, 139, rfl⟩
abbrev main_call8_v3 : Ref sig .tc := ⟨.hbm, 140, rfl⟩
abbrev main_call8_cst_0 : Ref sig .tc := ⟨.hbm, 141, rfl⟩
abbrev main_call8_v4 : Ref sig .tc := ⟨.hbm, 142, rfl⟩
abbrev main_call8_v5 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_c_7 : Ref sig .tc := ⟨.hbm, 148, rfl⟩
abbrev main_v81 : Ref sig .tc := ⟨.hbm, 149, rfl⟩
abbrev main_v82 : Ref sig .tc := ⟨.hbm, 150, rfl⟩
abbrev main_cst_8 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_call10_v0 : Ref sig .tc := ⟨.hbm, 164, rfl⟩
abbrev main_call10_v1 : Ref sig .tc := ⟨.hbm, 165, rfl⟩
abbrev main_call10_cst : Ref sig .tc := ⟨.hbm, 166, rfl⟩
abbrev main_call10_v2 : Ref sig .tc := ⟨.hbm, 167, rfl⟩
abbrev main_call10_v3 : Ref sig .tc := ⟨.hbm, 168, rfl⟩
abbrev main_call10_cst_0 : Ref sig .tc := ⟨.hbm, 169, rfl⟩
abbrev main_call10_v4 : Ref sig .tc := ⟨.hbm, 170, rfl⟩
abbrev main_call10_v5 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_c_9 : Ref sig .tc := ⟨.hbm, 176, rfl⟩
abbrev main_v96 : Ref sig .tc := ⟨.hbm, 177, rfl⟩
abbrev main_v97 : Ref sig .tc := ⟨.hbm, 178, rfl⟩
abbrev main_cst_10 : Ref sig .tc := ⟨.hbm, 179, rfl⟩
abbrev main_call11_v0 : Ref sig .tc := ⟨.hbm, 180, rfl⟩
abbrev main_call11_v1 : Ref sig .tc := ⟨.hbm, 181, rfl⟩
abbrev main_call11_v2 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call12_v0 : Ref sig .tc := ⟨.hbm, 192, rfl⟩
abbrev main_call12_v1 : Ref sig .tc := ⟨.hbm, 193, rfl⟩
abbrev main_call12_cst : Ref sig .tc := ⟨.hbm, 194, rfl⟩
abbrev main_call12_v2 : Ref sig .tc := ⟨.hbm, 195, rfl⟩
abbrev main_call12_v3 : Ref sig .tc := ⟨.hbm, 196, rfl⟩
abbrev main_call12_cst_0 : Ref sig .tc := ⟨.hbm, 197, rfl⟩
abbrev main_call12_v4 : Ref sig .tc := ⟨.hbm, 198, rfl⟩
abbrev main_call12_v5 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_c_11 : Ref sig .tc := ⟨.hbm, 204, rfl⟩
abbrev main_v111 : Ref sig .tc := ⟨.hbm, 205, rfl⟩
abbrev main_v112 : Ref sig .tc := ⟨.hbm, 206, rfl⟩
abbrev main_cst_12 : Ref sig .tc := ⟨.hbm, 207, rfl⟩
abbrev main_call13_v0 : Ref sig .tc := ⟨.hbm, 208, rfl⟩
abbrev main_call13_v1 : Ref sig .tc := ⟨.hbm, 209, rfl⟩
abbrev main_call13_v2 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_call14_v0 : Ref sig .tc := ⟨.hbm, 220, rfl⟩
abbrev main_call14_v1 : Ref sig .tc := ⟨.hbm, 221, rfl⟩
abbrev main_call14_cst : Ref sig .tc := ⟨.hbm, 222, rfl⟩
abbrev main_call14_v2 : Ref sig .tc := ⟨.hbm, 223, rfl⟩
abbrev main_call14_v3 : Ref sig .tc := ⟨.hbm, 224, rfl⟩
abbrev main_call14_cst_0 : Ref sig .tc := ⟨.hbm, 225, rfl⟩
abbrev main_call14_v4 : Ref sig .tc := ⟨.hbm, 226, rfl⟩
abbrev main_call14_v5 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_c_13 : Ref sig .tc := ⟨.hbm, 232, rfl⟩
abbrev main_v126 : Ref sig .tc := ⟨.hbm, 233, rfl⟩
abbrev main_v127 : Ref sig .tc := ⟨.hbm, 234, rfl⟩
abbrev main_cst_14 : Ref sig .tc := ⟨.hbm, 235, rfl⟩
abbrev main_call15_v0 : Ref sig .tc := ⟨.hbm, 236, rfl⟩
abbrev main_call15_v1 : Ref sig .tc := ⟨.hbm, 237, rfl⟩
abbrev main_call15_v2 : Ref sig .tc := ⟨.hbm, 238, rfl⟩
abbrev main_v128 : Ref sig .tc := ⟨.hbm, 239, rfl⟩
abbrev main_v129 : Ref sig .tc := ⟨.hbm, 240, rfl⟩
abbrev main_cst_15 : Ref sig .tc := ⟨.hbm, 241, rfl⟩
abbrev main_call16_v0 : Ref sig .tc := ⟨.hbm, 242, rfl⟩
abbrev main_call16_v1 : Ref sig .tc := ⟨.hbm, 243, rfl⟩
abbrev main_call16_v2 : Ref sig .tc := ⟨.hbm, 244, rfl⟩
abbrev main_v130 : Ref sig .tc := ⟨.hbm, 245, rfl⟩
abbrev main_v131 : Ref sig .tc := ⟨.hbm, 246, rfl⟩

abbrev nD : Nat := 1
abbrev τ : Topo := Topo.v7x

variable {F : FTy → Type} [FloatOps F]
-- ==== Kernel4.lean ====
abbrev S71680x1024 : Shape := ⟨2, ![71680, 1024]⟩
abbrev S140 : Shape := ⟨1, ![140]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S512x1024 : Shape := ⟨2, ![512, 1024]⟩
abbrev S1x1x1024x2816 : Shape := ⟨4, ![1, 1, 1024, 2816]⟩
abbrev S1x1x2816x1024 : Shape := ⟨4, ![1, 1, 2816, 1024]⟩
abbrev S1x1024x2816 : Shape := ⟨3, ![1, 1024, 2816]⟩
abbrev S1x1024x256 : Shape := ⟨3, ![1, 1024, 256]⟩
abbrev S1024x256 : Shape := ⟨2, ![1024, 256]⟩
abbrev S512x256 : Shape := ⟨2, ![512, 256]⟩
abbrev S1x2816x1024 : Shape := ⟨3, ![1, 2816, 1024]⟩
abbrev S1x256x1024 : Shape := ⟨3, ![1, 256, 1024]⟩
abbrev S256x1024 : Shape := ⟨2, ![256, 1024]⟩

abbrev nBuf : Space → Nat
  | .hbm => 6
  | .vmem => 7
  | .smem => 2
  | _ => 0

abbrev bufTy : (tb : Table) → Fin (tcTables nBuf tb) → BufTy
  | .hbm, ⟨0, _⟩ => ⟨S71680x1024, .f32⟩
  | .hbm, ⟨1, _⟩ => ⟨S2x8x1024x2816, .f32⟩
  | .hbm, ⟨2, _⟩ => ⟨S2x8x1024x2816, .f32⟩
  | .hbm, ⟨3, _⟩ => ⟨S2x8x2816x1024, .f32⟩
  | .hbm, ⟨4, _⟩ => ⟨S71680x1024, .bf16⟩
  | .hbm, ⟨5, _⟩ => ⟨S71680x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x2816, .f32⟩
  | .local _ .vmem, ⟨3, _⟩ => ⟨S1x1x1024x2816, .f32⟩
  | .local _ .vmem, ⟨4, _⟩ => ⟨S1x1x2816x1024, .f32⟩
  | .local _ .vmem, ⟨5, _⟩ => ⟨S512x1024, .bf16⟩
  | .local _ .vmem, ⟨6, _⟩ => ⟨S512x1024, .bf16⟩
  | .local _ .smem, ⟨0, _⟩ => ⟨S140, .i32⟩
  | .local _ .smem, ⟨1, _⟩ => ⟨S1, .i32⟩
  | _, _ => ⟨S71680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![140], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S71680x1024 : Shape := ⟨2, ![71680, 1024]⟩
abbrev S140 : Shape := ⟨1, ![140]⟩
abbrev S1 : Shape := ⟨1, ![1]⟩
abbrev S2x8x1024x2816 : Shape := ⟨4, ![2, 8, 1024, 2816]⟩
abbrev S2x8x2816x1024 : Shape := ⟨4, ![2, 8, 2816, 1024]⟩
abbrev S140x1 : Shape := ⟨2, ![140, 1]⟩
abbrev S140x512 : Shape := ⟨2, ![140, 512]⟩
abbrev S71680x1 : Shape := ⟨2, ![71680, 1]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S71680x2816 : Shape := ⟨2, ![71680, 2816]⟩

abbrev nBuf : Space → Nat
  | .hbm => 247
  | .vmem => 0
  | .smem => 0
  | _ => 0

abbrev hbmTy0_0 (i : Nat) : BufTy := match i % 128 with
  | 0 => ⟨S71680x1024, .f32⟩
  | 1 => ⟨S140, .i32⟩
  | 2 => ⟨S1, .i32⟩
  | 3 => ⟨S2x8x1024x2816, .f32⟩
  | 4 => ⟨S2x8x1024x2816, .f32⟩
  | 5 => ⟨S2x8x2816x1024, .f32⟩
  | 6 => ⟨S140, .i32⟩
  | 7 => ⟨S140, .i32⟩
  | 8 => ⟨S140, .i1⟩
  | 9 => ⟨S140x1, .i1⟩
  | 10 => ⟨S140x512, .i1⟩
  | 11 => ⟨S71680x1, .i1⟩
  | 12 => ⟨S140x1, .i32⟩
  | 13 => ⟨S140x512, .i32⟩
  | 14 => ⟨S71680x1, .i32⟩
  | 15 => ⟨S_, .f32⟩
  | 16 => ⟨S71680x1024, .f32⟩
  | 17 => ⟨S1x1x1024x2816, .f32⟩
  | 18 => ⟨S1024x2816, .f32⟩
  | 19 => ⟨S1x1x1024x2816, .f32⟩
  | 20 => ⟨S1024x2816, .f32⟩
  | 21 => ⟨S1x1x2816x1024, .f32⟩
  | 22 => ⟨S2816x1024, .f32⟩
  | 23 => ⟨S71680x2816, .f32⟩
  | 24 => ⟨S71680x2816, .f32⟩
  | 25 => ⟨S71680x2816, .f32⟩
  | 26 => ⟨S_, .f32⟩
  | 27 => ⟨S71680x2816, .f32⟩
  | 28 => ⟨S71680x2816, .f32⟩
  | 29 => ⟨S_, .f32⟩
  | 30 => ⟨S71680x2816, .f32⟩
  | 31 => ⟨S71680x2816, .f32⟩
  | 32 => ⟨S71680x2816, .f32⟩
  | 33 => ⟨S71680x2816, .f32⟩
  | 34 => ⟨S71680x2816, .f32⟩
  | 35 => ⟨S71680x1024, .f32⟩
  | 36 => ⟨S_, .i32⟩
  | 37 => ⟨S71680x1, .i32⟩
  | 38 => ⟨S71680x1, .i1⟩
  | 39 => ⟨S_, .f32⟩
  | 40 => ⟨S_, .f32⟩
  | 41 => ⟨S71680x1024, .i1⟩
  | 42 => ⟨S71680x1024, .f32⟩
  | 43 => ⟨S71680x1024, .f32⟩
  | 44 => ⟨S71680x1024, .f32⟩
  | 45 => ⟨S1x1x1024x2816, .f32⟩
  | 46 => ⟨S1024x2816, .f32⟩
  | 47 => ⟨S1x1x1024x2816, .f32⟩
  | 48 => ⟨S1024x2816, .f32⟩
  | 49 => ⟨S1x1x2816x1024, .f32⟩
  | 50 => ⟨S2816x1024, .f32⟩
  | 51 => ⟨S71680x2816, .f32⟩
  | 52 => ⟨S71680x2816, .f32⟩
  | 53 => ⟨S71680x2816, .f32⟩
  | 54 => ⟨S_, .f32⟩
  | 55 => ⟨S71680x2816, .f32⟩
  | 56 => ⟨S71680x2816, .f32⟩
  | 57 => ⟨S_, .f32⟩
  | 58 => ⟨S71680x2816, .f32⟩
  | 59 => ⟨S71680x2816, .f32⟩
  | 60 => ⟨S71680x2816, .f32⟩
  | 61 => ⟨S71680x2816, .f32⟩
  | 62 => ⟨S71680x2816, .f32⟩
  | 63 => ⟨S71680x1024, .f32⟩
  | 64 => ⟨S_, .i32⟩
  | 65 => ⟨S71680x1, .i32⟩
  | 66 => ⟨S71680x1, .i1⟩
  | 67 => ⟨S_, .f32⟩
  | 68 => ⟨S_, .f32⟩
  | 69 => ⟨S71680x1024, .i1⟩
  | 70 => ⟨S71680x1024, .f32⟩
  | 71 => ⟨S71680x1024, .f32⟩
  | 72 => ⟨S71680x1024, .f32⟩
  | 73 => ⟨S1x1x1024x2816, .f32⟩
  | 74 => ⟨S1024x2816, .f32⟩
  | 75 => ⟨S1x1x1024x2816, .f32⟩
  | 76 => ⟨S1024x2816, .f32⟩
  | 77 => ⟨S1x1x2816x1024, .f32⟩
  | 78 => ⟨S2816x1024, .f32⟩
  | 79 => ⟨S71680x2816, .f32⟩
  | 80 => ⟨S71680x2816, .f32⟩
  | 81 => ⟨S71680x2816, .f32⟩
  | 82 => ⟨S_, .f32⟩
  | 83 => ⟨S71680x2816, .f32⟩
  | 84 => ⟨S71680x2816, .f32⟩
  | 85 => ⟨S_, .f32⟩
  | 86 => ⟨S71680x2816, .f32⟩
  | 87 => ⟨S71680x2816, .f32⟩
  | 88 => ⟨S71680x2816, .f32⟩
  | 89 => ⟨S71680x2816, .f32⟩
  | 90 => ⟨S71680x2816, .f32⟩
  | 91 => ⟨S71680x1024, .f32⟩
  | 92 => ⟨S_, .i32⟩
  | 93 => ⟨S71680x1, .i32⟩
  | 94 => ⟨S71680x1, .i1⟩
  | 95 => ⟨S_, .f32⟩
  | 96 => ⟨S_, .f32⟩
  | 97 => ⟨S71680x1024, .i1⟩
  | 98 => ⟨S71680x1024, .f32⟩
  | 99 => ⟨S71680x1024, .f32⟩
  | 100 => ⟨S71680x1024, .f32⟩
  | 101 => ⟨S1x1x1024x2816, .f32⟩
  | 102 => ⟨S1024x2816, .f32⟩
  | 103 => ⟨S1x1x1024x2816, .f32⟩
  | 104 => ⟨S1024x2816, .f32⟩
  | 105 => ⟨S1x1x2816x1024, .f32⟩
  | 106 => ⟨S2816x1024, .f32⟩
  | 107 => ⟨S71680x2816, .f32⟩
  | 108 => ⟨S71680x2816, .f32⟩
  | 109 => ⟨S71680x2816, .f32⟩
  | 110 => ⟨S_, .f32⟩
  | 111 => ⟨S71680x2816, .f32⟩
  | 112 => ⟨S71680x2816, .f32⟩
  | 113 => ⟨S_, .f32⟩
  | 114 => ⟨S71680x2816, .f32⟩
  | 115 => ⟨S71680x2816, .f32⟩
  | 116 => ⟨S71680x2816, .f32⟩
  | 117 => ⟨S71680x2816, .f32⟩
  | 118 => ⟨S71680x2816, .f32⟩
  | 119 => ⟨S71680x1024, .f32⟩
  | 120 => ⟨S_, .i32⟩
  | 121 => ⟨S71680x1, .i32⟩
  | 122 => ⟨S71680x1, .i1⟩
  | 123 => ⟨S_, .f32⟩
  | 124 => ⟨S_, .f32⟩
  | 125 => ⟨S71680x1024, .i1⟩
  | 126 => ⟨S71680x1024, .f32⟩
  | 127 => ⟨S71680x1024, .f32⟩
  | _ => ⟨S71680x1024, .f32⟩

abbrev hbmTy0_1 (i : Nat) : BufTy := match i % 128 with
  | 0 => ⟨S71680x1024, .f32⟩
  | 1 => ⟨S1x1x1024x2816, .f32⟩
  | 2 => ⟨S1024x2816, .f32⟩
  | 3 => ⟨S1x1x1024x2816, .f32⟩
  | 4 => ⟨S1024x2816, .f32⟩
  | 5 => ⟨S1x1x2816x1024, .f32⟩
  | 6 => ⟨S2816x1024, .f32⟩
  | 7 => ⟨S71680x2816, .f32⟩
  | 8 => ⟨S71680x2816, .f32⟩
  | 9 => ⟨S71680x2816, .f32⟩
  | 10 => ⟨S_, .f32⟩
  | 11 => ⟨S71680x2816, .f32⟩
  | 12 => ⟨S71680x2816, .f32⟩
  | 13 => ⟨S_, .f32⟩
  | 14 => ⟨S71680x2816, .f32⟩
  | 15 => ⟨S71680x2816, .f32⟩
  | 16 => ⟨S71680x2816, .f32⟩
  | 17 => ⟨S71680x2816, .f32⟩
  | 18 => ⟨S71680x2816, .f32⟩
  | 19 => ⟨S71680x1024, .f32⟩
  | 20 => ⟨S_, .i32⟩
  | 21 => ⟨S71680x1, .i32⟩
  | 22 => ⟨S71680x1, .i1⟩
  | 23 => ⟨S_, .f32⟩
  | 24 => ⟨S_, .f32⟩
  | 25 => ⟨S71680x1024, .i1⟩
  | 26 => ⟨S71680x1024, .f32⟩
  | 27 => ⟨S71680x1024, .f32⟩
  | 28 => ⟨S71680x1024, .f32⟩
  | 29 => ⟨S1x1x1024x2816, .f32⟩
  | 30 => ⟨S1024x2816, .f32⟩
  | 31 => ⟨S1x1x1024x2816, .f32⟩
  | 32 => ⟨S1024x2816, .f32⟩
  | 33 => ⟨S1x1x2816x1024, .f32⟩
  | 34 => ⟨S2816x1024, .f32⟩
  | 35 => ⟨S71680x2816, .f32⟩
  | 36 => ⟨S71680x2816, .f32⟩
  | 37 => ⟨S71680x2816, .f32⟩
  | 38 => ⟨S_, .f32⟩
  | 39 => ⟨S71680x2816, .f32⟩
  | 40 => ⟨S71680x2816, .f32⟩
  | 41 => ⟨S_, .f32⟩
  | 42 => ⟨S71680x2816, .f32⟩
  | 43 => ⟨S71680x2816, .f32⟩
  | 44 => ⟨S71680x2816, .f32⟩
  | 45 => ⟨S71680x2816, .f32⟩
  | 46 => ⟨S71680x2816, .f32⟩
  | 47 => ⟨S71680x1024, .f32⟩
  | 48 => ⟨S_, .i32⟩
  | 49 => ⟨S71680x1, .i32⟩
  | 50 => ⟨S71680x1, .i1⟩
  | 51 => ⟨S_, .f32⟩
  | 52 => ⟨S_, .f32⟩
  | 53 => ⟨S71680x1024, .i1⟩
  | 54 => ⟨S71680x1024, .f32⟩
  | 55 => ⟨S71680x1024, .f32⟩
  | 56 => ⟨S71680x1024, .f32⟩
  | 57 => ⟨S1x1x1024x2816, .f32⟩
  | 58 => ⟨S1024x2816, .f32⟩
  | 59 => ⟨S1x1x1024x2816, .f32⟩
  | 60 => ⟨S1024x2816, .f32⟩
  | 61 => ⟨S1x1x2816x1024, .f32⟩
  | 62 => ⟨S2816x1024, .f32⟩
  | 63 => ⟨S71680x2816, .f32⟩
  | 64 => ⟨S71680x2816, .f32⟩
  | 65 => ⟨S71680x2816, .f32⟩
  | 66 => ⟨S_, .f32⟩
  | 67 => ⟨S71680x2816, .f32⟩
  | 68 => ⟨S71680x2816, .f32⟩
  | 69 => ⟨S_, .f32⟩
  | 70 => ⟨S71680x2816, .f32⟩
  | 71 => ⟨S71680x2816, .f32⟩
  | 72 => ⟨S71680x2816, .f32⟩
  | 73 => ⟨S71680x2816, .f32⟩
  | 74 => ⟨S71680x2816, .f32⟩
  | 75 => ⟨S71680x1024, .f32⟩
  | 76 => ⟨S_, .i32⟩
  | 77 => ⟨S71680x1, .i32⟩
  | 78 => ⟨S71680x1, .i1⟩
  | 79 => ⟨S_, .f32⟩
  | 80 => ⟨S_, .f32⟩
  | 81 => ⟨S71680x1024, .i1⟩
  | 82 => ⟨S71680x1024, .f32⟩
  | 83 => ⟨S71680x1024, .f32⟩
  | 84 => ⟨S71680x1024, .f32⟩
  | 85 => ⟨S1x1x1024x2816, .f32⟩
  | 86 => ⟨S1024x2816, .f32⟩
  | 87 => ⟨S1x1x1024x2816, .f32⟩
  | 88 => ⟨S1024x2816, .f32⟩
  | 89 => ⟨S1x1x2816x1024, .f32⟩
  | 90 => ⟨S2816x1024, .f32⟩
  | 91 => ⟨S71680x2816, .f32⟩
  | 92 => ⟨S71680x2816, .f32⟩
  | 93 => ⟨S71680x2816, .f32⟩
  | 94 => ⟨S_, .f32⟩
  | 95 => ⟨S71680x2816, .f32⟩
  | 96 => ⟨S71680x2816, .f32⟩
  | 97 => ⟨S_, .f32⟩
  | 98 => ⟨S71680x2816, .f32⟩
  | 99 => ⟨S71680x2816, .f32⟩
  | 100 => ⟨S71680x2816, .f32⟩
  | 101 => ⟨S71680x2816, .f32⟩
  | 102 => ⟨S71680x2816, .f32⟩
  | 103 => ⟨S71680x1024, .f32⟩
  | 104 => ⟨S_, .i32⟩
  | 105 => ⟨S71680x1, .i32⟩
  | 106 => ⟨S71680x1, .i1⟩
  | 107 => ⟨S_, .f32⟩
  | 108 => ⟨S_, .f32⟩
  | 109 => ⟨S71680x1024, .i1⟩
  | 110 => ⟨S71680x1024, .f32⟩
  | 111 => ⟨S71680x1024, .f32⟩
  | 112 => ⟨S71680x1024, .f32⟩
  | 113 => ⟨S_, .f32⟩
  | 114 => ⟨S_, .f32⟩
  | 115 => ⟨S71680x1024, .i1⟩
  | 116 => ⟨S71680x1024, .f32⟩
  | 117 => ⟨S71680x1024, .f32⟩
  | 118 => ⟨S71680x1024, .bf16⟩
  | _ => ⟨S71680x1024, .f32⟩

abbrev hbmTy (i : Nat) : BufTy := match i / 128 with
  | 0 => hbmTy0_0 i
  | 1 => hbmTy0_1 i
  | _ => ⟨S71680x1024, .f32⟩

abbrev bufTy : (tb : Table) → Fin (tcTables nBuf tb) → BufTy
  | .hbm, ⟨i, _⟩ => hbmTy i
  | _, _ => ⟨S71680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_1 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_c_3 : Ref sig .tc := ⟨.hbm, 92, rfl⟩
abbrev main_v51 : Ref sig .tc := ⟨.hbm, 93, rfl⟩
abbrev main_v52 : Ref sig .tc := ⟨.hbm, 94, rfl⟩
abbrev main_cst_4 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_call6_v0 : Ref sig .tc := ⟨.hbm, 108, rfl⟩
abbrev main_call6_v1 : Ref sig .tc := ⟨.hbm, 109, rfl⟩
abbrev main_call6_cst : Ref sig .tc := ⟨.hbm, 110, rfl⟩
abbrev main_call6_v2 : Ref sig .tc := ⟨.hbm, 111, rfl⟩
abbrev main_call6_v3 : Ref sig .tc := ⟨.hbm, 112, rfl⟩
abbrev main_call6_cst_0 : Ref sig .tc := ⟨.hbm, 113, rfl⟩
abbrev main_call6_v4 : Ref sig .tc := ⟨.hbm, 114, rfl⟩
abbrev main_call6_v5 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_c_5 : Ref sig .tc := ⟨.hbm, 120, rfl⟩
abbrev main_v66 : Ref sig .tc := ⟨.hbm, 121, rfl⟩
abbrev main_v67 : Ref sig .tc := ⟨.hbm, 122, rfl⟩
abbrev main_cst_6 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call8_v0 : Ref sig .tc := ⟨.hbm, 136, rfl⟩
abbrev main_call8_v1 : Ref sig .tc := ⟨.hbm, 137, rfl⟩
abbrev main_call8_cst : Ref sig .tc := ⟨.hbm, 138, rfl⟩
abbrev main_call8_v2 : Ref sig .tc := ⟨.hbm, 139, rfl⟩
abbrev main_call8_v3 : Ref sig .tc := ⟨.hbm, 140, rfl⟩
abbrev main_call8_cst_0 : Ref sig .tc := ⟨.hbm, 141, rfl⟩
abbrev main_call8_v4 : Ref sig .tc := ⟨.hbm, 142, rfl⟩
abbrev main_call8_v5 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_c_7 : Ref sig .tc := ⟨.hbm, 148, rfl⟩
abbrev main_v81 : Ref sig .tc := ⟨.hbm, 149, rfl⟩
abbrev main_v82 : Ref sig .tc := ⟨.hbm, 150, rfl⟩
abbrev main_cst_8 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_call10_v0 : Ref sig .tc := ⟨.hbm, 164, rfl⟩
abbrev main_call10_v1 : Ref sig .tc := ⟨.hbm, 165, rfl⟩
abbrev main_call10_cst : Ref sig .tc := ⟨.hbm, 166, rfl⟩
abbrev main_call10_v2 : Ref sig .tc := ⟨.hbm, 167, rfl⟩
abbrev main_call10_v3 : Ref sig .tc := ⟨.hbm, 168, rfl⟩
abbrev main_call10_cst_0 : Ref sig .tc := ⟨.hbm, 169, rfl⟩
abbrev main_call10_v4 : Ref sig .tc := ⟨.hbm, 170, rfl⟩
abbrev main_call10_v5 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_c_9 : Ref sig .tc := ⟨.hbm, 176, rfl⟩
abbrev main_v96 : Ref sig .tc := ⟨.hbm, 177, rfl⟩
abbrev main_v97 : Ref sig .tc := ⟨.hbm, 178, rfl⟩
abbrev main_cst_10 : Ref sig .tc := ⟨.hbm, 179, rfl⟩
abbrev main_call11_v0 : Ref sig .tc := ⟨.hbm, 180, rfl⟩
abbrev main_call11_v1 : Ref sig .tc := ⟨.hbm, 181, rfl⟩
abbrev main_call11_v2 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call12_v0 : Ref sig .tc := ⟨.hbm, 192, rfl⟩
abbrev main_call12_v1 : Ref sig .tc := ⟨.hbm, 193, rfl⟩
abbrev main_call12_cst : Ref sig .tc := ⟨.hbm, 194, rfl⟩
abbrev main_call12_v2 : Ref sig .tc := ⟨.hbm, 195, rfl⟩
abbrev main_call12_v3 : Ref sig .tc := ⟨.hbm, 196, rfl⟩
abbrev main_call12_cst_0 : Ref sig .tc := ⟨.hbm, 197, rfl⟩
abbrev main_call12_v4 : Ref sig .tc := ⟨.hbm, 198, rfl⟩
abbrev main_call12_v5 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_c_11 : Ref sig .tc := ⟨.hbm, 204, rfl⟩
abbrev main_v111 : Ref sig .tc := ⟨.hbm, 205, rfl⟩
abbrev main_v112 : Ref sig .tc := ⟨.hbm, 206, rfl⟩
abbrev main_cst_12 : Ref sig .tc := ⟨.hbm, 207, rfl⟩
abbrev main_call13_v0 : Ref sig .tc := ⟨.hbm, 208, rfl⟩
abbrev main_call13_v1 : Ref sig .tc := ⟨.hbm, 209, rfl⟩
abbrev main_call13_v2 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_call14_v0 : Ref sig .tc := ⟨.hbm, 220, rfl⟩
abbrev main_call14_v1 : Ref sig .tc := ⟨.hbm, 221, rfl⟩
abbrev main_call14_cst : Ref sig .tc := ⟨.hbm, 222, rfl⟩
abbrev main_call14_v2 : Ref sig .tc := ⟨.hbm, 223, rfl⟩
abbrev main_call14_v3 : Ref sig .tc := ⟨.hbm, 224, rfl⟩
abbrev main_call14_cst_0 : Ref sig .tc := ⟨.hbm, 225, rfl⟩
abbrev main_call14_v4 : Ref sig .tc := ⟨.hbm, 226, rfl⟩
abbrev main_call14_v5 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_c_13 : Ref sig .tc := ⟨.hbm, 232, rfl⟩
abbrev main_v126 : Ref sig .tc := ⟨.hbm, 233, rfl⟩
abbrev main_v127 : Ref sig .tc := ⟨.hbm, 234, rfl⟩
abbrev main_cst_14 : Ref sig .tc := ⟨.hbm, 235, rfl⟩
abbrev main_call15_v0 : Ref sig .tc := ⟨.hbm, 236, rfl⟩
abbrev main_call15_v1 : Ref sig .tc := ⟨.hbm, 237, rfl⟩
abbrev main_call15_v2 : Ref sig .tc := ⟨.hbm, 238, rfl⟩
abbrev main_v128 : Ref sig .tc := ⟨.hbm, 239, rfl⟩
abbrev main_v129 : Ref sig .tc := ⟨.hbm, 240, rfl⟩
abbrev main_cst_15 : Ref sig .tc := ⟨.hbm, 241, rfl⟩
abbrev main_call16_v0 : Ref sig .tc := ⟨.hbm, 242, rfl⟩
abbrev main_call16_v1 : Ref sig .tc := ⟨.hbm, 243, rfl⟩
abbrev main_call16_v2 : Ref sig .tc := ⟨.hbm, 244, rfl⟩
abbrev main_v130 : Ref sig .tc := ⟨.hbm, 245, rfl⟩
abbrev main_v131 : Ref sig .tc := ⟨.hbm, 246, rfl⟩

abbrev nD : Nat := 1
abbrev τ : Topo := Topo.v7x

variable {F : FTy → Type} [FloatOps F]
-- ==== Proof.Step.lean ====
module

public import proofs.«01_k».proof.Proof.Gen.KernelIdeal.Skeleton
public import proofs.«01_k».proof.Proof.Gen.KernelIdeal.Frame
public import Idealize.ShloMosaic.Lib.VecWindow
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ
abbrev PR (F : FTy → Type) [FloatOps F] (α : Type) : Type 1 := Prog (TpuEff nD τ sig (Elt F) Λ₀ .tc) α

abbrev 𝒱₀ : Variants := Variants.none

/-- The weakest precondition that the body is proved at. -/
abbrev WP (c : Dev nD) {α : Type} (p : PR F α) (Q : α → sProp 𝕄) : sProp 𝕄 :=
  wp frame (wpE (defs₀ (F := F)) 𝒱₀ (c : Thread nD τ) none) Set.univ p Q

theorem ld_owns (c : Dev nD) {s : Shape} {e : EltTy} (m : Memref sig .tc .vmem s e) (X : s.Idx → Elt F e) {off size : Fin s.rank → ℕ}
    {inb : ∀ a, off a + size a ≤ s.size a} {hl : m.view.LoadsAt (Rect.unit off size inb).toLoadRect} {α : Type}
    {k : ((Rect.unit off size inb).shape.Idx → Elt F e) → PR F α} {Q : α → sProp 𝕄} :
    (owns (c : Thread nD τ) m fullShare X : sProp 𝕄)
      ⊢ iprop((owns (c : Thread nD τ) m fullShare X -∗ WP c (k (window X off size inb)) Q)
        -∗ WP c (.op (.load m (Rect.unit off size inb).toLoadRect hl) k) Q) := by
  unfold owns
  iintro ⟨%f, %hf, H⟩ HK
  subst hf
  iapply (wp_load_rect (defs := defs₀ (F := F)) 𝒱₀ (c : Thread nD τ) none Set.univ (Q := Q) (m := m) (r := Rect.unit off size inb) (hl := hl) (k := k) (q := fullShare) (f := f) (S := m.view.set) (View.set_slice_subset _ _)) $$ H
  iintro H
  iapply HK
  iexists f
  isplitr
  · ipureintro; rfl
  · iexact H

theorem st_owns (c : Dev nD) {s : Shape} {e : EltTy} (m : Memref sig .tc .vmem s e) (X : s.Idx → Elt F e) {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1} {α : Type}
    {k : PUnit → PR F α} {Q : α → sProp 𝕄} :
    (owns (c : Thread nD τ) m fullShare X : sProp 𝕄)
      ⊢ iprop((owns (c : Thread nD τ) m fullShare (put X off size w) -∗ WP c (k ⟨⟩) Q)
        -∗ WP c (.op (.store m (Rect.unit off size inb) w Finset.univ hx hm) k) Q) := by
  unfold owns
  iintro ⟨%f, %hf, H⟩ HK
  subst hf
  iapply (wp_store (defs := defs₀ (F := F)) 𝒱₀ (c : Thread nD τ) none Set.univ (Q := Q) (m := m) (r := Rect.unit off size inb) (hx := hx) (hm := hm) (k := k) (f := f) (S := m.view.set) (by rw [View.setOn_univ]; exact View.set_slice_subset _ _)) $$ H
  iintro H
  iapply HK
  iexists _
  isplitr
  · ipureintro
    exact (View.read_writes_cons_put m.view f inb w [] rfl)
  · iexact H

/-! ## The two halves of a head's step -/

/-- A tile's scores: keys by queries. -/
def scoresOf (vk : Vec F S1x1x1x256x128 .bf16) (vq : Vec F S1x128x256 .bf16) : FVec F S256x256 .f32 :=
  matmul dot_S256x128_S128x256_S256x256_1_0_0_1_n_n none (shapeCast S256x128 vk shapeCasts_S1x1x1x256x128_S256x128)
    (shapeCast S128x256 vq shapeCasts_S1x128x256_S128x256) (constant S256x256 .f32 0x00000000#32)

/-- Their maximum over the keys. -/
def colMax (s : FVec F S256x256 .f32) : FVec F S1x256 .f32 :=
  shapeCast S1x256 (multiReduction .maximumf [0] S256 s 0xFF800000#32 reduces_S256x256_S256 (.inl rfl) rfl) shapeCasts_S256_S1x256

def newMax (vm vc : Vec F S1x1x256 .f32) : FVec F S1x256 .f32 :=
  maximumf (shapeCast S1x256 vm shapeCasts_S1x1x256_S1x256) (shapeCast S1x256 vc shapeCasts_S1x1x256_S1x256)

def weightsOf (vm vc : Vec F S1x1x256 .f32) (vs : Vec F S1x256x256 .f32) : FVec F S256x256 .bf16 :=
  exp2 (truncf .bf16 (subf (shapeCast S256x256 vs shapeCasts_S1x256x256_S256x256)
    (broadcastTo S256x256 (newMax vm vc) broadcasts_S1x256_S256x256)) bitsLt_bf16_f32)

/-- The values of a tile over the rows of ones that sum the weights. -/
def valuesOf (vv : Vec F S1x1x64x256 .bf16) : FVec F S80x256 .bf16 :=
  concatenate S80x256 0 [⟨S64x256, shapeCast S64x256 vv shapeCasts_S1x1x64x256_S64x256⟩,
    ⟨S16x256, broadcast S16x256 (Scalar.ofBits .bf16 0x3F80#16)⟩] concatenates_S64x256_S16x256_S80x256_d0

def newAcc (vm vc : Vec F S1x1x256 .f32) (vs : Vec F S1x256x256 .f32) (vv : Vec F S1x1x64x256 .bf16) (va : Vec F S1x80x256 .f32) :
    FVec F S80x256 .f32 :=
  addf (mulf (broadcastTo S80x256 (exp2 (subf (shapeCast S1x256 vm shapeCasts_S1x1x256_S1x256) (newMax vm vc))) broadcasts_S1x256_S80x256)
      (shapeCast S80x256 va shapeCasts_S1x80x256_S80x256))
    (matmul dot_S80x256_S256x256_S80x256_1_0_0_1_n_n none (valuesOf vv) (weightsOf vm vc vs) (constant S80x256 .f32 0x00000000#32))

variable {α : Type}

/-- The program of one head's scores, its continuation given every value that it loads. -/
abbrev SC (a2 : Memref sig .tc .vmem S1x2048x256 .bf16) (a3 : Memref sig .tc .vmem S1x33x10x256x128 .bf16)
    (sD : Memref sig .tc .vmem S16x256x256 .f32) (cD : Memref sig .tc .vmem S16x1x256 .f32)
    (o3 : Fin 5 → ℕ) (h3 : ∀ a, o3 a + S1x1x1x256x128.size a ≤ S1x33x10x256x128.size a)
    (o2 : Fin 3 → ℕ) (h2 : ∀ a, o2 a + S1x128x256.size a ≤ S1x2048x256.size a)
    (og : Fin 3 → ℕ) (hs : ∀ a, og a + S1x256x256.size a ≤ S16x256x256.size a) (hc : ∀ a, og a + S1x1x256.size a ≤ S16x1x256.size a)
    (K : Vec F S1x1x1x256x128 .bf16 → Vec F S1x128x256 .bf16 → Vec F S1x256x256 .f32 → Vec F S1x1x256 .f32 → PR F α) : PR F α :=
  .op (.load a3 (Rect.unit (s := S1x33x10x256x128) o3 S1x1x1x256x128.size h3).toLoadRect (View.loadsAt_vmem h_S1x1x1x256x128)) fun vk =>
  .op (.load a2 (Rect.unit (s := S1x2048x256) o2 S1x128x256.size h2).toLoadRect (View.loadsAt_vmem h_S1x128x256)) fun vq =>
  .op (.load sD (Rect.unit (s := S16x256x256) og S1x256x256.size hs).toLoadRect (View.loadsAt_vmem h_S1x256x256)) fun ds =>
  .op (.store sD (Rect.unit (s := S16x256x256) og S1x256x256.size hs)
    (shapeCast S1x256x256 (scoresOf vk vq) shapeCasts_S256x256_S1x256x256) Finset.univ (View.stores_vmem_bits_univ h_S1x256x256 rfl) (.inl rfl)) fun _ =>
  .op (.load cD (Rect.unit (s := S16x1x256) og S1x1x256.size hc).toLoadRect (View.loadsAt_vmem h_S1x1x256)) fun dc =>
  .op (.store cD (Rect.unit (s := S16x1x256) og S1x1x256.size hc)
    (shapeCast S1x1x256 (colMax (scoresOf vk vq)) shapeCasts_S1x256_S1x1x256) Finset.univ (View.stores_vmem_bits_univ h_S1x1x256 rfl) (.inl rfl)) fun _ => K vk vq ds dc

/-- The program of one head's update, its continuation given every value that it loads. -/
abbrev CO (a4 : Memref sig .tc .vmem S1x33x640x256 .bf16)
    (sS : Memref sig .tc .vmem S16x256x256 .f32) (cS : Memref sig .tc .vmem S16x1x256 .f32)
    (am : Memref sig .tc .vmem S16x1x256 .f32) (aa : Memref sig .tc .vmem S16x80x256 .f32)
    (o4 : Fin 4 → ℕ) (h4 : ∀ a, o4 a + S1x1x64x256.size a ≤ S1x33x640x256.size a)
    (og : Fin 3 → ℕ) (hs : ∀ a, og a + S1x256x256.size a ≤ S16x256x256.size a) (hc : ∀ a, og a + S1x1x256.size a ≤ S16x1x256.size a)
    (ha : ∀ a, og a + S1x80x256.size a ≤ S16x80x256.size a)
    (K : Vec F S1x1x256 .f32 → Vec F S1x1x256 .f32 → Vec F S1x256x256 .f32 → Vec F S1x1x256 .f32 → Vec F S1x1x64x256 .bf16 →
      Vec F S1x80x256 .f32 → Vec F S1x80x256 .f32 → PR F α) : PR F α :=
  .op (.load am (Rect.unit (s := S16x1x256) og S1x1x256.size hc).toLoadRect (View.loadsAt_vmem h_S1x1x256)) fun vm =>
  .op (.load cS (Rect.unit (s := S16x1x256) og S1x1x256.size hc).toLoadRect (View.loadsAt_vmem h_S1x1x256)) fun vc =>
  .op (.load sS (Rect.unit (s := S16x256x256) og S1x256x256.size hs).toLoadRect (View.loadsAt_vmem h_S1x256x256)) fun vs =>
  .op (.load am (Rect.unit (s := S16x1x256) og S1x1x256.size hc).toLoadRect (View.loadsAt_vmem h_S1x1x256)) fun dm =>
  .op (.store am (Rect.unit (s := S16x1x256) og S1x1x256.size hc)
    (shapeCast S1x1x256 (newMax vm vc) shapeCasts_S1x256_S1x1x256) Finset.univ (View.stores_vmem_bits_univ h_S1x1x256 rfl) (.inl rfl)) fun _ =>
  .op (.load a4 (Rect.unit (s := S1x33x640x256) o4 S1x1x64x256.size h4).toLoadRect (View.loadsAt_vmem h_S1x1x64x256)) fun vv =>
  .op (.load aa (Rect.unit (s := S16x80x256) og S1x80x256.size ha).toLoadRect (View.loadsAt_vmem h_S1x80x256)) fun va =>
  .op (.load aa (Rect.unit (s := S16x80x256) og S1x80x256.size ha).toLoadRect (View.loadsAt_vmem h_S1x80x256)) fun da =>
  .op (.store aa (Rect.unit (s := S16x80x256) og S1x80x256.size ha)
    (shapeCast S1x80x256 (newAcc vm vc vs vv va) shapeCasts_S80x256_S1x80x256) Finset.univ (View.stores_vmem_bits_univ h_S1x80x256 rfl) (.inl rfl)) fun _ => K vm vc vs dm vv va da

/-- What a head's steps hold: the staged queries, keys and values, the two score buffers and their maxima (the one
    read first), the running maxima and the accumulators; and a frame. -/
def Held (c : Dev nD) (a2 : Memref sig .tc .vmem S1x2048x256 .bf16) (a3 : Memref sig .tc .vmem S1x33x10x256x128 .bf16)
    (a4 : Memref sig .tc .vmem S1x33x640x256 .bf16) (sS sD : Memref sig .tc .vmem S16x256x256 .f32)
    (cS cD am : Memref sig .tc .vmem S16x1x256 .f32) (aa : Memref sig .tc .vmem S16x80x256 .f32)
    (X2 : S1x2048x256.Idx → Elt F .bf16) (X3 : S1x33x10x256x128.Idx → Elt F .bf16) (X4 : S1x33x640x256.Idx → Elt F .bf16)
    (Ys Yd : S16x256x256.Idx → Elt F .f32) (Zs Zd M : S16x1x256.Idx → Elt F .f32) (A : S16x80x256.Idx → Elt F .f32) (R : sProp 𝕄) : sProp 𝕄 :=
  iprop(owns (c : Thread nD τ) a2 fullShare X2 ∗ owns (c : Thread nD τ) a3 fullShare X3 ∗ owns (c : Thread nD τ) a4 fullShare X4
    ∗ owns (c : Thread nD τ) sS fullShare Ys ∗ owns (c : Thread nD τ) sD fullShare Yd
    ∗ owns (c : Thread nD τ) cS fullShare Zs ∗ owns (c : Thread nD τ) cD fullShare Zd
    ∗ owns (c : Thread nD τ) am fullShare M ∗ owns (c : Thread nD τ) aa fullShare A ∗ R)

section Rules
variable {c : Dev nD} {a2 : Memref sig .tc .vmem S1x2048x256 .bf16} {a3 : Memref sig .tc .vmem S1x33x10x256x128 .bf16}
    {a4 : Memref sig .tc .vmem S1x33x640x256 .bf16} {sS sD : Memref sig .tc .vmem S16x256x256 .f32}
    {cS cD am : Memref sig .tc .vmem S16x1x256 .f32} {aa : Memref sig .tc .vmem S16x80x256 .f32}
    {X2 : S1x2048x256.Idx → Elt F .bf16} {X3 : S1x33x10x256x128.Idx → Elt F .bf16} {X4 : S1x33x640x256.Idx → Elt F .bf16}
    {Ys Yd : S16x256x256.Idx → Elt F .f32} {Zs Zd M : S16x1x256.Idx → Elt F .f32} {A : S16x80x256.Idx → Elt F .f32}

theorem wp_SC {o3 : Fin 5 → ℕ} {h3 : ∀ a, o3 a + S1x1x1x256x128.size a ≤ S1x33x10x256x128.size a}
    {o2 : Fin 3 → ℕ} {h2 : ∀ a, o2 a + S1x128x256.size a ≤ S1x2048x256.size a}
    {og : Fin 3 → ℕ} {hs : ∀ a, og a + S1x256x256.size a ≤ S16x256x256.size a} {hc : ∀ a, og a + S1x1x256.size a ≤ S16x1x256.size a}
    {K : Vec F S1x1x1x256x128 .bf16 → Vec F S1x128x256 .bf16 → Vec F S1x256x256 .f32 → Vec F S1x1x256 .f32 → PR F α}
    {R : sProp 𝕄} {Q : α → sProp 𝕄}
    (h : ∀ ds dc, Held c a2 a3 a4 sS sD cS cD am aa X2 X3 X4 Ys
        (put Yd og S1x256x256.size (shapeCast S1x256x256 (scoresOf (window X3 o3 _ h3) (window X2 o2 _ h2)) shapeCasts_S256x256_S1x256x256))
        Zs (put Zd og S1x1x256.size (shapeCast S1x1x256 (colMax (scoresOf (window X3 o3 _ h3) (window X2 o2 _ h2))) shapeCasts_S1x256_S1x1x256))
        M A R ⊢ WP c (K (window X3 o3 _ h3) (window X2 o2 _ h2) ds dc) Q) :
    Held c a2 a3 a4 sS sD cS cD am aa X2 X3 X4 Ys Yd Zs Zd M A R
      ⊢ WP c (SC a2 a3 sD cD o3 h3 o2 h2 og hs hc K) Q := by
  unfold Held at h ⊢
  iintro ⟨H2, H3, H4, Hs, Hd, Gs, Gd, Hm, Ha, HR⟩
  iapply (ld_owns c _ _) $$ H3; iintro H3
  iapply (ld_owns c _ _) $$ H2; iintro H2
  iapply (ld_owns c _ _) $$ Hd; iintro Hd
  iapply (st_owns c _ _) $$ Hd; iintro Hd
  iapply (ld_owns c _ _) $$ Gd; iintro Gd
  iapply (st_owns c _ _) $$ Gd; iintro Gd
  iapply h
  isplitl [H2]; · iexact H2
  isplitl [H3]; · iexact H3
  isplitl [H4]; · iexact H4
  isplitl [Hs]; · iexact Hs
  isplitl [Hd]; · iexact Hd
  isplitl [Gs]; · iexact Gs
  isplitl [Gd]; · iexact Gd
  isplitl [Hm]; · iexact Hm
  isplitl [Ha]; · iexact Ha
  iexact HR

theorem wp_CO {o4 : Fin 4 → ℕ} {h4 : ∀ a, o4 a + S1x1x64x256.size a ≤ S1x33x640x256.size a}
    {og : Fin 3 → ℕ} {hs : ∀ a, og a + S1x256x256.size a ≤ S16x256x256.size a} {hc : ∀ a, og a + S1x1x256.size a ≤ S16x1x256.size a}
    {ha : ∀ a, og a + S1x80x256.size a ≤ S16x80x256.size a}
    {K : Vec F S1x1x256 .f32 → Vec F S1x1x256 .f32 → Vec F S1x256x256 .f32 → Vec F S1x1x256 .f32 → Vec F S1x1x64x256 .bf16 →
      Vec F S1x80x256 .f32 → Vec F S1x80x256 .f32 → PR F α}
    {R : sProp 𝕄} {Q : α → sProp 𝕄}
    (h : ∀ vm vc vs dm vv va da, Held c a2 a3 a4 sS sD cS cD am aa X2 X3 X4 Ys Yd Zs Zd
        (put M og S1x1x256.size (shapeCast S1x1x256 (newMax (window M og _ hc) (window Zs og _ hc)) shapeCasts_S1x256_S1x1x256))
        (put A og S1x80x256.size (shapeCast S1x80x256 (newAcc (window M og _ hc) (window Zs og _ hc) (window Ys og _ hs) (window X4 o4 _ h4)
          (window A og _ ha)) shapeCasts_S80x256_S1x80x256)) R ⊢ WP c (K vm vc vs dm vv va da) Q) :
    Held c a2 a3 a4 sS sD cS cD am aa X2 X3 X4 Ys Yd Zs Zd M A R
      ⊢ WP c (CO a4 sS cS am aa o4 h4 og hs hc ha K) Q := by
  unfold Held at h ⊢
  iintro ⟨H2, H3, H4, Hs, Hd, Gs, Gd, Hm, Ha, HR⟩
  iapply (ld_owns c _ _) $$ Hm; iintro Hm
  iapply (ld_owns c _ _) $$ Gs; iintro Gs
  iapply (ld_owns c _ _) $$ Hs; iintro Hs
  iapply (ld_owns c _ _) $$ Hm; iintro Hm
  iapply (st_owns c _ _) $$ Hm; iintro Hm
  iapply (ld_owns c _ _) $$ H4; iintro H4
  iapply (ld_owns c _ _) $$ Ha; iintro Ha
  iapply (ld_owns c _ _) $$ Ha; iintro Ha
  iapply (st_owns c _ _) $$ Ha; iintro Ha
  iapply h
  isplitl [H2]; · iexact H2
  isplitl [H3]; · iexact H3
  isplitl [H4]; · iexact H4
  isplitl [Hs]; · iexact Hs
  isplitl [Hd]; · iexact Hd
  isplitl [Gs]; · iexact Gs
  isplitl [Gd]; · iexact Gd
  isplitl [Hm]; · iexact Hm
  isplitl [Ha]; · iexact Ha
  iexact HR

end Rules

end Cert.KernelIdeal.Hand
-- ==== Proof.State.lean ====
module

public import proofs.«01_k».proof.Proof.Step

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

/-! ## Buffers filled head by head -/

section Fill
variable {α : Type} {n b c : ℕ}

/-- A window's contents, at any offsets (those outside wrap round). -/
def slabAt {s : Shape} (hs : ∀ a, 0 < s.size a) (X : s.Idx → α) (off size : Fin s.rank → ℕ) : ((a : Fin s.rank) → Fin (size a)) → α :=
  fun y => X fun a => ⟨(off a + (y a).val) % s.size a, Nat.mod_lt _ (hs a)⟩

theorem window_eq_slabAt {s : Shape} (hs : ∀ a, 0 < s.size a) (X : s.Idx → α) {off off' size : Fin s.rank → ℕ} (e : off = off')
    (h : ∀ a, off a + size a ≤ s.size a) : window X off size h = slabAt hs X off' size := by
  subst e
  funext y
  refine congrArg X (funext fun a => Fin.ext ?_)
  show off a + 1 * (y a).val = (off a + (y a).val) % s.size a
  rw [Nat.mod_eq_of_lt (lt_of_lt_of_le (Nat.add_lt_add_left (y a).isLt _) (h a)), one_mul]

/-- The place of an index in its slab. -/
def loc (y : (⟨3, ![n, b, c]⟩ : Shape).Idx) : (⟨3, ![1, b, c]⟩ : Shape).Idx :=
  fun a => match a with
    | 0 => (0 : Fin 1)
    | 1 => y 1
    | 2 => y 2

/-- The buffer of the slabs `f g`. -/
def stack (f : ℕ → (⟨3, ![1, b, c]⟩ : Shape).Idx → α) : (⟨3, ![n, b, c]⟩ : Shape).Idx → α := fun y => f (y 0).val (loc y)

/-- `B` in the slabs below `g`, `A` in the others. -/
def fill (A B : (⟨3, ![n, b, c]⟩ : Shape).Idx → α) (g : ℕ) : (⟨3, ![n, b, c]⟩ : Shape).Idx → α :=
  fun y => if (y 0).val < g then B y else A y

theorem fill_zero (A B : (⟨3, ![n, b, c]⟩ : Shape).Idx → α) : fill A B 0 = A := by funext y; simp [fill]

theorem fill_all (A B : (⟨3, ![n, b, c]⟩ : Shape).Idx → α) : fill A B n = B := by
  funext y; exact if_pos (y 0).isLt

theorem put_fill (A : (⟨3, ![n, b, c]⟩ : Shape).Idx → α) (f : ℕ → (⟨3, ![1, b, c]⟩ : Shape).Idx → α) {g : ℕ} {o : Fin 3 → ℕ} (e : o = ![g, 0, 0])
    {w : (⟨3, ![1, b, c]⟩ : Shape).Idx → α} (hw : w = f g) :
    put (s := ⟨3, ![n, b, c]⟩) (fill A (stack f) g) o (⟨3, ![1, b, c]⟩ : Shape).size w = fill A (stack f) (g + 1) := by
  subst e hw
  funext y
  unfold put fill
  by_cases hg : (y 0).val = g
  · have h : ∀ a : Fin 3, (![g, 0, 0] : Fin 3 → ℕ) a ≤ (y a).val ∧ (y a).val < (![g, 0, 0] : Fin 3 → ℕ) a + (![1, b, c] : Fin 3 → ℕ) a := by
      intro a
      match a with
      | 0 => exact ⟨hg.ge, by show (y 0).val < g + 1; omega⟩
      | 1 => exact ⟨Nat.zero_le _, by show (y 1).val < 0 + b; rw [zero_add]; exact (y 1).isLt⟩
      | 2 => exact ⟨Nat.zero_le _, by show (y 2).val < 0 + c; rw [zero_add]; exact (y 2).isLt⟩
    rw [dif_pos h, if_pos (by omega)]
    show _ = f (y 0).val (loc y)
    rw [hg]
    refine congrArg (f g) (funext fun a => Fin.ext ?_)
    match a with
    | 0 => show (y 0).val - g = 0; omega
    | 1 => rfl
    | 2 => rfl
  · have h : ¬ ∀ a : Fin 3, (![g, 0, 0] : Fin 3 → ℕ) a ≤ (y a).val ∧ (y a).val < (![g, 0, 0] : Fin 3 → ℕ) a + (![1, b, c] : Fin 3 → ℕ) a := by
      intro h
      have h0 := h 0
      have l : g ≤ (y 0).val := h0.1
      have r : (y 0).val < g + 1 := h0.2
      omega
    rw [dif_neg h]
    exact if_congr (by omega) rfl rfl

theorem window_stack (f : ℕ → (⟨3, ![1, b, c]⟩ : Shape).Idx → α) {g : ℕ} {o : Fin 3 → ℕ} (e : o = ![g, 0, 0])
    (h : ∀ a : Fin 3, o a + (⟨3, ![1, b, c]⟩ : Shape).size a ≤ (⟨3, ![n, b, c]⟩ : Shape).size a) :
    window (s := ⟨3, ![n, b, c]⟩) (stack f) o (⟨3, ![1, b, c]⟩ : Shape).size h = f g := by
  subst e
  funext y
  have e0 : (y 0).val = 0 := Nat.lt_one_iff.mp (y 0).isLt
  show f (g + 1 * (y 0).val) _ = _
  rw [e0]
  refine congrArg (f g) (funext fun a => Fin.ext ?_)
  match a with
  | 0 => exact e0.symm
  | 1 => show 0 + 1 * (y 1).val = (y 1).val; omega
  | 2 => show 0 + 1 * (y 2).val = (y 2).val; omega

theorem window_fill (A B : (⟨3, ![n, b, c]⟩ : Shape).Idx → α) {g : ℕ} {o : Fin 3 → ℕ} (e : o = ![g, 0, 0])
    (h : ∀ a : Fin 3, o a + (⟨3, ![1, b, c]⟩ : Shape).size a ≤ (⟨3, ![n, b, c]⟩ : Shape).size a) :
    window (s := ⟨3, ![n, b, c]⟩) (fill A B g) o (⟨3, ![1, b, c]⟩ : Shape).size h = window (s := ⟨3, ![n, b, c]⟩) A o (⟨3, ![1, b, c]⟩ : Shape).size h := by
  subst e
  funext y
  refine if_neg ?_
  show ¬ g + 1 * (y 0).val < g
  omega

theorem put_full (A w : (⟨3, ![n, b, c]⟩ : Shape).Idx → α) {o : Fin 3 → ℕ} (e : o = ![0, 0, 0]) :
    put (s := ⟨3, ![n, b, c]⟩) A o (⟨3, ![n, b, c]⟩ : Shape).size w = w := by
  subst e
  funext y
  unfold put
  have h : ∀ a : Fin 3, (![0, 0, 0] : Fin 3 → ℕ) a ≤ (y a).val ∧ (y a).val < (![0, 0, 0] : Fin 3 → ℕ) a + (![n, b, c] : Fin 3 → ℕ) a := by
    intro a
    match a with
    | 0 => exact ⟨Nat.zero_le _, by show (y 0).val < 0 + n; rw [zero_add]; exact (y 0).isLt⟩
    | 1 => exact ⟨Nat.zero_le _, by show (y 1).val < 0 + b; rw [zero_add]; exact (y 1).isLt⟩
    | 2 => exact ⟨Nat.zero_le _, by show (y 2).val < 0 + c; rw [zero_add]; exact (y 2).isLt⟩
  rw [dif_pos h]
  refine congrArg w (funext fun a => Fin.ext ?_)
  match a with
  | 0 => rfl
  | 1 => rfl
  | 2 => rfl

end Fill

/-! ## The contents, step by step -/

variable {F : FTy → Type} [FloatOps F]

local notation "𝕄" => MT nD τ sig Unit (Elt F) ℕ (UR sig nD τ) ℕ

/-- The keys' and values' group of a head. -/
def kv (g : ℕ) : ℕ := if g < 4 then 0 else if g < 8 then 1 else g - 6

section Contents
variable (X2 : S1x2048x256.Idx → Elt F .bf16) (X3 : S1x33x10x256x128.Idx → Elt F .bf16) (X4 : S1x33x640x256.Idx → Elt F .bf16)

/-- A head's queries. -/
def qAt (g : ℕ) : Vec F S1x128x256 .bf16 := slabAt (s := S1x2048x256) (by decide) X2 ![0, 128 * g, 0] S1x128x256.size
/-- A head's keys of a tile. -/
def kAt (n g : ℕ) : Vec F S1x1x1x256x128 .bf16 := slabAt (s := S1x33x10x256x128) (by decide) X3 ![0, n, kv g, 0, 0] S1x1x1x256x128.size
/-- A head's values of a tile. -/
def vAt (n g : ℕ) : Vec F S1x1x64x256 .bf16 := slabAt (s := S1x33x640x256) (by decide) X4 ![0, n, 64 * kv g, 0] S1x1x64x256.size

def scAt (n g : ℕ) : FVec F S1x256x256 .f32 := shapeCast S1x256x256 (scoresOf (kAt X3 n g) (qAt X2 g)) shapeCasts_S256x256_S1x256x256
def cmAt (n g : ℕ) : FVec F S1x1x256 .f32 := shapeCast S1x1x256 (colMax (scoresOf (kAt X3 n g) (qAt X2 g))) shapeCasts_S1x256_S1x1x256

/-- A head's running maximum before tile `n`. -/
def mxAt : ℕ → ℕ → FVec F S1x1x256 .f32
  | 0, _ => fun _ => Scalar.ofBits .f32 0xF149F2CA#32
  | n + 1, g => shapeCast S1x1x256 (newMax (mxAt n g) (cmAt X2 X3 n g)) shapeCasts_S1x256_S1x1x256

/-- A head's accumulator before tile `n`. -/
def acAt : ℕ → ℕ → FVec F S1x80x256 .f32
  | 0, _ => fun _ => Scalar.ofBits .f32 0x00000000#32
  | n + 1, g => shapeCast S1x80x256 (newAcc (mxAt X2 X3 n g) (cmAt X2 X3 n g) (scAt X2 X3 n g) (vAt X4 n g) (acAt n g)) shapeCasts_S80x256_S1x80x256

def Sc (n : ℕ) : S16x256x256.Idx → Elt F .f32 := stack (n := 16) (b := 256) (c := 256) (scAt X2 X3 n)
def Cm (n : ℕ) : S16x1x256.Idx → Elt F .f32 := stack (n := 16) (b := 1) (c := 256) (cmAt X2 X3 n)
def Mx (n : ℕ) : S16x1x256.Idx → Elt F .f32 := stack (n := 16) (b := 1) (c := 256) (mxAt X2 X3 n)
def Ac (n : ℕ) : S16x80x256.Idx → Elt F .f32 := stack (n := 16) (b := 80) (c := 256) (acAt X2 X3 X4 n)

end Contents

section Rules
variable {α : Type} {c : Dev nD} {a2 : Memref sig .tc .vmem S1x2048x256 .bf16} {a3 : Memref sig .tc .vmem S1x33x10x256x128 .bf16}
    {a4 : Memref sig .tc .vmem S1x33x640x256 .bf16} {sS sD : Memref sig .tc .vmem S16x256x256 .f32}
    {cS cD am : Memref sig .tc .vmem S16x1x256 .f32} {aa : Memref sig .tc .vmem S16x80x256 .f32}
    {X2 : S1x2048x256.Idx → Elt F .bf16} {X3 : S1x33x10x256x128.Idx → Elt F .bf16} {X4 : S1x33x640x256.Idx → Elt F .bf16}
    {Ys Yd : S16x256x256.Idx → Elt F .f32} {Zs Zd M : S16x1x256.Idx → Elt F .f32} {A : S16x80x256.Idx → Elt F .f32}
    {o3 : Fin 5 → ℕ} {h3 : ∀ a, o3 a + S1x1x1x256x128.size a ≤ S1x33x10x256x128.size a}
    {o2 : Fin 3 → ℕ} {h2 : ∀ a, o2 a + S1x128x256.size a ≤ S1x2048x256.size a}
    {o4 : Fin 4 → ℕ} {h4 : ∀ a, o4 a + S1x1x64x256.size a ≤ S1x33x640x256.size a}
    {og : Fin 3 → ℕ} {hs : ∀ a, og a + S1x256x256.size a ≤ S16x256x256.size a} {hc : ∀ a, og a + S1x1x256.size a ≤ S16x1x256.size a}
    {og' : Fin 3 → ℕ} {hs' : ∀ a, og' a + S1x256x256.size a ≤ S16x256x256.size a} {hc' : ∀ a, og' a + S1x1x256.size a ≤ S16x1x256.size a}
    {ha : ∀ a, og' a + S1x80x256.size a ≤ S16x80x256.size a}

/-- A head's scores, of tile `n`. -/
theorem wp_scores {n g : ℕ} {R : sProp 𝕄} {Q : α → sProp 𝕄}
    {K : Vec F S1x1x1x256x128 .bf16 → Vec F S1x128x256 .bf16 → Vec F S1x256x256 .f32 → Vec F S1x1x256 .f32 → PR F α}
    (e3 : o3 = ![0, n, kv g, 0, 0]) (e2 : o2 = ![0, 128 * g, 0]) (eg : og = ![g, 0, 0])
    (h : ∀ vk vq ds dc, Held c a2 a3 a4 sS sD cS cD am aa X2 X3 X4 Ys (fill (n := 16) (b := 256) (c := 256) Yd (Sc X2 X3 n) (g + 1)) Zs
        (fill (n := 16) (b := 1) (c := 256) Zd (Cm X2 X3 n) (g + 1)) M A R ⊢ WP c (K vk vq ds dc) Q) :
    Held c a2 a3 a4 sS sD cS cD am aa X2 X3 X4 Ys (fill (n := 16) (b := 256) (c := 256) Yd (Sc X2 X3 n) g) Zs
        (fill (n := 16) (b := 1) (c := 256) Zd (Cm X2 X3 n) g) M A R
      ⊢ WP c (SC a2 a3 sD cD o3 h3 o2 h2 og hs hc K) Q := by
  refine wp_SC fun ds dc => ?_
  have k3 : window X3 o3 _ h3 = kAt X3 n g := window_eq_slabAt _ X3 e3 h3
  have k2 : window X2 o2 _ h2 = qAt X2 g := window_eq_slabAt _ X2 e2 h2
  rw [k3, k2]
  have q1 := put_fill (n := 16) (b := 256) (c := 256) Yd (scAt X2 X3 n) eg (w := scAt X2 X3 n g) rfl
  have q2 := put_fill (n := 16) (b := 1) (c := 256) Zd (cmAt X2 X3 n) eg (w := cmAt X2 X3 n g) rfl
  have := h (kAt X3 n g) (qAt X2 g) ds dc
  unfold Sc Cm at this ⊢
  rw [← q1, ← q2] at this
  exact this

/-- A head's update by tile `n`. -/
theorem wp_update {n g : ℕ} {R : sProp 𝕄} {Q : α → sProp 𝕄}
    {K : Vec F S1x1x256 .f32 → Vec F S1x1x256 .f32 → Vec F S1x256x256 .f32 → Vec F S1x1x256 .f32 → Vec F S1x1x64x256 .bf16 →
      Vec F S1x80x256 .f32 → Vec F S1x80x256 .f32 → PR F α}
    (e4 : o4 = ![0, n, 64 * kv g, 0]) (eg : og' = ![g, 0, 0])
    (h : ∀ vm vc vs dm vv va da, Held c a2 a3 a4 sS sD cS cD am aa X2 X3 X4 (Sc X2 X3 n) Yd (Cm X2 X3 n) Zd
        (fill (n := 16) (b := 1) (c := 256) (Mx X2 X3 n) (Mx X2 X3 (n + 1)) (g + 1))
        (fill (n := 16) (b := 80) (c := 256) (Ac X2 X3 X4 n) (Ac X2 X3 X4 (n + 1)) (g + 1)) R ⊢ WP c (K vm vc vs dm vv va da) Q) :
    Held c a2 a3 a4 sS sD cS cD am aa X2 X3 X4 (Sc X2 X3 n) Yd (Cm X2 X3 n) Zd
        (fill (n := 16) (b := 1) (c := 256) (Mx X2 X3 n) (Mx X2 X3 (n + 1)) g)
        (fill (n := 16) (b := 80) (c := 256) (Ac X2 X3 X4 n) (Ac X2 X3 X4 (n + 1)) g) R
      ⊢ WP c (CO a4 sS cS am aa o4 h4 og' hs' hc' ha K) Q := by
  refine wp_CO fun vm vc vs dm vv va da => ?_
  have k4 : window X4 o4 _ h4 = vAt X4 n g := window_eq_slabAt _ X4 e4 h4
  have kc : window (Cm X2 X3 n) og' _ hc' = cmAt X2 X3 n g := window_stack (n := 16) (b := 1) (c := 256) _ eg hc'
  have ks : window (Sc X2 X3 n) og' _ hs' = scAt X2 X3 n g := window_stack (n := 16) (b := 256) (c := 256) _ eg hs'
  have km : window (fill (n := 16) (b := 1) (c := 256) (Mx X2 X3 n) (Mx X2 X3 (n + 1)) g) og' _ hc' = mxAt X2 X3 n g :=
    (window_fill (n := 16) (b := 1) (c := 256) _ _ eg hc').trans (window_stack (n := 16) (b := 1) (c := 256) _ eg hc')
  have ka : window (fill (n := 16) (b := 80) (c := 256) (Ac X2 X3 X4 n) (Ac X2 X3 X4 (n + 1)) g) og' _ ha = acAt X2 X3 X4 n g :=
    (window_fill (n := 16) (b := 80) (c := 256) _ _ eg ha).trans (window_stack (n := 16) (b := 80) (c := 256) _ eg ha)
  rw [k4, kc, ks, km, ka]
  have q1 : put (fill (n := 16) (b := 1) (c := 256) (Mx X2 X3 n) (Mx X2 X3 (n + 1)) g) og' S1x1x256.size (mxAt X2 X3 (n + 1) g) = _ :=
    put_fill (n := 16) (b := 1) (c := 256) (Mx X2 X3 n) (mxAt X2 X3 (n + 1)) eg rfl
  have q2 : put (fill (n := 16) (b := 80) (c := 256) (Ac X2 X3 X4 n) (Ac X2 X3 X4 (n + 1)) g) og' S1x80x256.size (acAt X2 X3 X4 (n + 1) g) = _ :=
    put_fill (n := 16) (b := 80) (c := 256) (Ac X2 X3 X4 n) (acAt X2 X3 X4 (n + 1)) eg rfl
  have := h vm vc vs dm vv va da
  erw [← q1, ← q2] at this
  exact this

/-- A head's step: its scores of the tile that follows, then its update by this one. -/
theorem wp_head {n g : ℕ} {R : sProp 𝕄} {Q : α → sProp 𝕄}
    {K : Vec F S1x1x1x256x128 .bf16 → Vec F S1x128x256 .bf16 → Vec F S1x256x256 .f32 → Vec F S1x1x256 .f32 →
      Vec F S1x1x256 .f32 → Vec F S1x1x256 .f32 → Vec F S1x256x256 .f32 → Vec F S1x1x256 .f32 → Vec F S1x1x64x256 .bf16 →
      Vec F S1x80x256 .f32 → Vec F S1x80x256 .f32 → PR F α}
    (e3 : o3 = ![0, n + 1, kv g, 0, 0]) (e2 : o2 = ![0, 128 * g, 0]) (eg : og = ![g, 0, 0])
    (e4 : o4 = ![0, n, 64 * kv g, 0]) (eg' : og' = ![g, 0, 0])
    (h : ∀ vk vq ds dc vm vc vs dm vv va da, Held c a2 a3 a4 sS sD cS cD am aa X2 X3 X4
        (Sc X2 X3 n) (fill (n := 16) (b := 256) (c := 256) Yd (Sc X2 X3 (n + 1)) (g + 1))
        (Cm X2 X3 n) (fill (n := 16) (b := 1) (c := 256) Zd (Cm X2 X3 (n + 1)) (g + 1))
        (fill (n := 16) (b := 1) (c := 256) (Mx X2 X3 n) (Mx X2 X3 (n + 1)) (g + 1))
        (fill (n := 16) (b := 80) (c := 256) (Ac X2 X3 X4 n) (Ac X2 X3 X4 (n + 1)) (g + 1)) R ⊢ WP c (K vk vq ds dc vm vc vs dm vv va da) Q) :
    Held c a2 a3 a4 sS sD cS cD am aa X2 X3 X4
        (Sc X2 X3 n) (fill (n := 16) (b := 256) (c := 256) Yd (Sc X2 X3 (n + 1)) g)
        (Cm X2 X3 n) (fill (n := 16) (b := 1) (c := 256) Zd (Cm X2 X3 (n + 1)) g)
        (fill (n := 16) (b := 1) (c := 256) (Mx X2 X3 n) (Mx X2 X3 (n + 1)) g)
        (fill (n := 16) (b := 80) (c := 256) (Ac X2 X3 X4 n) (Ac X2 X3 X4 (n + 1)) g) R
      ⊢ WP c (SC a2 a3 sD cD o3 h3 o2 h2 og hs hc fun vk vq ds dc => CO a4 sS cS am aa o4 h4 og' hs' hc' ha (K vk vq ds dc)) Q :=
  wp_scores e3 e2 eg fun vk vq ds dc => wp_update e4 eg' (h vk vq ds dc)

/-- From a tile to the one that follows: the buffers change their parts. -/
theorem held_next {n : ℕ} {R : sProp 𝕄} {P : sProp 𝕄}
    (h : Held c a2 a3 a4 sD sS cD cS am aa X2 X3 X4
        (Sc X2 X3 (n + 1)) (fill (n := 16) (b := 256) (c := 256) (Sc X2 X3 n) (Sc X2 X3 (n + 2)) 0)
        (Cm X2 X3 (n + 1)) (fill (n := 16) (b := 1) (c := 256) (Cm X2 X3 n) (Cm X2 X3 (n + 2)) 0)
        (fill (n := 16) (b := 1) (c := 256) (Mx X2 X3 (n + 1)) (Mx X2 X3 (n + 2)) 0)
        (fill (n := 16) (b := 80) (c := 256) (Ac X2 X3 X4 (n + 1)) (Ac X2 X3 X4 (n + 2)) 0) R ⊢ P) :
    Held c a2 a3 a4 sS sD cS cD am aa X2 X3 X4
        (Sc X2 X3 n) (fill (n := 16) (b := 256) (c := 256) Yd (Sc X2 X3 (n + 1)) 16)
        (Cm X2 X3 n) (fill (n := 16) (b := 1) (c := 256) Zd (Cm X2 X3 (n + 1)) 16)
        (fill (n := 16) (b := 1) (c := 256) (Mx X2 X3 n) (Mx X2 X3 (n + 1)) 16)
        (fill (n := 16) (b := 80) (c := 256) (Ac X2 X3 X4 n) (Ac X2 X3 X4 (n + 1)) 16) R ⊢ P := by
  refine .trans ?_ h
  rw [fill_all, fill_all, fill_all, fill_all, fill_zero, fill_zero, fill_zero, fill_zero]
  unfold Held
  iintro ⟨H2, H3, H4, Hs, Hd, Gs, Gd, Hm, Ha, HR⟩
  isplitl [H2]; · iexact H2
  isplitl [H3]; · iexact H3
  isplitl [H4]; · iexact H4
  isplitl [Hd]; · iexact Hd
  isplitl [Hs]; · iexact Hs
  isplitl [Gd]; · iexact Gd
  isplitl [Gs]; · iexact Gs
  isplitl [Hm]; · iexact Hm
  isplitl [Ha]; · iexact Ha
  iexact HR

end Rules

end Cert.KernelIdeal.Hand
-- ==== Proof.Trip.lean ====
module

public import proofs.«01_k».proof.Proof.State

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! ## The loop's offsets -/

/-- Offsets of a trip's keys of group `j`, and of its values. -/
abbrev OffK (f : Fin k0_t1_loop.trips → BitVec 32 → Fin 5 → ℕ) (j : ℕ) : Prop :=
  ∀ {t : Fin k0_t1_loop.trips} {b : BitVec 32} {n g : ℕ}, b.toNat < 8 → 8 * t.val + b.toNat + 1 = n → j = kv g → f t b = ![0, n, kv g, 0, 0]
abbrev OffV (f : Fin k0_t1_loop.trips → BitVec 32 → Fin 4 → ℕ) (j : ℕ) : Prop :=
  ∀ {t : Fin k0_t1_loop.trips} {b : BitVec 32} {n g : ℕ}, b.toNat < 8 → 8 * t.val + b.toNat = n → j = kv g → f t b = ![0, n, 64 * kv g, 0]

theorem offK {f : Fin k0_t1_loop.trips → BitVec 32 → Fin 5 → ℕ} {j : ℕ}
    (h : ∀ (t : Fin k0_t1_loop.trips) (r : Fin 8), f t (BitVec.ofNat 32 r.val) = ![0, 8 * t.val + r.val + 1, j, 0, 0]) : OffK f j := by
  intro t b n g hb hn hj
  subst hn hj
  have := h t ⟨b.toNat, hb⟩
  rwa [BitVec.ofNat_toNat, BitVec.setWidth_eq] at this

theorem offV {f : Fin k0_t1_loop.trips → BitVec 32 → Fin 4 → ℕ} {j : ℕ}
    (h : ∀ (t : Fin k0_t1_loop.trips) (r : Fin 8), f t (BitVec.ofNat 32 r.val) = ![0, 8 * t.val + r.val, 64 * j, 0]) : OffV f j := by
  intro t b n g hb hn hj
  subst hn hj
  have := h t ⟨b.toNat, hb⟩
  rwa [BitVec.ofNat_toNat, BitVec.setWidth_eq] at this

theorem off1 : OffK k0_off1 0 := offK (by decide)
theorem off2 : OffV k0_off2 0 := offV (by decide)
theorem off3 : OffK k0_off3 1 := offK (by decide)
theorem off4 : OffV k0_off4 1 := offV (by decide)
theorem off5 : OffK k0_off5 2 := offK (by decide)
theorem off6 : OffV k0_off6 2 := offV (by decide)
theorem off7 : OffK k0_off7 3 := offK (by decide)
theorem off8 : OffV k0_off8 3 := offV (by decide)
theorem off9 : OffK k0_off9 4 := offK (by decide)
theorem off10 : OffV k0_off10 4 := offV (by decide)
theorem off11 : OffK k0_off11 5 := offK (by decide)
theorem off12 : OffV k0_off12 5 := offV (by decide)
theorem off13 : OffK k0_off13 6 := offK (by decide)
theorem off14 : OffV k0_off14 6 := offV (by decide)
theorem off15 : OffK k0_off15 7 := offK (by decide)
theorem off16 : OffV k0_off16 7 := offV (by decide)
theorem off17 : OffK k0_off17 8 := offK (by decide)
theorem off18 : OffV k0_off18 8 := offV (by decide)
theorem off19 : OffK k0_off19 9 := offK (by decide)
theorem off20 : OffV k0_off20 9 := offV (by decide)

/-! ## One trip of the loop: eight tiles -/

/-- What holds before tile `n`'s updates. -/
def Before (c : Dev nD) (a2 : Memref sig .tc .vmem S1x2048x256 .bf16) (a3 : Memref sig .tc .vmem S1x33x10x256x128 .bf16)
    (a4 : Memref sig .tc .vmem S1x33x640x256 .bf16) (sS sD : Memref sig .tc .vmem S16x256x256 .f32)
    (cS cD am : Memref sig .tc .vmem S16x1x256 .f32) (aa : Memref sig .tc .vmem S16x80x256 .f32)
    (X2 : S1x2048x256.Idx → Elt F .bf16) (X3 : S1x33x10x256x128.Idx → Elt F .bf16) (X4 : S1x33x640x256.Idx → Elt F .bf16)
    (Yd : S16x256x256.Idx → Elt F .f32) (Zd : S16x1x256.Idx → Elt F .f32) (R : sProp 𝕄) (n : ℕ) : sProp 𝕄 :=
  Held c a2 a3 a4 sS sD cS cD am aa X2 X3 X4
        (Sc X2 X3 n) (fill (n := 16) (b := 256) (c := 256) Yd (Sc X2 X3 (n + 1)) 0)
        (Cm X2 X3 n) (fill (n := 16) (b := 1) (c := 256) Zd (Cm X2 X3 (n + 1)) 0)
        (fill (n := 16) (b := 1) (c := 256) (Mx X2 X3 n) (Mx X2 X3 (n + 1)) 0)
        (fill (n := 16) (b := 80) (c := 256) (Ac X2 X3 X4 n) (Ac X2 X3 X4 (n + 1)) 0) R

set_option maxHeartbeats 8000000 in
theorem wp_trip (c : Dev nD)  (i : grid0.Coords) (arg2 : Memref sig .tc .vmem S1x2048x256 .bf16) (harg2 : arg2.IsWhole) (arg3 : Memref sig .tc .vmem S1x33x10x256x128 .bf16) (harg3 : arg3.IsWhole) (arg4 : Memref sig .tc .vmem S1x33x640x256 .bf16) (harg4 : arg4.IsWhole) (arg5 : Memref sig .tc .vmem S1x256x1024 .bf16) (harg5 : arg5.IsWhole) (arg6 : Memref sig .tc .vmem S16x256x256 .f32) (harg6 : arg6.IsWhole) (arg7 : Memref sig .tc .vmem S16x256x256 .f32) (harg7 : arg7.IsWhole) (arg8 : Memref sig .tc .vmem S16x1x256 .f32) (harg8 : arg8.IsWhole) (arg9 : Memref sig .tc .vmem S16x1x256 .f32) (harg9 : arg9.IsWhole) (arg10 : Memref sig .tc .vmem S16x1x256 .f32) (harg10 : arg10.IsWhole) (arg11 : Memref sig .tc .vmem S16x80x256 .f32) (harg11 : arg11.IsWhole) (k0_h2 : k0_cond2 i = 1#1) (v206 : FVec F S1x256 .f32) (v207 : Vec F S1x1x256 .f32)
    (t : Fin k0_t1_loop.trips) (n : ℕ) (hn : n = 8 * t.val)
    (X2 : S1x2048x256.Idx → Elt F .bf16) (X3 : S1x33x10x256x128.Idx → Elt F .bf16) (X4 : S1x33x640x256.Idx → Elt F .bf16)
    (Yd : S16x256x256.Idx → Elt F .f32) (Zd : S16x1x256.Idx → Elt F .f32) (R : sProp 𝕄) (Q : Unit → sProp 𝕄)
    (h : Before c arg2 arg3 arg4 arg6 arg7 arg8 arg9 arg10 arg11 X2 X3 X4 (Sc X2 X3 (n + 7)) (Cm X2 X3 (n + 7)) R (n + 8) ⊢ Q ()) :
    Before c arg2 arg3 arg4 arg6 arg7 arg8 arg9 arg10 arg11 X2 X3 X4 Yd Zd R n ⊢
    WP c (Gen.k0_t1_body i arg2 harg2 arg3 harg3 arg4 harg4 arg5 harg5 arg6 harg6 arg7 harg7 arg8 harg8 arg9 harg9 arg10 harg10 arg11 harg11 k0_h2 v206 v207 t ()) Q := by
  subst hn
  unfold Before at h ⊢
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  iterate 16 (refine wp_head (by with_reducible_and_instances first | exact off1 (by decide) rfl rfl | exact off3 (by decide) rfl rfl | exact off5 (by decide) rfl rfl | exact off7 (by decide) rfl rfl | exact off9 (by decide) rfl rfl | exact off11 (by decide) rfl rfl | exact off13 (by decide) rfl rfl | exact off15 (by decide) rfl rfl | exact off17 (by decide) rfl rfl | exact off19 (by decide) rfl rfl) rfl rfl (by with_reducible_and_instances first | exact off2 (by decide) rfl rfl | exact off4 (by decide) rfl rfl | exact off6 (by decide) rfl rfl | exact off8 (by decide) rfl rfl | exact off10 (by decide) rfl rfl | exact off12 (by decide) rfl rfl | exact off14 (by decide) rfl rfl | exact off16 (by decide) rfl rfl | exact off18 (by decide) rfl rfl | exact off20 (by decide) rfl rfl) rfl fun _ _ _ _ _ _ _ _ _ _ _ => ?_)
  refine held_next ?_
  exact h.trans fupd_intro

end Cert.KernelIdeal.Hand
-- ==== Proof.Run.lean ====
module

public import proofs.«01_k».proof.Proof.Trip

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! ## What is written -/

/-- A head's output: its accumulated values over its accumulated weights. -/
def headOut (A : S16x80x256.Idx → Elt F .f32) (g : Fin 16) : FVec F S64x256 .f32 :=
  divf (shapeCast S64x256 (window A ![g.val, 0, 0] S1x64x256.size (by
      intro a; match a with
        | 0 => exact g.isLt
        | 1 => exact (by decide : 0 + 64 ≤ 80)
        | 2 => exact (by decide : 0 + 256 ≤ 256))) shapeCasts_S1x64x256_S64x256)
    (broadcastTo S64x256 (shapeCast S1x256 (window A ![g.val, 64, 0] S1x1x256.size (by
      intro a; match a with
        | 0 => exact g.isLt
        | 1 => exact (by decide : 64 + 1 ≤ 80)
        | 2 => exact (by decide : 0 + 256 ≤ 256))) shapeCasts_S1x1x256_S1x256) broadcasts_S1x256_S64x256)

/-- Every head's. -/
def headsOut (A : S16x80x256.Idx → Elt F .f32) : FVec F S256x1024 .f32 :=
  transpose S256x1024 [1, 0] (concatenate S1024x256 0 [⟨S64x256, headOut A 0⟩, ⟨S64x256, headOut A 1⟩, ⟨S64x256, headOut A 2⟩, ⟨S64x256, headOut A 3⟩, ⟨S64x256, headOut A 4⟩, ⟨S64x256, headOut A 5⟩, ⟨S64x256, headOut A 6⟩, ⟨S64x256, headOut A 7⟩, ⟨S64x256, headOut A 8⟩, ⟨S64x256, headOut A 9⟩, ⟨S64x256, headOut A 10⟩, ⟨S64x256, headOut A 11⟩, ⟨S64x256, headOut A 12⟩, ⟨S64x256, headOut A 13⟩, ⟨S64x256, headOut A 14⟩, ⟨S64x256, headOut A 15⟩] concatenates_S64x256_S64x256_S64x256_S64x256_S64x256_S64x256_S64x256_S64x256_S64x256_S64x256_S64x256_S64x256_S64x256_S64x256_S64x256_S64x256_S1024x256_d0)
    transposes_S1024x256_p1_0_S256x1024

/-- The block written, from the accumulators. -/
def blockOut (A : S16x80x256.Idx → Elt F .f32) : FVec F S1x256x1024 .bf16 :=
  shapeCast S1x256x1024 (truncf .bf16 (headsOut A) bitsLt_bf16_f32) shapeCasts_S256x1024_S1x256x1024

/-! ## Rules of the rest -/

section Rules
variable {α : Type} {c : Dev nD} {a2 : Memref sig .tc .vmem S1x2048x256 .bf16} {a3 : Memref sig .tc .vmem S1x33x10x256x128 .bf16}
    {a4 : Memref sig .tc .vmem S1x33x640x256 .bf16} {sS sD : Memref sig .tc .vmem S16x256x256 .f32}
    {cS cD am : Memref sig .tc .vmem S16x1x256 .f32} {aa : Memref sig .tc .vmem S16x80x256 .f32}
    {X2 : S1x2048x256.Idx → Elt F .bf16} {X3 : S1x33x10x256x128.Idx → Elt F .bf16} {X4 : S1x33x640x256.Idx → Elt F .bf16}
    {Ys Yd : S16x256x256.Idx → Elt F .f32} {Zs Zd M : S16x1x256.Idx → Elt F .f32} {A : S16x80x256.Idx → Elt F .f32}

theorem wp_start {R : sProp 𝕄} {Q : α → sProp 𝕄} {o o' : Fin 3 → ℕ} {hc : ∀ a, o a + S16x1x256.size a ≤ S16x1x256.size a}
    {ha : ∀ a, o' a + S16x80x256.size a ≤ S16x80x256.size a} {w : Vec F S16x1x256 .f32} {w' : Vec F S16x80x256 .f32}
    {K : Vec F S16x1x256 .f32 → Vec F S16x80x256 .f32 → PR F α}
    (e : o = ![0, 0, 0]) (e' : o' = ![0, 0, 0]) (ew : w = Mx X2 X3 0) (ew' : w' = Ac X2 X3 X4 0)
    (h : ∀ d d', Held c a2 a3 a4 sS sD cS cD am aa X2 X3 X4 Ys Yd Zs Zd (Mx X2 X3 0) (Ac X2 X3 X4 0) R ⊢ WP c (K d d') Q) :
    Held c a2 a3 a4 sS sD cS cD am aa X2 X3 X4 Ys Yd Zs Zd M A R
      ⊢ WP c (.op (.load am (Rect.unit (s := S16x1x256) o S16x1x256.size hc).toLoadRect (View.loadsAt_vmem h_S16x1x256)) fun d =>
        .op (.store am (Rect.unit (s := S16x1x256) o S16x1x256.size hc) w Finset.univ (View.stores_vmem_bits_univ h_S16x1x256 rfl) (.inl rfl)) fun _ =>
        .op (.load aa (Rect.unit (s := S16x80x256) o' S16x80x256.size ha).toLoadRect (View.loadsAt_vmem h_S16x80x256)) fun d' =>
        .op (.store aa (Rect.unit (s := S16x80x256) o' S16x80x256.size ha) w' Finset.univ (View.stores_vmem_bits_univ h_S16x80x256 rfl) (.inl rfl)) fun _ =>
        K d d') Q := by
  have q : put M o S16x1x256.size w = Mx X2 X3 0 := (put_full (n := 16) (b := 1) (c := 256) M w e).trans ew
  have q' : put A o' S16x80x256.size w' = Ac X2 X3 X4 0 := (put_full (n := 16) (b := 80) (c := 256) A w' e').trans ew'
  rw [← q, ← q'] at h
  unfold Held at h ⊢
  iintro ⟨H2, H3, H4, Hs, Hd, Gs, Gd, Hm, Ha, HR⟩
  iapply (ld_owns c _ _) $$ Hm; iintro Hm
  iapply (st_owns c _ _) $$ Hm; iintro Hm
  iapply (ld_owns c _ _) $$ Ha; iintro Ha
  iapply (st_owns c _ _) $$ Ha; iintro Ha
  iapply h
  isplitl [H2]; · iexact H2
  isplitl [H3]; · iexact H3
  isplitl [H4]; · iexact H4
  isplitl [Hs]; · iexact Hs
  isplitl [Hd]; · iexact Hd
  isplitl [Gs]; · iexact Gs
  isplitl [Gd]; · iexact Gd
  isplitl [Hm]; · iexact Hm
  isplitl [Ha]; · iexact Ha
  iexact HR

theorem wp_read {R : sProp 𝕄} {Q : α → sProp 𝕄} {o size : Fin 3 → ℕ} {h : ∀ a, o a + size a ≤ S16x80x256.size a}
    {hl : aa.view.LoadsAt (Rect.unit (s := S16x80x256) o size h).toLoadRect} {K : ((Rect.unit (s := S16x80x256) o size h).shape.Idx → Elt F .f32) → PR F α}
    (hK : Held c a2 a3 a4 sS sD cS cD am aa X2 X3 X4 Ys Yd Zs Zd M A R ⊢ WP c (K (window A o size h)) Q) :
    Held c a2 a3 a4 sS sD cS cD am aa X2 X3 X4 Ys Yd Zs Zd M A R
      ⊢ WP c (.op (.load aa (Rect.unit (s := S16x80x256) o size h).toLoadRect hl) K) Q := by
  unfold Held at hK ⊢
  iintro ⟨H2, H3, H4, Hs, Hd, Gs, Gd, Hm, Ha, HR⟩
  iapply (ld_owns c _ _) $$ Ha; iintro Ha
  iapply hK
  isplitl [H2]; · iexact H2
  isplitl [H3]; · iexact H3
  isplitl [H4]; · iexact H4
  isplitl [Hs]; · iexact Hs
  isplitl [Hd]; · iexact Hd
  isplitl [Gs]; · iexact Gs
  isplitl [Gd]; · iexact Gd
  isplitl [Hm]; · iexact Hm
  isplitl [Ha]; · iexact Ha
  iexact HR

/-- The first scores are to be filled in. -/
theorem held_scores {R P : sProp 𝕄}
    (h : Held c a2 a3 a4 sS sD cS cD am aa X2 X3 X4 Ys (fill (n := 16) (b := 256) (c := 256) Yd (Sc X2 X3 0) 0) Zs
        (fill (n := 16) (b := 1) (c := 256) Zd (Cm X2 X3 0) 0) M A R ⊢ P) :
    Held c a2 a3 a4 sS sD cS cD am aa X2 X3 X4 Ys Yd Zs Zd M A R ⊢ P := by
  rwa [fill_zero, fill_zero] at h

/-- The first scores are in. -/
theorem held_first {R P : sProp 𝕄}
    (h : Before c a2 a3 a4 sD sS cD cS am aa X2 X3 X4 Ys Zs R 0 ⊢ P) :
    Held c a2 a3 a4 sS sD cS cD am aa X2 X3 X4 Ys (fill (n := 16) (b := 256) (c := 256) Yd (Sc X2 X3 0) 16) Zs
        (fill (n := 16) (b := 1) (c := 256) Zd (Cm X2 X3 0) 16) (Mx X2 X3 0) (Ac X2 X3 X4 0) R ⊢ P := by
  refine .trans ?_ h
  unfold Before
  rw [fill_all, fill_all, fill_zero, fill_zero, fill_zero, fill_zero]
  unfold Held
  iintro ⟨H2, H3, H4, Hs, Hd, Gs, Gd, Hm, Ha, HR⟩
  isplitl [H2]; · iexact H2
  isplitl [H3]; · iexact H3
  isplitl [H4]; · iexact H4
  isplitl [Hd]; · iexact Hd
  isplitl [Hs]; · iexact Hs
  isplitl [Gd]; · iexact Gd
  isplitl [Gs]; · iexact Gs
  isplitl [Hm]; · iexact Hm
  isplitl [Ha]; · iexact Ha
  iexact HR

/-- Every update is done. -/
theorem held_last {n : ℕ} {R P : sProp 𝕄}
    (h : Held c a2 a3 a4 sS sD cS cD am aa X2 X3 X4 Ys Yd Zs Zd (Mx X2 X3 (n + 1)) (Ac X2 X3 X4 (n + 1)) R ⊢ P) :
    Held c a2 a3 a4 sS sD cS cD am aa X2 X3 X4 Ys Yd Zs Zd (fill (n := 16) (b := 1) (c := 256) (Mx X2 X3 n) (Mx X2 X3 (n + 1)) 16)
        (fill (n := 16) (b := 80) (c := 256) (Ac X2 X3 X4 n) (Ac X2 X3 X4 (n + 1)) 16) R ⊢ P := by
  rw [fill_all, fill_all]
  exact h

end Rules

theorem wp_loop {α β γ : Type} {c : Dev nD} {L : Scf.Loop 32} {hok : Scf.OK L.lb L.ub L.st} {body : Fin L.trips → Unit → PR F Unit}
    {f : Unit → PR F α} {g : α → PR F β} {k : β → PR F γ} {P : sProp 𝕄} {Q : γ → sProp 𝕄} (I : ℕ → sProp 𝕄)
    (h0 : P ⊢ I 0) (hb : ∀ t, I t.val ⊢ WP c (body t ()) fun _ => I (t.val + 1))
    (hk : I L.trips ⊢ WP c (((f ()).bind g).bind k) Q) :
    P ⊢ WP c ((((Scf.Loop.for L hok () body).bind f).bind g).bind k) Q := by
  refine h0.trans ?_
  have := Scf.wp_for_bind frame (wpE (defs₀ (F := F)) 𝒱₀ (c : Thread nD τ) none) Set.univ L.lb L.ub L.st hok () body (fun n _ => I n) (fun t _ => hb t)
    (kk := fun a => f a >>= fun x => g x >>= k) (Q := Q)
  have e : ((((Scf.Loop.for L hok () body).bind f).bind g).bind k) = (Scf.Loop.for L hok () body >>= fun a => f a >>= fun x => g x >>= k) := by
    refine (Prog.bind_assoc ((Scf.Loop.for L hok () body) >>= f) g k).trans ?_
    exact Prog.bind_assoc _ _ _
  have e' : (((f ()).bind g).bind k) = (f () >>= fun x => g x >>= k) := Prog.bind_assoc (f ()) g k
  rw [e]
  rw [e'] at hk
  iintro H
  iapply this $$ H
  iintro %a H
  iapply hk $$ H

set_option maxHeartbeats 8000000 in
set_option pp.maxSteps 300 in
theorem wp_latent {α : Type} (c : Dev nD)  (i : grid0.Coords) (arg2 : Memref sig .tc .vmem S1x2048x256 .bf16) (harg2 : arg2.IsWhole) (arg3 : Memref sig .tc .vmem S1x33x10x256x128 .bf16) (harg3 : arg3.IsWhole) (arg4 : Memref sig .tc .vmem S1x33x640x256 .bf16) (harg4 : arg4.IsWhole) (arg5 : Memref sig .tc .vmem S1x256x1024 .bf16) (harg5 : arg5.IsWhole) (arg6 : Memref sig .tc .vmem S16x256x256 .f32) (harg6 : arg6.IsWhole) (arg7 : Memref sig .tc .vmem S16x256x256 .f32) (harg7 : arg7.IsWhole) (arg8 : Memref sig .tc .vmem S16x1x256 .f32) (harg8 : arg8.IsWhole) (arg9 : Memref sig .tc .vmem S16x1x256 .f32) (harg9 : arg9.IsWhole) (arg10 : Memref sig .tc .vmem S16x1x256 .f32) (harg10 : arg10.IsWhole) (arg11 : Memref sig .tc .vmem S16x80x256 .f32) (harg11 : arg11.IsWhole) (k0_h2 : k0_cond2 i = 1#1)
    (X2 : S1x2048x256.Idx → Elt F .bf16) (X3 : S1x33x10x256x128.Idx → Elt F .bf16) (X4 : S1x33x640x256.Idx → Elt F .bf16)
    (Ys Yd : S16x256x256.Idx → Elt F .f32) (Zs Zd M : S16x1x256.Idx → Elt F .f32) (A : S16x80x256.Idx → Elt F .f32) (R : sProp 𝕄) (K : FVec F S256x1024 .f32 → PR F α) (Q : α → sProp 𝕄)
    (h : ∀ Ys Yd Zs Zd, Held c arg2 arg3 arg4 arg6 arg7 arg8 arg9 arg10 arg11 X2 X3 X4 Ys Yd Zs Zd (Mx X2 X3 33) (Ac X2 X3 X4 33) R
      ⊢ WP c (K (headsOut (Ac X2 X3 X4 33))) Q) :
    Held c arg2 arg3 arg4 arg7 arg6 arg9 arg8 arg10 arg11 X2 X3 X4 Ys Yd Zs Zd M A R ⊢
    WP c (Cert.KernelIdeal.k0_part241 i arg2 harg2 arg3 harg3 arg4 harg4 arg5 harg5 arg6 harg6 arg7 harg7 arg8 harg8 arg9 harg9 arg10 harg10 arg11 harg11 k0_h2 >>= K) Q := by
  refine wp_start rfl rfl rfl rfl fun _ _ => ?_
  refine held_scores ?_
  iterate 16 (refine wp_scores rfl rfl rfl fun _ _ _ _ => ?_)
  refine held_first ?_
  refine wp_loop (fun n => iprop(∃ Yd Zd, Before c arg2 arg3 arg4 arg6 arg7 arg8 arg9 arg10 arg11 X2 X3 X4 Yd Zd R (8 * n))) ?_ ?_ ?_
  · iintro H
    iexists _, _
    iexact H
  · intro t
    refine Laws.exists_elim fun Yd => Laws.exists_elim fun Zd => ?_
    refine wp_trip c i arg2 harg2 arg3 harg3 arg4 harg4 arg5 harg5 arg6 harg6 arg7 harg7 arg8 harg8 arg9 harg9 arg10 harg10 arg11 harg11 k0_h2 (fun _ => Scalar.ofBits .f32 0#32) (fun _ => Scalar.ofBits .f32 0#32) t (8 * t.val) rfl X2 X3 X4 Yd Zd R _ ?_
    iintro H
    iexists _, _
    iexact H
  · refine Laws.exists_elim fun Yd => Laws.exists_elim fun Zd => ?_
    unfold Before
    rw [show 8 * k0_t1_loop.trips = 32 from rfl]
    iterate 16 (refine wp_update rfl rfl fun _ _ _ _ _ _ _ => ?_)
    refine held_last ?_
    iterate 32 (refine wp_read ?_)
    exact h _ _ _ _

set_option maxHeartbeats 8000000 in
set_option pp.maxSteps 300 in
theorem wp_context {α : Type} (c : Dev nD)  (i : grid0.Coords) (arg2 : Memref sig .tc .vmem S1x2048x256 .bf16) (harg2 : arg2.IsWhole) (arg3 : Memref sig .tc .vmem S1x33x10x256x128 .bf16) (harg3 : arg3.IsWhole) (arg4 : Memref sig .tc .vmem S1x33x640x256 .bf16) (harg4 : arg4.IsWhole) (arg5 : Memref sig .tc .vmem S1x256x1024 .bf16) (harg5 : arg5.IsWhole) (arg6 : Memref sig .tc .vmem S16x256x256 .f32) (harg6 : arg6.IsWhole) (arg7 : Memref sig .tc .vmem S16x256x256 .f32) (harg7 : arg7.IsWhole) (arg8 : Memref sig .tc .vmem S16x1x256 .f32) (harg8 : arg8.IsWhole) (arg9 : Memref sig .tc .vmem S16x1x256 .f32) (harg9 : arg9.IsWhole) (arg10 : Memref sig .tc .vmem S16x1x256 .f32) (harg10 : arg10.IsWhole) (arg11 : Memref sig .tc .vmem S16x80x256 .f32) (harg11 : arg11.IsWhole)
    (X2 : S1x2048x256.Idx → Elt F .bf16) (X3 : S1x33x10x256x128.Idx → Elt F .bf16) (X4 : S1x33x640x256.Idx → Elt F .bf16)
    (Ys Yd : S16x256x256.Idx → Elt F .f32) (Zs Zd M : S16x1x256.Idx → Elt F .f32) (A : S16x80x256.Idx → Elt F .f32) (R : sProp 𝕄) (K : FVec F S256x1024 .bf16 → PR F α) (Q : α → sProp 𝕄)
    (h : ∀ Ys Yd Zs Zd, Held c arg2 arg3 arg4 arg6 arg7 arg8 arg9 arg10 arg11 X2 X3 X4 Ys Yd Zs Zd (Mx X2 X3 1) (Ac X2 X3 X4 1) R
      ⊢ WP c (K (truncf .bf16 (headsOut (Ac X2 X3 X4 1)) bitsLt_bf16_f32)) Q) :
    Held c arg2 arg3 arg4 arg7 arg6 arg9 arg8 arg10 arg11 X2 X3 X4 Ys Yd Zs Zd M A R ⊢
    WP c (Cert.KernelIdeal.k0_part27 i arg2 harg2 arg3 harg3 arg4 harg4 arg5 harg5 arg6 harg6 arg7 harg7 arg8 harg8 arg9 harg9 arg10 harg10 arg11 harg11 >>= K) Q := by
  refine wp_start rfl rfl rfl rfl fun _ _ => ?_
  refine held_scores ?_
  iterate 16 (refine wp_scores rfl rfl rfl fun _ _ _ _ => ?_)
  refine held_first ?_
  unfold Before
  iterate 16 (refine wp_update rfl rfl fun _ _ _ _ _ _ _ => ?_)
  refine held_last ?_
  iterate 32 (refine wp_read ?_)
  exact h _ _ _ _

end Cert.KernelIdeal.Hand
-- ==== Proof.Body.lean ====
module

public import proofs.«01_k».proof.Proof.Run

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)
open Idealize.ShloMosaic.Pipeline (Dat Cfg Window BodyObligation cellOf)

variable {F : FTy → Type} [FloatOps F]

local notation "𝕄" => MT nD τ sig Unit (Elt F) ℕ (UR sig nD τ) ℕ

/-! ## The body -/

/-- How many tiles of keys a tile of queries reads. -/
def tilesOf (i : grid0.Coords) : ℕ := if (i 1).val = 0 then 1 else 33

theorem tiles_cases : ∀ j : Fin 33,
    (j.val = 0 ∧ Scalar.cmpi .ne (Scalar.extui (Scalar.cmpi .slt (Scalar.muli (BitVec.ofNat 32 j.val) 256#32) 256#32) : BitVec 32) 0#32 = 1#1
      ∧ Scalar.cmpi .ne (Scalar.extui (Scalar.xori (Scalar.cmpi .slt (Scalar.muli (BitVec.ofNat 32 j.val) 256#32) 256#32) 1#1) : BitVec 32) 0#32 ≠ 1#1)
    ∨ (j.val ≠ 0 ∧ Scalar.cmpi .ne (Scalar.extui (Scalar.cmpi .slt (Scalar.muli (BitVec.ofNat 32 j.val) 256#32) 256#32) : BitVec 32) 0#32 ≠ 1#1
      ∧ Scalar.cmpi .ne (Scalar.extui (Scalar.xori (Scalar.cmpi .slt (Scalar.muli (BitVec.ofNat 32 j.val) 256#32) 256#32) 1#1) : BitVec 32) 0#32 = 1#1) := by
  decide

/-- The context's tile of queries runs the first branch, every other the second. -/
theorem branch (i : grid0.Coords) :
    ((i 1).val = 0 ∧ k0_cond1 i = 1#1 ∧ k0_cond2 i ≠ 1#1) ∨ ((i 1).val ≠ 0 ∧ k0_cond1 i ≠ 1#1 ∧ k0_cond2 i = 1#1) :=
  tiles_cases (i 1)

/-- Every point writes its block of the result. -/
theorem written (i : grid0.Coords) : idle0 3 i = false := by
  rcases branch i with ⟨_, h, _⟩ | ⟨_, _, h⟩ <;> simp [h]

section Rules
variable {α : Type} {c : Dev nD} {a2 : Memref sig .tc .vmem S1x2048x256 .bf16} {a3 : Memref sig .tc .vmem S1x33x10x256x128 .bf16}
    {a4 : Memref sig .tc .vmem S1x33x640x256 .bf16} {sS sD : Memref sig .tc .vmem S16x256x256 .f32}
    {cS cD am : Memref sig .tc .vmem S16x1x256 .f32} {aa : Memref sig .tc .vmem S16x80x256 .f32}
    {X2 : S1x2048x256.Idx → Elt F .bf16} {X3 : S1x33x10x256x128.Idx → Elt F .bf16} {X4 : S1x33x640x256.Idx → Elt F .bf16}
    {Ys Yd : S16x256x256.Idx → Elt F .f32} {Zs Zd M : S16x1x256.Idx → Elt F .f32} {A : S16x80x256.Idx → Elt F .f32}

theorem wp_write {a5 : Memref sig .tc .vmem S1x256x1024 .bf16} {D : S1x256x1024.Idx → Elt F .bf16} {R : sProp 𝕄} {Q : α → sProp 𝕄} {o : Fin 3 → ℕ}
    {hb : ∀ a, o a + S1x256x1024.size a ≤ S1x256x1024.size a} {w : Vec F S1x256x1024 .bf16}
    {hx : (a5.access (Rect.unit (s := S1x256x1024) o S1x256x1024.size hb)).Stores Finset.univ}
    {K : Vec F S1x256x1024 .bf16 → PR F α}
    (e : o = ![0, 0, 0])
    (h : ∀ d, Held c a2 a3 a4 sS sD cS cD am aa X2 X3 X4 Ys Yd Zs Zd M A iprop(owns (c : Thread nD τ) a5 fullShare w ∗ R) ⊢ WP c (K d) Q) :
    Held c a2 a3 a4 sS sD cS cD am aa X2 X3 X4 Ys Yd Zs Zd M A iprop(owns (c : Thread nD τ) a5 fullShare D ∗ R)
      ⊢ WP c (.op (.load a5 (Rect.unit (s := S1x256x1024) o S1x256x1024.size hb).toLoadRect (View.loadsAt_vmem h_S1x256x1024)) fun d =>
        .op (.store a5 (Rect.unit (s := S1x256x1024) o S1x256x1024.size hb) w Finset.univ hx (.inl rfl)) fun _ => K d) Q := by
  have q : put D o S1x256x1024.size w = w := put_full (n := 1) (b := 256) (c := 1024) D w e
  rw [← q] at h
  unfold Held at h ⊢
  iintro ⟨H2, H3, H4, Hs, Hd, Gs, Gd, Hm, Ha, H5, HR⟩
  iapply (ld_owns c _ _) $$ H5; iintro H5
  iapply (st_owns c _ _) $$ H5; iintro H5
  iapply h
  isplitl [H2]; · iexact H2
  isplitl [H3]; · iexact H3
  isplitl [H4]; · iexact H4
  isplitl [Hs]; · iexact Hs
  isplitl [Hd]; · iexact Hd
  isplitl [Gs]; · iexact Gs
  isplitl [Gd]; · iexact Gd
  isplitl [Hm]; · iexact Hm
  isplitl [Ha]; · iexact Ha
  isplitl [H5]; · rw [q]; iexact H5
  iexact HR

end Rules

set_option maxHeartbeats 8000000 in
set_option pp.maxSteps 300 in
theorem wp_body (c : Dev nD) (i : grid0.Coords) (arg2 : Memref sig .tc .vmem S1x2048x256 .bf16) (harg2 : arg2.IsWhole) (arg3 : Memref sig .tc .vmem S1x33x10x256x128 .bf16) (harg3 : arg3.IsWhole) (arg4 : Memref sig .tc .vmem S1x33x640x256 .bf16) (harg4 : arg4.IsWhole) (arg5 : Memref sig .tc .vmem S1x256x1024 .bf16) (harg5 : arg5.IsWhole) (arg6 : Memref sig .tc .vmem S16x256x256 .f32) (harg6 : arg6.IsWhole) (arg7 : Memref sig .tc .vmem S16x256x256 .f32) (harg7 : arg7.IsWhole) (arg8 : Memref sig .tc .vmem S16x1x256 .f32) (harg8 : arg8.IsWhole) (arg9 : Memref sig .tc .vmem S16x1x256 .f32) (harg9 : arg9.IsWhole) (arg10 : Memref sig .tc .vmem S16x1x256 .f32) (harg10 : arg10.IsWhole) (arg11 : Memref sig .tc .vmem S16x80x256 .f32) (harg11 : arg11.IsWhole)
    (X2 : S1x2048x256.Idx → Elt F .bf16) (X3 : S1x33x10x256x128.Idx → Elt F .bf16) (X4 : S1x33x640x256.Idx → Elt F .bf16)
    (Ys Yd : S16x256x256.Idx → Elt F .f32) (Zs Zd M : S16x1x256.Idx → Elt F .f32) (A : S16x80x256.Idx → Elt F .f32)
    (D : S1x256x1024.Idx → Elt F .bf16) (R : sProp 𝕄) (Q : PUnit → sProp 𝕄)
    (h : ∀ Ys Yd Zs Zd M A, Held c arg2 arg3 arg4 arg6 arg7 arg8 arg9 arg10 arg11 X2 X3 X4 Ys Yd Zs Zd M A
        iprop(owns (c : Thread nD τ) arg5 fullShare (blockOut (Ac X2 X3 X4 (tilesOf i))) ∗ R) ⊢ Q ⟨⟩) :
    Held c arg2 arg3 arg4 arg7 arg6 arg9 arg8 arg10 arg11 X2 X3 X4 Ys Yd Zs Zd M A iprop(owns (c : Thread nD τ) arg5 fullShare D ∗ R)
      ⊢ WP c (cc0_attn_all i arg2 harg2 arg3 harg3 arg4 harg4 arg5 harg5 arg6 harg6 arg7 harg7 arg8 harg8 arg9 harg9 arg10 harg10 arg11 harg11) Q := by
  unfold cc0_attn_all
  rcases branch i with ⟨h0, h1, h2⟩ | ⟨h0, h1, h2⟩
  · rw [dif_pos h1, dif_neg h2]
    have ht : tilesOf i = 1 := if_pos h0
    rw [ht] at h
    simp only [bind_assoc, pure_bind]
    refine wp_context c i arg2 harg2 arg3 harg3 arg4 harg4 arg5 harg5 arg6 harg6 arg7 harg7 arg8 harg8 arg9 harg9 arg10 harg10 arg11 harg11 X2 X3 X4 Ys Yd Zs Zd M A _ _ Q fun _ _ _ _ => ?_
    refine wp_write rfl fun _ => ?_
    exact (h _ _ _ _ _ _).trans fupd_intro
  · rw [dif_neg h1, dif_pos h2]
    have ht : tilesOf i = 33 := if_neg h0
    rw [ht] at h
    simp only [bind_assoc, pure_bind]
    refine wp_latent c i arg2 harg2 arg3 harg3 arg4 harg4 arg5 harg5 arg6 harg6 arg7 harg7 arg8 harg8 arg9 harg9 arg10 harg10 arg11 harg11 h2 X2 X3 X4 Ys Yd Zs Zd M A _ _ Q fun _ _ _ _ => ?_
    refine wp_write rfl fun _ => ?_
    exact (h _ _ _ _ _ _).trans fupd_intro

/-! ## The proof data -/

variable (m : (ℓ : Loc nD τ sig) → Buf (Elt F) ℓ) (ρ : Dev nD → PrngReg)

/-- The block of the result left at point `t`. -/
def outsAt (c : Dev nD) (t : Fin cfg0.N) : Vec F S1x256x1024 .bf16 :=
  blockOut (Ac (iblk m c 0 t) (iblk m c 1 t) (iblk m c 2 t) (tilesOf (grid0.coords t)))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem scratch_eq (c : Dev nD) :
    (Pipeline.ΦA spec0 c : sProp 𝕄)
      = iprop(iprop((∃ d, owns (c : Thread nD τ) (Memref.whole cc0_scratch0 : Memref sig .tc .vmem S16x256x256 .f32) fullShare d)
          ∗ (∃ d, owns (c : Thread nD τ) (Memref.whole cc0_scratch1 : Memref sig .tc .vmem S16x256x256 .f32) fullShare d)
          ∗ (∃ d, owns (c : Thread nD τ) (Memref.whole cc0_scratch2 : Memref sig .tc .vmem S16x1x256 .f32) fullShare d)
          ∗ (∃ d, owns (c : Thread nD τ) (Memref.whole cc0_scratch3 : Memref sig .tc .vmem S16x1x256 .f32) fullShare d)
          ∗ (∃ d, owns (c : Thread nD τ) (Memref.whole cc0_scratch4 : Memref sig .tc .vmem S16x1x256 .f32) fullShare d)
          ∗ (∃ d, owns (c : Thread nD τ) (Memref.whole cc0_scratch5 : Memref sig .tc .vmem S16x80x256 .f32) fullShare d))
        ∗ (∃ r, prngReg c r)) := by
  unfold Pipeline.ΦA
  rw [scopedRest0_eq]
  simp only [owns_whole]
  try rfl

set_option maxHeartbeats 1000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, scratch_eq]
  unfold outsAt
  iintro ⟨⟨⟨⟨%s0, S0⟩, ⟨%s1, S1⟩, ⟨%s2, S2⟩, ⟨%s3, S3⟩, ⟨%s4, S4⟩, ⟨%s5, S5⟩⟩, Hr⟩, Ho, ⟨%d0, H0⟩, ⟨%d1, H1⟩, ⟨%d2, H2⟩, ⟨%d3, H3⟩⟩
  iapply (wp_body (F := F) c (grid0.coords t) _ _ _ _ _ _ _ _ _ _ _ _ _ _ _ _ _ _ _ _ (iblk m c 0 t) (iblk m c 1 t) (iblk m c 2 t)
    s1 s0 s3 s2 s4 s5 _ iprop((∃ r, prngReg c r) ∗ (dats m 0 c).owesAt () t.castSucc) _ ?_)
  · intro Ys Yd Zs Zd M A
    unfold Held
    iintro ⟨H0, H1, H2, S0, S1, S2, S3, S4, S5, H3, Hr, Ho⟩
    isplitl [S0 S1 S2 S3 S4 S5 Hr]
    · isplitr [Hr]
      · isplitl [S0]; · iexists _; iexact S0
        isplitl [S1]; · iexists _; iexact S1
        isplitl [S2]; · iexists _; iexact S2
        isplitl [S3]; · iexists _; iexact S3
        isplitl [S4]; · iexists _; iexact S4
        iexists _; iexact S5
      iexact Hr
    isplitl [Ho]; · iexact Ho
    isplitl [H0]; · iexact H0
    isplitl [H1]; · iexact H1
    isplitl [H2]; · iexact H2
    rw [written]; iexact H3
  unfold Held
  isplitl [H0]; · iexact H0
  isplitl [H1]; · iexact H1
  isplitl [H2]; · iexact H2
  isplitl [S1]; · iexact S1
  isplitl [S0]; · iexact S0
  isplitl [S3]; · iexact S3
  isplitl [S2]; · iexact S2
  isplitl [S4]; · iexact S4
  isplitl [S5]; · iexact S5
  isplitl [H3]; · iexact H3
  isplitl [Hr]; · iexact Hr
  iexact Ho

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- What the run leaves: the result's array as the pipeline writes it, the arguments as launched, every counter zero. -/
theorem run : θ_run defs (onTc (τ := τ) (main (F := F))) ⟨m, fun _ => 0, ρ⟩ (fun r => (∀ c : Dev nD,
      r.2.mem ((c.tc : Thread nD τ).loc main_v35) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (h : Pipeline.FramePost cfgs (dats m) 0 (V m) r ∧ r.2.sem = fun _ => 0) => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

/-- The frame: the arguments as launched, every counter zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ)

end Cert.KernelIdeal.Hand

end
-- ==== Proof.Same.lean ====
module

public import proofs.«01_k».proof.Proof.Body
public import proofs.«01_k».proof.Proof.Gen.Kernel
public import proofs.«01_k».proof.Defs

@[expose] public section

set_option maxRecDepth 65536
set_option maxHeartbeats 4000000

noncomputable section
open Idealize.ShloMosaic Idealize.SL.Sem

namespace Cert.KernelIdeal.Hand

/-! The program as printed and its idealization have one text. -/

theorem bodies_eq : @Cert.Kernel.defs₀ Bits _ _ = @Cert.KernelIdeal.defs₀ Bits _ _ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
theorem defs_eq : @Cert.Kernel.defs Bits _ _ = @Cert.KernelIdeal.defs Bits _ _ := by
  unfold Cert.Kernel.defs Cert.KernelIdeal.defs
  rw [bodies_eq]; rfl

/-- The frame of the program as printed, from the run of its idealization. -/
theorem frame_printed : Cert.quiescent_Kernel (hKernel := Cert.Kernel.Gen.facts) := fun m g _ => by
  rw [defs_eq]
  exact frame_run (F := Bits) m g

end Cert.KernelIdeal.Hand

end
-- ==== Proof.Math.lean ====
module

public import Idealize.ShloMosaic.PureOps.Ideal

@[expose] public section

noncomputable section

namespace Cert.Attention

open Idealize.ShloMosaic
open Finset

/-! ## Sums of extended reals against real weights -/

theorem real_mul_add {a : ℝ} (ha : 0 ≤ a) (x y : EReal) : (a : EReal) * (x + y) = a * x + a * y :=
  EReal.left_distrib_of_nonneg_of_ne_top (by exact_mod_cast ha) (EReal.coe_ne_top a) x y

theorem real_mul_sum {ι : Type} {a : ℝ} (ha : 0 ≤ a) (s : Finset ι) (f : ι → EReal) : (a : EReal) * ∑ i ∈ s, f i = ∑ i ∈ s, (a : EReal) * f i := by
  classical
  induction s using Finset.induction_on with
  | empty => simp
  | insert i s hi ih => rw [sum_insert hi, sum_insert hi, real_mul_add ha, ih]

theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

theorem fold_max_real {ι : Type} (s : Finset ι) (hs : s.Nonempty) (f : ι → ℝ) :
    ∃ r : ℝ, s.fold max (⊥ : EReal) (fun i => (f i : EReal)) = r := by
  classical
  induction hs using Finset.Nonempty.cons_induction with
  | singleton i => exact ⟨f i, by simp⟩
  | cons i s hi hs ih =>
    obtain ⟨r, hr⟩ := ih
    exact ⟨max (f i) r, by rw [fold_cons, hr]; rfl⟩

/-- Attention: the values weighted by the softmax of the scores, over the first `K` keys. -/
def attn (K : ℕ) (S : ℕ → ℝ) (v : ℕ → EReal) : EReal :=
  ∑ x ∈ range K, v x * ((Real.exp (S x) / ∑ y ∈ range K, Real.exp (S y) : ℝ) : EReal)

theorem div_coe (x : EReal) {r : ℝ} (hr : 0 < r) : Ideal.div x (r : EReal) = x * ((r⁻¹ : ℝ) : EReal) := by
  have h : (r : EReal) ≠ 0 := by exact_mod_cast hr.ne'
  unfold Ideal.div
  rw [if_neg h, EReal.coe_inv]

/-! ## The reference's softmax -/

theorem softmax_ref {K : ℕ} (hK : 0 < K) (S : ℕ → ℝ) (v : Fin K → EReal) (w : ℕ → EReal) (s : Fin K → EReal) (c : EReal) (hc : c = ⊥)
    (hs : ∀ x : Fin K, s x = (S x : EReal)) (hv : ∀ x : Fin K, v x = w x) :
    ∑ x : Fin K, v x * Ideal.div (Ideal.exp (s x - max c (univ.fold max c s))) (∑ y : Fin K, Ideal.exp (s y - max c (univ.fold max c s)))
      = attn K S w := by
  subst hc
  have : Nonempty (Fin K) := ⟨⟨0, hK⟩⟩
  have es : s = fun x : Fin K => ((S x : ℝ) : EReal) := funext hs
  obtain ⟨r, hr⟩ := fold_max_real (univ : Finset (Fin K)) univ_nonempty (fun x => S x)
  have em : max (⊥ : EReal) (univ.fold max ⊥ s) = (r : EReal) := by rw [es, hr]; exact max_eq_right bot_le
  have ee : ∀ x : Fin K, Ideal.exp (s x - max (⊥ : EReal) (univ.fold max ⊥ s)) = ((Real.exp (S x - r) : ℝ) : EReal) := by
    intro x
    rw [em, hs x, ← EReal.coe_sub, Ideal.exp_coe]
  simp only [ee]
  rw [← coe_sum']
  have hpos : 0 < ∑ y : Fin K, Real.exp (S y - r) := sum_pos (fun _ _ => Real.exp_pos _) univ_nonempty
  unfold attn
  rw [Finset.sum_range (fun x => w x * ((Real.exp (S x) / ∑ y ∈ range K, Real.exp (S y) : ℝ) : EReal))]
  refine sum_congr rfl fun x _ => ?_
  rw [div_coe _ hpos, ← EReal.coe_mul, hv x]
  congr 2
  rw [Finset.sum_range (fun y => Real.exp (S y))]
  simp only [Real.exp_sub]
  rw [← sum_div, div_eq_mul_inv (Real.exp (S x))]
  field_simp [Real.exp_ne_zero]

/-! ## The kernel's running softmax -/

theorem tiles_sum {α : Type} [AddCommMonoid α] (f : ℕ → α) (N : ℕ) :
    ∑ i ∈ range N, ∑ k : Fin 256, f (256 * i + k) = ∑ x ∈ range (256 * N), f x := by
  induction N with
  | zero => simp
  | succ N ih =>
    rw [sum_range_succ, ih, Nat.mul_succ, Finset.sum_range_add f, Finset.sum_range (fun k => f (256 * N + k))]

/-- The accumulator after `n` tiles, the values weighted by the exponentials less the maximum so far. -/
theorem running {T : ℕ → ℝ} {M : ℕ → EReal} {m0 : ℝ} (hM0 : M 0 = m0)
    (hM : ∀ n, M (n + 1) = max (M n) (univ.fold max (⊥ : EReal) fun k : Fin 256 => ((T (256 * n + k) : ℝ) : EReal))) :
    ∃ μ : ℕ → ℝ, (∀ n, M n = μ n) ∧ ∀ (w : ℕ → EReal) (A : ℕ → EReal), A 0 = 0 →
      (∀ n, A (n + 1) = Ideal.exp2 (M n - M (n + 1)) * A n + ∑ k : Fin 256, w (256 * n + k) * Ideal.exp2 (((T (256 * n + k) : ℝ) : EReal) - M (n + 1))) →
      ∀ n, A n = ∑ x ∈ range (256 * n), w x * (((2 : ℝ) ^ (T x - μ n) : ℝ) : EReal) := by
  have hr : ∀ n, ∃ r : ℝ, M n = r := by
    intro n
    induction n with
    | zero => exact ⟨m0, hM0⟩
    | succ n ih =>
      obtain ⟨r, hr⟩ := ih
      obtain ⟨q, hq⟩ := fold_max_real (univ : Finset (Fin 256)) univ_nonempty (fun k => T (256 * n + k))
      exact ⟨max r q, by rw [hM, hr, hq]; rfl⟩
  choose μ hμ using hr
  refine ⟨μ, hμ, fun w A h0 h n => ?_⟩
  have e2 : ∀ x y : ℝ, Ideal.exp2 ((x : EReal) - (y : EReal)) = (((2 : ℝ) ^ (x - y) : ℝ) : EReal) := fun x y => by
    rw [← EReal.coe_sub, Ideal.exp2_coe]; rfl
  induction n with
  | zero => simp [h0]
  | succ n ih =>
    rw [h, hμ n, hμ (n + 1), e2, ih, real_mul_sum (Real.rpow_nonneg (by norm_num) _), Nat.mul_succ,
      Finset.sum_range_add (fun x => w x * (((2 : ℝ) ^ (T x - μ (n + 1)) : ℝ) : EReal)),
      Finset.sum_range (fun k => w (256 * n + k) * (((2 : ℝ) ^ (T (256 * n + k) - μ (n + 1)) : ℝ) : EReal))]
    congr 1
    · refine sum_congr rfl fun x _ => ?_
      rw [mul_left_comm, ← EReal.coe_mul, ← Real.rpow_add (by norm_num)]
      congr 3
      ring

/-- The kernel's quotient is the attention, its scores in units of a factor of two. -/
theorem softmax_run {S T : ℕ → ℝ} (hT : ∀ x, T x * Real.log 2 = S x) {M : ℕ → EReal} {m0 : ℝ} (hM0 : M 0 = m0)
    (hM : ∀ n, M (n + 1) = max (M n) (univ.fold max (⊥ : EReal) fun k : Fin 256 => ((T (256 * n + k) : ℝ) : EReal)))
    {w A L : ℕ → EReal} (hA0 : A 0 = 0) (hL0 : L 0 = 0)
    (hA : ∀ n, A (n + 1) = Ideal.exp2 (M n - M (n + 1)) * A n + ∑ k : Fin 256, w (256 * n + k) * Ideal.exp2 (((T (256 * n + k) : ℝ) : EReal) - M (n + 1)))
    (hL : ∀ n, L (n + 1) = Ideal.exp2 (M n - M (n + 1)) * L n + ∑ k : Fin 256, 1 * Ideal.exp2 (((T (256 * n + k) : ℝ) : EReal) - M (n + 1)))
    {N : ℕ} (hN : 0 < N) : Ideal.div (A N) (L N) = attn (256 * N) S w := by
  obtain ⟨μ, -, hrun⟩ := running hM0 hM
  have eA := hrun w A hA0 hA N
  have eL := hrun (fun _ => 1) L hL0 hL N
  simp only [one_mul] at eL
  rw [← coe_sum'] at eL
  have hne : (range (256 * N)).Nonempty := ⟨0, mem_range.mpr (by omega)⟩
  have hpos : 0 < ∑ x ∈ range (256 * N), (2 : ℝ) ^ (T x - μ N) := sum_pos (fun _ _ => Real.rpow_pos_of_pos (by norm_num) _) hne
  rw [eL, div_coe _ hpos, eA, mul_comm, real_mul_sum (inv_nonneg.mpr hpos.le)]
  unfold attn
  refine sum_congr rfl fun x _ => ?_
  rw [mul_left_comm, ← EReal.coe_mul]
  congr 2
  have e : ∀ y, (2 : ℝ) ^ (T y - μ N) = Real.exp (S y) * Real.exp (- (μ N * Real.log 2)) := fun y => by
    rw [Real.rpow_def_of_pos (by norm_num), ← Real.exp_add]
    congr 1
    rw [← hT y]; ring
  simp only [e]
  rw [← sum_mul, mul_inv]
  have := Real.exp_ne_zero (-(μ N * Real.log 2))
  field_simp

end Cert.Attention

end
-- ==== Proof.RefSoft.lean ====
module

public import proofs.«01_k».proof.Proof.Math
public import Idealize.ShloMosaic.Lib.Pointwise
public import Idealize.ShloMosaic.Lib.Pointwise.IndexVar
public import Idealize.ShloMosaic.Lib.Tactic.CleanTypes

@[expose] public section

set_option maxRecDepth 16384

noncomputable section

namespace Cert.Attention

open Idealize.ShloMosaic

variable {B H G Q K : ℕ}

abbrev Sc5 (B H G Q K : ℕ) : Shape := ⟨5, ![B, H, G, Q, K]⟩
abbrev Sc4 (B H G Q : ℕ) : Shape := ⟨4, ![B, H, G, Q]⟩
abbrev Sc0 : Shape := ⟨0, ![]⟩

theorem idx_one {n : ℕ} (b : Fin n) (p : n = 1 → 0 < n) : (if h : n = 1 then (⟨0, p h⟩ : Fin n) else b) = b := by
  split
  · exact Fin.ext (by have := b.isLt; show 0 = b.val; omega)
  · rfl

theorem idx_one2 {n : ℕ} (b : Fin n) (p q : n = 1 → 0 < n) :
    (if h : n = 1 then (⟨0, p h⟩ : Fin n) else if h : n = 1 then (⟨0, q h⟩ : Fin n) else b) = b := by rw [idx_one, idx_one]

theorem ix5_eq {b b' : Fin B} {h h' : Fin H} {g g' : Fin G} {q q' : Fin Q} (eb : b = b') (eh : h = h') (eg : g = g') (eq : q = q') (k : Fin K) :
    ix5 b h g q k = ix5 b' h' g' q' k := by subst eb eh eg eq; rfl

/-- The scores' exponentials, less their row's maximum. -/
def expRow (h1 : (Sc5 B H G Q 1).BroadcastsInDim (Sc5 B H G Q K) ![0, 1, 2, 3, 4])
    (h2 : (Sc4 B H G Q).BroadcastsInDim (Sc5 B H G Q 1) ![0, 1, 2, 3])
    (h3 : Sc0.BroadcastsInDim (Sc4 B H G Q) ![]) (h4 : (Sc5 B H G Q K).ReducesTo [4] (Sc4 B H G Q)) (h5 : 0 < Sc0.numel)
    (s : FVec Ideal (Sc5 B H G Q K) .f32) : FVec Ideal (Sc5 B H G Q K) .f32 :=
  Host.exp (subf s (broadcastInDim (Sc5 B H G Q K) ![0, 1, 2, 3, 4] h1
    (broadcastInDim (Sc5 B H G Q 1) ![0, 1, 2, 3] h2
     (maximumf (broadcastInDim (Sc4 B H G Q) ![] h3 (constant Sc0 .f32 0xFF800000#32))
       (Host.reduce FloatOps.maximumf s (constant Sc0 .f32 0xFF800000#32) h4 h5)))))

/-- A row's weights, from its exponentials. -/
def divRow (h1 : (Sc5 B H G Q 1).BroadcastsInDim (Sc5 B H G Q K) ![0, 1, 2, 3, 4])
    (h2 : (Sc4 B H G Q).BroadcastsInDim (Sc5 B H G Q 1) ![0, 1, 2, 3])
    (h4 : (Sc5 B H G Q K).ReducesTo [4] (Sc4 B H G Q)) (h5 : 0 < Sc0.numel)
    (e : FVec Ideal (Sc5 B H G Q K) .f32) : FVec Ideal (Sc5 B H G Q K) .f32 :=
  Host.divf e (broadcastInDim (Sc5 B H G Q K) ![0, 1, 2, 3, 4] h1
    (broadcastInDim (Sc5 B H G Q 1) ![0, 1, 2, 3] h2 (Host.reduceAdd e (constant Sc0 .f32 0x00000000#32) h4 h5)))

theorem expRow_at (h1 h2 h3 h4 h5) (s : FVec Ideal (Sc5 B H G Q K) .f32) (b : Fin B) (h : Fin H) (g : Fin G) (q : Fin Q) (k : Fin K) :
    expRow h1 h2 h3 h4 h5 s (ix5 b h g q k) = Ideal.exp (s (ix5 b h g q k) - max (Ideal.ofBits .f32 0xFF800000#32)
      (Finset.univ.fold max (Ideal.ofBits .f32 0xFF800000#32) fun x => s (ix5 b h g q x))) := by
  pointwise [expRow]
  exact congrArg (fun f : Fin K → EReal => Ideal.exp (s (ix5 b h g q k) - max (Ideal.ofBits .f32 0xFF800000#32)
      (Finset.univ.fold max (Ideal.ofBits .f32 0xFF800000#32) f)))
    (funext fun x => congrArg s (ix5_eq (idx_one2 b _ _) (idx_one2 h _ _) (idx_one2 g _ _) (idx_one2 q _ _) x))

theorem divRow_at (h1 h2 h4 h5) (e : FVec Ideal (Sc5 B H G Q K) .f32) (b : Fin B) (h : Fin H) (g : Fin G) (q : Fin Q) (k : Fin K) :
    divRow h1 h2 h4 h5 e (ix5 b h g q k) = Ideal.div (e (ix5 b h g q k)) (∑ x, e (ix5 b h g q x)) := by
  pointwise [divRow]
  exact congrArg (fun f : Fin K → EReal => Ideal.div (e (ix5 b h g q k)) (∑ x, f x))
    (funext fun x => congrArg e (ix5_eq (idx_one2 b _ _) (idx_one2 h _ _) (idx_one2 g _ _) (idx_one2 q _ _) x))

/-- A row's weights, from its scores. -/
theorem row_at (h1 h1' h2 h2' h3 h4 h4' h5 h5') (s : FVec Ideal (Sc5 B H G Q K) .f32) (b : Fin B) (h : Fin H) (g : Fin G) (q : Fin Q) (k : Fin K) :
    divRow h1' h2' h4' h5' (expRow h1 h2 h3 h4 h5 s) (ix5 b h g q k)
      = Ideal.div (Ideal.exp (s (ix5 b h g q k) - max (Ideal.ofBits .f32 0xFF800000#32)
          (Finset.univ.fold max (Ideal.ofBits .f32 0xFF800000#32) fun x => s (ix5 b h g q x))))
        (∑ y, Ideal.exp (s (ix5 b h g q y) - max (Ideal.ofBits .f32 0xFF800000#32)
          (Finset.univ.fold max (Ideal.ofBits .f32 0xFF800000#32) fun x => s (ix5 b h g q x)))) := by
  rw [divRow_at]
  simp only [expRow_at]

variable {D E : ℕ}

abbrev Kd (B K H D : ℕ) : Shape := ⟨4, ![B, K, H, D]⟩

def dotS (wf : DotDims.WF (Kd B K H D) (Sc5 B Q H G D) (Sc5 B H K Q G) [3] [4] [1] [1, 3] [0, 2] [0, 2]) :
    DotDims (Kd B K H D) (Sc5 B Q H G D) (Sc5 B H K Q G) where
  lhsContracting := [3]
  rhsContracting := [4]
  lhsNonContracting := [1]
  rhsNonContracting := [1, 3]
  lhsBatch := [0, 2]
  rhsBatch := [0, 2]
  wf := wf

def dotO (wf : DotDims.WF (Kd B K H E) (Sc5 B H G Q K) (Sc5 B H E G Q) [1] [4] [3] [2, 3] [0, 2] [0, 1]) :
    DotDims (Kd B K H E) (Sc5 B H G Q K) (Sc5 B H E G Q) where
  lhsContracting := [1]
  rhsContracting := [4]
  lhsNonContracting := [3]
  rhsNonContracting := [2, 3]
  lhsBatch := [0, 2]
  rhsBatch := [0, 1]
  wf := wf

/-- The scaled scores. -/
def scoreRow (wf : DotDims.WF (Kd B K H D) (Sc5 B Q H G D) (Sc5 B H K Q G) [3] [4] [1] [1, 3] [0, 2] [0, 2]) (t1 : (Sc5 B H K Q G).Transposes [0, 1, 4, 3, 2] (Sc5 B H G Q K)) (h : Sc0.BroadcastsInDim (Sc5 B H G Q K) ![]) (w : BitVec 32)
    (k : FVec Ideal (Kd B K H D) .f32) (q : FVec Ideal (Sc5 B Q H G D) .f32) : FVec Ideal (Sc5 B H G Q K) .f32 :=
  mulf (transpose (Sc5 B H G Q K) [0, 1, 4, 3, 2] (Host.dotGeneral (dotS wf) none k q) t1) (broadcastInDim (Sc5 B H G Q K) ![] h (constant Sc0 .f32 w))

/-- The weighted values. -/
def valueRow (wf : DotDims.WF (Kd B K H E) (Sc5 B H G Q K) (Sc5 B H E G Q) [1] [4] [3] [2, 3] [0, 2] [0, 1]) (t1 : (Sc5 B H E G Q).Transposes [0, 4, 1, 3, 2] (Sc5 B Q H G E)) (v : FVec Ideal (Kd B K H E) .f32) (p : FVec Ideal (Sc5 B H G Q K) .f32) :
    FVec Ideal (Sc5 B Q H G E) .f32 :=
  transpose (Sc5 B Q H G E) [0, 4, 1, 3, 2] (Host.dotGeneral (dotO wf) none v p) t1

theorem scoreRow_at (wf t1 h w) (k : FVec Ideal (Kd B K H D) .f32) (q : FVec Ideal (Sc5 B Q H G D) .f32) (b : Fin B) (j : Fin H) (g : Fin G) (r : Fin Q) (x : Fin K) :
    scoreRow wf t1 h w k q (ix5 b j g r x) = (∑ d, k (ix4 b x j d) * q (ix5 b r j g d)) * Ideal.ofBits .f32 w := by
  pointwise [scoreRow]
  rw [Ideal.matmul_apply₁_of _ (a := 3) (K := D) rfl rfl _ _ _ _ (fun d => ix4 b x j d) (fun d => ix5 b r j g d), zero_add]
  · intro d; funext a
    match a with
    | 0 => rfl
    | 1 => rfl
    | 2 => rfl
    | 3 => rfl
  · intro d; funext a
    match a with
    | 0 => rfl
    | 1 => rfl
    | 2 => rfl
    | 3 => rfl
    | 4 => rfl

theorem valueRow_at (wf t1) (v : FVec Ideal (Kd B K H E) .f32) (p : FVec Ideal (Sc5 B H G Q K) .f32) (b : Fin B) (j : Fin H) (g : Fin G) (r : Fin Q) (e : Fin E) :
    valueRow wf t1 v p (ix5 b r j g e) = ∑ x, v (ix4 b x j e) * p (ix5 b j g r x) := by
  pointwise [valueRow]
  rw [Ideal.matmul_apply₁_of _ (a := 1) (K := K) rfl rfl _ _ _ _ (fun x => ix4 b x j e) (fun x => ix5 b j g r x), zero_add]
  · intro d; funext a
    match a with
    | 0 => rfl
    | 1 => rfl
    | 2 => rfl
    | 3 => rfl
  · intro d; funext a
    match a with
    | 0 => rfl
    | 1 => rfl
    | 2 => rfl
    | 3 => rfl
    | 4 => rfl

/-- A mixer over all its queries. -/
def mixRow (wfs : DotDims.WF (Kd B K H D) (Sc5 B Q H G D) (Sc5 B H K Q G) [3] [4] [1] [1, 3] [0, 2] [0, 2])
    (t1 : (Sc5 B H K Q G).Transposes [0, 1, 4, 3, 2] (Sc5 B H G Q K)) (h : Sc0.BroadcastsInDim (Sc5 B H G Q K) ![])
    (h1 : (Sc5 B H G Q 1).BroadcastsInDim (Sc5 B H G Q K) ![0, 1, 2, 3, 4])
    (h2 : (Sc4 B H G Q).BroadcastsInDim (Sc5 B H G Q 1) ![0, 1, 2, 3])
    (h3 : Sc0.BroadcastsInDim (Sc4 B H G Q) ![]) (h4 : (Sc5 B H G Q K).ReducesTo [4] (Sc4 B H G Q)) (h5 : 0 < Sc0.numel)
    (wfo : DotDims.WF (Kd B K H E) (Sc5 B H G Q K) (Sc5 B H E G Q) [1] [4] [3] [2, 3] [0, 2] [0, 1])
    (t2 : (Sc5 B H E G Q).Transposes [0, 4, 1, 3, 2] (Sc5 B Q H G E)) (w : BitVec 32)
    (q : FVec Ideal (Sc5 B Q H G D) .f32) (k : FVec Ideal (Kd B K H D) .f32) (v : FVec Ideal (Kd B K H E) .f32) : FVec Ideal (Sc5 B Q H G E) .f32 :=
  valueRow wfo t2 v (divRow h1 h2 h4 h5 (expRow h1 h2 h3 h4 h5 (scoreRow wfs t1 h w k q)))

/-- The score of a key: its product with the query, scaled. -/
def score {D : ℕ} (c : ℝ) (kk : ℕ → Fin D → ℝ) (qq : Fin D → ℝ) (x : ℕ) : ℝ := (∑ d, kk x d * qq d) * c

theorem mixRow_at (wfs t1 h h1 h2 h3 h4 h5 wfo t2 w) (q : FVec Ideal (Sc5 B Q H G D) .f32) (k : FVec Ideal (Kd B K H D) .f32) (v : FVec Ideal (Kd B K H E) .f32)
    (hK : 0 < K) (hbot : Ideal.ofBits .f32 0xFF800000#32 = ⊥) {c : ℝ} (hw : Ideal.ofBits .f32 w = (c : EReal))
    (b : Fin B) (r : Fin Q) (j : Fin H) (g : Fin G) (e : Fin E) (kk : ℕ → Fin D → ℝ) (qq : Fin D → ℝ) (vv : ℕ → EReal)
    (hk : ∀ (x : Fin K) d, k (ix4 b x j d) = (kk x d : EReal)) (hq : ∀ d, q (ix5 b r j g d) = (qq d : EReal)) (hv : ∀ x : Fin K, v (ix4 b x j e) = vv x) :
    mixRow wfs t1 h h1 h2 h3 h4 h5 wfo t2 w q k v (ix5 b r j g e) = attn K (score c kk qq) vv := by
  unfold mixRow
  rw [valueRow_at]
  simp only [row_at]
  refine softmax_ref hK _ _ _ (fun x => scoreRow wfs t1 h w k q (ix5 b j g r x)) _ hbot (fun x => ?_) hv
  rw [scoreRow_at, hw]
  simp only [hk, hq]
  unfold score
  rw [EReal.coe_mul, coe_sum']
  simp only [EReal.coe_mul]

end Cert.Attention

end
-- ==== Proof.Spec.lean ====
module

public import proofs.«01_k».proof.Proof.RefSoft

@[expose] public section

noncomputable section

namespace Cert.Attention

open Idealize.ShloMosaic

/-- A row of the joint stream, by its number. -/
def row (x : ℕ) : Fin 8448 := ⟨x % 8448, Nat.mod_lt _ (by decide)⟩

/-- The keys that a row reads: a context row the context, a latent row all. -/
def keysOf (t : ℕ) : ℕ := if t < 256 then 256 else 8448

/-- A mixer's result: batch `b`, row `t`, group `h`, head `g` of the group, feature `e`. -/
def spec {H G D : ℕ} (c : ℝ) (q : (Sc5 4 8448 H G D).Idx → EReal) (k : (Kd 4 8448 H D).Idx → EReal) (v : (Kd 4 8448 H 64).Idx → EReal)
    (b : Fin 4) (t : Fin 8448) (h : Fin H) (g : Fin G) (e : Fin 64) : EReal :=
  attn (keysOf t.val) (score c (fun x d => (k (ix4 b (row x) h d)).toReal) (fun d => (q (ix5 b t h g d)).toReal)) (fun x => v (ix4 b (row x) h e))

/-- The scales of the two mixers. -/
def scaleC : ℝ := (Ideal.ofBits .f32 0x3E000000#32).toReal
def scaleD : ℝ := (Ideal.ofBits .f32 0x3DD105EC#32).toReal

theorem scaleC_eq : Ideal.ofBits .f32 0x3E000000#32 = (scaleC : EReal) := by
  unfold scaleC
  simp [Ideal.ofBits, Ideal.ieee, -EReal.coe_mul]

theorem scaleD_eq : Ideal.ofBits .f32 0x3DD105EC#32 = (scaleD : EReal) := by
  unfold scaleD
  simp [Ideal.ofBits, Ideal.ieee, -EReal.coe_mul]

theorem bot_eq : Ideal.ofBits .f32 0xFF800000#32 = ⊥ := by
  simp [Ideal.ofBits, Ideal.ieee]

theorem row_fin (x : Fin 8448) : row x.val = x := Fin.ext (Nat.mod_eq_of_lt x.isLt)

theorem row_ctx (x : Fin 256) : row x.val = ⟨x.val, by omega⟩ := Fin.ext (Nat.mod_eq_of_lt (by omega))

/-- Every element is a real number. -/
def IsReal {s : Shape} (x : s.Idx → EReal) : Prop := ∀ i, x i = ((x i).toReal : EReal)

theorem two_eq : Ideal.ofBits .f32 0x40000000#32 = ((2 : ℝ) : EReal) := by
  simp [Ideal.ofBits, Ideal.ieee, -EReal.coe_mul]
  norm_num

/-- The scale over the logarithm of two. -/
theorem scale_div {w : BitVec 32} {c : ℝ} (h : Ideal.ofBits .f32 w = (c : EReal)) :
    Ideal.div (Ideal.ofBits .f32 w) (Ideal.log (Ideal.ofBits .f32 0x40000000#32)) = ((c / Real.log 2 : ℝ) : EReal) := by
  rw [h, two_eq, Ideal.log_coe, if_neg (by norm_num), div_coe _ (Real.log_pos (by norm_num)), ← EReal.coe_mul, div_eq_mul_inv]

theorem sum_pad {D N : ℕ} (h : D ≤ N) (f : Fin D → EReal) : ∑ d : Fin N, (if hd : d.val < D then f ⟨d.val, hd⟩ else 0) = ∑ d, f d := by
  obtain ⟨P, rfl⟩ := Nat.exists_eq_add_of_le h
  rw [Fin.sum_univ_add]
  simp

end Cert.Attention

end
-- ==== Proof.HostAt.lean ====
module

public import proofs.«01_k».proof.Proof.Run
public import proofs.«01_k».proof.Proof.Body
public import proofs.«01_k».proof.Proof.Spec
public import Idealize.ShloMosaic.Lib.StableHlo.ReadAt
public import Idealize.ShloMosaic.Lib.Pointwise
public import Idealize.ShloMosaic.Lib.KernelVsHost
public import Idealize.ShloMosaic.Lib.Pipeline.ValueKit
public import Idealize.ShloMosaic.Lib.Tactic.CleanTypes

@[expose] public section

set_option maxRecDepth 16384

noncomputable section

namespace Cert.KernelIdeal.Hand

open Cert.KernelIdeal Cert.KernelIdeal.Gen Idealize.ShloMosaic Idealize.ShloMosaic.TcCoe Cert.Attention

variable (m : (ℓ : Loc nD τ sig) → Buf (Elt Ideal) ℓ) (c : Dev nD)

/-! ## The six arguments, as functions -/

def argQC : (Sc5 4 8448 2 4 64).Idx → EReal := m (c, Proc.tc.devRef main_arg0)
def argQD : (Sc5 4 8448 8 1 96).Idx → EReal := m (c, Proc.tc.devRef main_arg1)
def argKC : (Kd 4 8448 2 64).Idx → EReal := m (c, Proc.tc.devRef main_arg2)
def argKD : (Kd 4 8448 8 96).Idx → EReal := m (c, Proc.tc.devRef main_arg3)
def argVC : (Kd 4 8448 2 64).Idx → EReal := m (c, Proc.tc.devRef main_arg4)
def argVD : (Kd 4 8448 8 64).Idx → EReal := m (c, Proc.tc.devRef main_arg5)

/-! ## The three operands that the host packs, at an index -/

theorem queries_at (b : Fin 4) (x : Fin 2048) (t : Fin 8448) :
    @Eq EReal ((V m c main_v18 : FVec Ideal S4x2048x8448 .bf16) (ix3 b x t))
      (if h : x.val < 1024 then
        (if h₁ : x.val / 128 < 8 ∧ x.val % 128 < 64 then
          argQC m c (ix5 b t ⟨x.val / 128 / 4, by omega⟩ ⟨x.val / 128 % 4, by omega⟩ ⟨x.val % 128, h₁.2⟩) * ((scaleC / Real.log 2 : ℝ) : EReal)
        else 0)
      else
        (if h₁ : (x.val - 1024) / 128 < 8 ∧ (x.val - 1024) % 128 < 96 then
          argQD m c (ix5 b t ⟨(x.val - 1024) / 128, h₁.1⟩ 0 ⟨(x.val - 1024) % 128, h₁.2⟩) * ((scaleD / Real.log 2 : ℝ) : EReal)
        else 0)) := by
  rw [← scale_div scaleC_eq, ← scale_div scaleD_eq, ← sitofp_zero (φ := .bf16)]
  unfold V
  after_reads_at
  rfl

theorem keys_at (b : Fin 4) (n : Fin 33) (j : Fin 10) (k : Fin 256) (d : Fin 128) :
    @Eq EReal ((V m c main_v27 : FVec Ideal S4x33x10x256x128 .bf16) (ix5 b n j k d))
      (if h : j.val < 2 then
        (if h₁ : n.val * 256 + k.val < 8448 ∧ d.val < 64 then argKC m c (ix4 b ⟨n.val * 256 + k.val, h₁.1⟩ ⟨j.val, h⟩ ⟨d.val, h₁.2⟩) else 0)
      else
        (if h₁ : n.val * 256 + k.val < 8448 ∧ d.val < 96 then argKD m c (ix4 b ⟨n.val * 256 + k.val, h₁.1⟩ ⟨j.val - 2, by omega⟩ ⟨d.val, h₁.2⟩) else 0)) := by
  rw [← sitofp_zero (φ := .bf16)]
  unfold V
  after_reads_at
  rfl

theorem values_at (b : Fin 4) (n : Fin 33) (j : Fin 640) (k : Fin 256) :
    @Eq EReal ((V m c main_v34 : FVec Ideal S4x33x640x256 .bf16) (ix4 b n j k))
      (if h : j.val < 128 then argVC m c (ix4 b ⟨n.val * 256 + k.val, by omega⟩ ⟨j.val / 64, by omega⟩ ⟨j.val % 64, by omega⟩)
      else argVD m c (ix4 b ⟨n.val * 256 + k.val, by omega⟩ ⟨(j.val - 128) / 64, by omega⟩ ⟨(j.val - 128) % 64, by omega⟩)) := by
  unfold V
  after_reads_at
  rfl

/-! ## The blocks that a point reads, at an index -/

theorem word_of {n : ℕ} (hn : n < 2 ^ 32) (x : Fin n) : (BitVec.ofNat 32 x.val).toNat = x.val := by
  rw [BitVec.toNat_ofNat]
  exact Nat.mod_eq_of_lt (by omega)

theorem index0 (t : Fin grid0.N) : win0_0.index t = ![(grid0.coords t 0).val, 0, (grid0.coords t 1).val] := by
  funext a
  match a with
  | 0 => exact word_of (n := 4) (by decide) (grid0.coords t 0)
  | 1 => rfl
  | 2 => exact word_of (n := 33) (by decide) (grid0.coords t 1)

theorem index1 (t : Fin grid0.N) : win0_1.index t = ![(grid0.coords t 0).val, 0, 0, 0, 0] := by
  funext a
  match a with
  | 0 => exact word_of (n := 4) (by decide) (grid0.coords t 0)
  | 1 => rfl
  | 2 => rfl
  | 3 => rfl
  | 4 => rfl

theorem index2 (t : Fin grid0.N) : win0_2.index t = ![(grid0.coords t 0).val, 0, 0, 0] := by
  funext a
  match a with
  | 0 => exact word_of (n := 4) (by decide) (grid0.coords t 0)
  | 1 => rfl
  | 2 => rfl
  | 3 => rfl

theorem index3 (t : Fin grid0.N) : win0_3.index t = ![(grid0.coords t 0).val, (grid0.coords t 1).val, 0] := by
  funext a
  match a with
  | 0 => exact word_of (n := 4) (by decide) (grid0.coords t 0)
  | 1 => exact word_of (n := 33) (by decide) (grid0.coords t 1)
  | 2 => rfl

/-- The batch of a point. -/
def batch (t : Fin cfg0.N) : Fin 4 := grid0.coords t 0
/-- The tile of rows of a point. -/
def tile (t : Fin cfg0.N) : Fin 33 := grid0.coords t 1
/-- A row of a point's tile. -/
def rowOf (t : Fin cfg0.N) (r : Fin 256) : Fin 8448 := ⟨256 * (tile t).val + r.val, by omega⟩

theorem block0_at (t : Fin cfg0.N) (x : Fin 2048) (r : Fin 256) :
    (iblk m c 0 t : FVec Ideal S1x2048x256 .bf16) (ix3 0 x r) = (V m c main_v18 : FVec Ideal S4x2048x8448 .bf16) (ix3 (batch t) x (rowOf t r)) := by
  have e := index0 t
  unfold batch rowOf tile
  blk_ext [iblk, e]

theorem block1_at (t : Fin cfg0.N) (n : Fin 33) (j : Fin 10) (k : Fin 256) (d : Fin 128) :
    (iblk m c 1 t : FVec Ideal S1x33x10x256x128 .bf16) (ix5 0 n j k d) = (V m c main_v27 : FVec Ideal S4x33x10x256x128 .bf16) (ix5 (batch t) n j k d) := by
  have e := index1 t
  unfold batch
  blk_ext [iblk, e]

theorem block2_at (t : Fin cfg0.N) (n : Fin 33) (j : Fin 640) (k : Fin 256) :
    (iblk m c 2 t : FVec Ideal S1x33x640x256 .bf16) (ix4 0 n j k) = (V m c main_v34 : FVec Ideal S4x33x640x256 .bf16) (ix4 (batch t) n j k) := by
  have e := index2 t
  unfold batch
  blk_ext [iblk, e]

end Cert.KernelIdeal.Hand

end
-- ==== Proof.KerAt.lean ====
module

public import proofs.«01_k».proof.Proof.Run
public import proofs.«01_k».proof.Proof.Math
public import Idealize.ShloMosaic.Lib.Pointwise
public import Idealize.ShloMosaic.Lib.Tactic.CleanTypes

@[expose] public section

set_option maxRecDepth 16384

noncomputable section

namespace Cert.KernelIdeal.Hand

open Cert.KernelIdeal Cert.KernelIdeal.Gen Cert.Attention Idealize.ShloMosaic

theorem scoresOf_at (vk : Vec Ideal S1x1x1x256x128 .bf16) (vq : Vec Ideal S1x128x256 .bf16) (k r : Fin 256) :
    scoresOf vk vq (ix2 k r) = ∑ d : Fin 128, vk (ix5 0 0 0 k d) * vq (ix3 0 d r) := by
  pointwise [scoresOf]

theorem colMax_at (s : FVec Ideal S256x256 .f32) (r : Fin 256) :
    colMax s (ix2 0 r) = Finset.univ.fold max (Ideal.ofBits .f32 0xFF800000#32) (fun k : Fin 256 => s (ix2 k r)) := by
  pointwise [colMax]

theorem newMax_at (vm vc : Vec Ideal S1x1x256 .f32) (r : Fin 256) : newMax vm vc (ix2 0 r) = max (vm (ix3 0 0 r)) (vc (ix3 0 0 r)) := by
  pointwise [newMax]

theorem weightsOf_at (vm vc : Vec Ideal S1x1x256 .f32) (vs : Vec Ideal S1x256x256 .f32) (k r : Fin 256) :
    weightsOf vm vc vs (ix2 k r) = Ideal.exp2 (vs (ix3 0 k r) - newMax vm vc (ix2 0 r)) := by
  pointwise [weightsOf]
  rfl

theorem valuesOf_at (vv : Vec Ideal S1x1x64x256 .bf16) (e : Fin 80) (k : Fin 256) :
    valuesOf vv (ix2 e k) = if h : e.val < 64 then vv (ix4 0 0 ⟨e.val, h⟩ k) else 1 := by
  pointwise [valuesOf]

theorem newAcc_at (vm vc : Vec Ideal S1x1x256 .f32) (vs : Vec Ideal S1x256x256 .f32) (vv : Vec Ideal S1x1x64x256 .bf16) (va : Vec Ideal S1x80x256 .f32)
    (e : Fin 80) (r : Fin 256) :
    newAcc vm vc vs vv va (ix2 e r) = Ideal.exp2 (vm (ix3 0 0 r) - newMax vm vc (ix2 0 r)) * va (ix3 0 e r)
      + ∑ k : Fin 256, valuesOf vv (ix2 e k) * weightsOf vm vc vs (ix2 k r) := by
  pointwise [newAcc]
  rfl

section Head
variable (X2 : S1x2048x256.Idx → Elt Ideal .bf16) (X3 : S1x33x10x256x128.Idx → Elt Ideal .bf16) (X4 : S1x33x640x256.Idx → Elt Ideal .bf16)

theorem scAt_at (n g : ℕ) (k r : Fin 256) : scAt X2 X3 n g (ix3 0 k r) = ∑ d : Fin 128, kAt X3 n g (ix5 0 0 0 k d) * qAt X2 g (ix3 0 d r) := by
  rw [← scoresOf_at]
  pointwise [scAt]

theorem cmAt_at (n g : ℕ) (r : Fin 256) : cmAt X2 X3 n g (ix3 0 0 r)
    = Finset.univ.fold max (Ideal.ofBits .f32 0xFF800000#32) (fun k : Fin 256 => scAt X2 X3 n g (ix3 0 k r)) := by
  have e : (fun k : Fin 256 => scAt X2 X3 n g (ix3 0 k r)) = fun k => scoresOf (kAt X3 n g) (qAt X2 g) (ix2 k r) :=
    funext fun k => by rw [scAt_at, scoresOf_at]
  rw [e, ← colMax_at]
  pointwise [cmAt]

theorem mxAt_zero (g : ℕ) (r : Fin 256) : mxAt X2 X3 0 g (ix3 0 0 r) = Ideal.ofBits .f32 0xF149F2CA#32 := rfl

theorem mxAt_step (n g : ℕ) (r : Fin 256) : mxAt X2 X3 (n + 1) g (ix3 0 0 r) = newMax (mxAt X2 X3 n g) (cmAt X2 X3 n g) (ix2 0 r) := by
  pointwise [mxAt]

theorem acAt_zero (g : ℕ) (e : Fin 80) (r : Fin 256) : acAt X2 X3 X4 0 g (ix3 0 e r) = Ideal.ofBits .f32 0x00000000#32 := rfl

theorem acAt_step (n g : ℕ) (e : Fin 80) (r : Fin 256) : acAt X2 X3 X4 (n + 1) g (ix3 0 e r)
    = newAcc (mxAt X2 X3 n g) (cmAt X2 X3 n g) (scAt X2 X3 n g) (vAt X4 n g) (acAt X2 X3 X4 n g) (ix2 e r) := by
  pointwise [acAt]

theorem start_eq : Ideal.ofBits .f32 0xF149F2CA#32 = ((Ideal.ofBits .f32 0xF149F2CA#32).toReal : EReal) := by
  simp [Ideal.ofBits, Ideal.ieee, -EReal.coe_mul]

/-- A head's quotient at a query: the attention. -/
theorem head_at {g : ℕ} {r : Fin 256} {S T : ℕ → ℝ} (hT : ∀ x, T x * Real.log 2 = S x)
    (hs : ∀ n (k : Fin 256), scAt X2 X3 n g (ix3 0 k r) = ((T (256 * n + k) : ℝ) : EReal)) {w : ℕ → EReal} {e : Fin 64}
    (hw : ∀ n (k : Fin 256), vAt X4 n g (ix4 0 0 e k) = w (256 * n + k)) {N : ℕ} (hN : 0 < N) :
    Ideal.div (acAt X2 X3 X4 N g (ix3 0 ⟨e.val, by omega⟩ r)) (acAt X2 X3 X4 N g (ix3 0 64 r)) = attn (256 * N) S w := by
  have hbot : Ideal.ofBits .f32 0xFF800000#32 = ⊥ := by simp [Ideal.ofBits, Ideal.ieee]
  refine softmax_run (M := fun n => mxAt X2 X3 n g (ix3 0 0 r)) (A := fun n => acAt X2 X3 X4 n g (ix3 0 ⟨e.val, by omega⟩ r))
    (L := fun n => acAt X2 X3 X4 n g (ix3 0 64 r)) hT ((mxAt_zero X2 X3 g r).trans start_eq) (fun n => ?_) ?_ ?_ (fun n => ?_) (fun n => ?_) hN
  · show mxAt X2 X3 (n + 1) g (ix3 0 0 r) = _
    rw [mxAt_step, newMax_at, cmAt_at, hbot]
    simp only [hs]
  · show acAt X2 X3 X4 0 g _ = 0
    rw [acAt_zero, Ideal.ofBits_zero_f32]
  · show acAt X2 X3 X4 0 g _ = 0
    rw [acAt_zero, Ideal.ofBits_zero_f32]
  · show acAt X2 X3 X4 (n + 1) g _ = _
    rw [acAt_step, newAcc_at]
    simp only [weightsOf_at, ← mxAt_step, hs]
    refine congrArg₂ (· + ·) rfl (Finset.sum_congr rfl fun k _ => ?_)
    rw [valuesOf_at, dif_pos e.isLt, hw]
  · show acAt X2 X3 X4 (n + 1) g _ = _
    rw [acAt_step, newAcc_at]
    simp only [weightsOf_at, ← mxAt_step, hs]
    refine congrArg₂ (· + ·) rfl (Finset.sum_congr rfl fun k _ => ?_)
    rw [valuesOf_at, dif_neg (by decide)]

/-- A head's quotients, from its sums of values and of weights. -/
def quot (u : Vec Ideal S1x64x256 .f32) (v : Vec Ideal S1x1x256 .f32) : FVec Ideal S64x256 .f32 :=
  divf (shapeCast S64x256 u shapeCasts_S1x64x256_S64x256) (broadcastTo S64x256 (shapeCast S1x256 v shapeCasts_S1x1x256_S1x256) broadcasts_S1x256_S64x256)

theorem quot_at (u v) (e : Fin 64) (r : Fin 256) : quot u v (ix2 e r) = Ideal.div (u (ix3 0 e r)) (v (ix3 0 0 r)) := by
  pointwise [quot]

theorem headOut_at (A : S16x80x256.Idx → Elt Ideal .f32) (g : Fin 16) (e : Fin 64) (r : Fin 256) :
    headOut (F := Ideal) A g (ix2 e r) = Ideal.div (A (ix3 g ⟨e.val, by omega⟩ r)) (A (ix3 g 64 r)) := by
  refine (quot_at _ _ e r).trans (congrArg₂ Ideal.div (congrArg A (funext fun a => Fin.ext ?_)) (congrArg A (funext fun a => Fin.ext ?_)))
  · match a with
    | 0 => show g.val + 1 * 0 = g.val; omega
    | 1 => show 0 + 1 * e.val = e.val; omega
    | 2 => show 0 + 1 * r.val = r.val; omega
  · match a with
    | 0 => show g.val + 1 * 0 = g.val; omega
    | 1 => show 64 + 1 * 0 = 64; omega
    | 2 => show 0 + 1 * r.val = r.val; omega

/-- The heads' quotients one above another. -/
def stacked (f : Fin 16 → FVec Ideal S64x256 .f32) : FVec Ideal S1024x256 .f32 :=
  concatenate S1024x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩, ⟨S64x256, f 8⟩, ⟨S64x256, f 9⟩, ⟨S64x256, f 10⟩, ⟨S64x256, f 11⟩, ⟨S64x256, f 12⟩, ⟨S64x256, f 13⟩, ⟨S64x256, f 14⟩, ⟨S64x256, f 15⟩] concatenates_S64x256_S64x256_S64x256_S64x256_S64x256_S64x256_S64x256_S64x256_S64x256_S64x256_S64x256_S64x256_S64x256_S64x256_S64x256_S64x256_S1024x256_d0

theorem stacked_at (f : Fin 16 → FVec Ideal S64x256 .f32) (n : Fin 1024) (r : Fin 256) :
    stacked f (ix2 n r) = f ⟨n.val / 64, by omega⟩ (ix2 ⟨n.val % 64, by omega⟩ r) := by
  refine concatenate_ofFn_apply (t := S1024x256) (s₁ := S64x256) 0 f
    concatenates_S64x256_S64x256_S64x256_S64x256_S64x256_S64x256_S64x256_S64x256_S64x256_S64x256_S64x256_S64x256_S64x256_S64x256_S64x256_S64x256_S1024x256_d0
    rfl 64 rfl (ix2 n r) ⟨n.val / 64, by omega⟩ rfl (ix2 ⟨n.val % 64, by omega⟩ r) rfl fun b hb => ?_
  match b with
  | 0 => exact absurd rfl hb
  | 1 => rfl

/-- They, as the block is written. -/
def written' (h : FVec Ideal S1024x256 .f32) : FVec Ideal S1x256x1024 .bf16 :=
  shapeCast S1x256x1024 (truncf .bf16 (transpose S256x1024 [1, 0] h transposes_S1024x256_p1_0_S256x1024) bitsLt_bf16_f32) shapeCasts_S256x1024_S1x256x1024

theorem written'_at (h : FVec Ideal S1024x256 .f32) (r : Fin 256) (n : Fin 1024) : written' h (ix3 0 r n) = h (ix2 n r) := by
  pointwise [written']

theorem blockOut_at (A : S16x80x256.Idx → Elt Ideal .f32) (r : Fin 256) (n : Fin 1024) :
    blockOut (F := Ideal) A (ix3 0 r n) = Ideal.div (A (ix3 ⟨n.val / 64, by omega⟩ ⟨n.val % 64, by omega⟩ r)) (A (ix3 ⟨n.val / 64, by omega⟩ 64 r)) := by
  have e : blockOut (F := Ideal) A = written' (stacked (headOut (F := Ideal) A)) := rfl
  rw [e, written'_at, stacked_at, headOut_at]

end Head

end Cert.KernelIdeal.Hand

end
-- ==== Proof.Value.lean ====
module

public import proofs.«01_k».proof.Proof.HostAt
public import proofs.«01_k».proof.Proof.KerAt
public import Idealize.ShloMosaic.Lib.Pipeline.Covers

@[expose] public section

set_option maxRecDepth 16384

noncomputable section

namespace Cert.KernelIdeal.Hand

open Cert.KernelIdeal Cert.KernelIdeal.Gen Idealize.ShloMosaic Idealize.ShloMosaic.TcCoe Cert.Attention

/-! ## A head, from its slabs -/

section Head
variable (X2 : S1x2048x256.Idx → Elt Ideal .bf16) (X3 : S1x33x10x256x128.Idx → Elt Ideal .bf16) (X4 : S1x33x640x256.Idx → Elt Ideal .bf16)

/-- A head whose slabs hold scaled queries, keys and values, the features past the last zero, has the mixer's result. -/
theorem head_spec {H G D : ℕ} (hD : D ≤ 128) (q : (Sc5 4 8448 H G D).Idx → EReal) (k : (Kd 4 8448 H D).Idx → EReal)
    (v : (Kd 4 8448 H 64).Idx → EReal) (hq : IsReal q) (hk : IsReal k) (c : ℝ) (b : Fin 4) (t : Fin 8448) (h : Fin H) (j : Fin G) (e : Fin 64)
    {g : ℕ} {r : Fin 256}
    (eq : ∀ d : Fin 128, @Eq EReal (qAt X2 g (ix3 0 d r)) (if hd : d.val < D then q (ix5 b t h j ⟨d.val, hd⟩) * ((c / Real.log 2 : ℝ) : EReal) else 0))
    (ek : ∀ n (x : Fin 256) (d : Fin 128), @Eq EReal (kAt X3 n g (ix5 0 0 0 x d)) (if hd : d.val < D then k (ix4 b (row (256 * n + x.val)) h ⟨d.val, hd⟩) else 0))
    (ev : ∀ n (x : Fin 256), @Eq EReal (vAt X4 n g (ix4 0 0 e x)) (v (ix4 b (row (256 * n + x.val)) h e)))
    {N : ℕ} (hN : 0 < N) (hNt : 256 * N = keysOf t.val) :
    Ideal.div (acAt X2 X3 X4 N g (ix3 0 ⟨e.val, by omega⟩ r)) (acAt X2 X3 X4 N g (ix3 0 64 r)) = spec c q k v b t h j e := by
  have hl : Real.log 2 ≠ 0 := (Real.log_pos (by norm_num)).ne'
  unfold spec
  rw [← hNt]
  refine head_at X2 X3 X4
    (T := fun x => score c (fun x d => (k (ix4 b (row x) h d)).toReal) (fun d => (q (ix5 b t h j d)).toReal) x / Real.log 2)
    (fun x => div_mul_cancel₀ _ hl) (fun n x => ?_) (fun n x => ev n x) hN
  rw [scAt_at]
  have step : ∀ d : Fin 128, kAt X3 n g (ix5 0 0 0 x d) * qAt X2 g (ix3 0 d r)
      = if hd : d.val < D then (((k (ix4 b (row (256 * n + x.val)) h ⟨d.val, hd⟩)).toReal * ((q (ix5 b t h j ⟨d.val, hd⟩)).toReal * (c / Real.log 2)) : ℝ) : EReal) else 0 := by
    intro d
    rw [ek, eq]
    by_cases hd : d.val < D
    · rw [dif_pos hd, dif_pos hd, dif_pos hd, hq _, hk _, ← EReal.coe_mul, ← EReal.coe_mul]
      rfl
    · rw [dif_neg hd, dif_neg hd, dif_neg hd, mul_zero]
  rw [Finset.sum_congr rfl fun d _ => step d,
    sum_pad hD fun d => (((k (ix4 b (row (256 * n + x.val)) h d)).toReal * ((q (ix5 b t h j d)).toReal * (c / Real.log 2)) : ℝ) : EReal),
    ← coe_sum']
  refine congrArg _ ?_
  unfold score
  rw [mul_div_assoc, Finset.sum_mul]
  exact Finset.sum_congr rfl fun d _ => by ring

theorem qAt_at {g : ℕ} (hg : g < 16) (d : Fin 128) (r : Fin 256) : qAt X2 g (ix3 0 d r) = X2 (ix3 0 ⟨128 * g + d.val, by omega⟩ r) := by
  refine congrArg X2 (funext fun a => Fin.ext ?_)
  match a with
  | 0 => rfl
  | 1 => show (128 * g + d.val) % 2048 = 128 * g + d.val; omega
  | 2 => show (0 + r.val) % 256 = r.val; omega

theorem kv_lt {g : ℕ} (hg : g < 16) : kv g < 10 := by unfold kv; split_ifs <;> omega

theorem kAt_at {g : ℕ} (hg : g < 16) (n : ℕ) (x : Fin 256) (d : Fin 128) :
    kAt X3 n g (ix5 0 0 0 x d) = X3 (ix5 0 ⟨n % 33, Nat.mod_lt _ (by decide)⟩ ⟨kv g, kv_lt hg⟩ x d) := by
  have := kv_lt hg
  refine congrArg X3 (funext fun a => Fin.ext ?_)
  match a with
  | 0 => rfl
  | 1 => rfl
  | 2 => show (kv g + 0) % 10 = kv g; omega
  | 3 => show (0 + x.val) % 256 = x.val; omega
  | 4 => show (0 + d.val) % 128 = d.val; omega

theorem vAt_at {g : ℕ} (hg : g < 16) (n : ℕ) (e : Fin 64) (x : Fin 256) :
    vAt X4 n g (ix4 0 0 e x) = X4 (ix4 0 ⟨n % 33, Nat.mod_lt _ (by decide)⟩ ⟨64 * kv g + e.val, by have := kv_lt hg; omega⟩ x) := by
  have := kv_lt hg
  refine congrArg X4 (funext fun a => Fin.ext ?_)
  match a with
  | 0 => rfl
  | 1 => rfl
  | 2 => show (64 * kv g + e.val) % 640 = 64 * kv g + e.val; omega
  | 3 => show (0 + x.val) % 256 = x.val; omega

end Head

variable (m : (ℓ : Loc nD τ sig) → Buf (Elt Ideal) ℓ) (c : Dev nD)

theorem row_eq (n : ℕ) (x : Fin 256) (h : n % 33 * 256 + x.val < 8448) : (⟨n % 33 * 256 + x.val, h⟩ : Fin 8448) = row (256 * n + x.val) :=
  Fin.ext (by show n % 33 * 256 + x.val = (256 * n + x.val) % 8448; omega)

theorem tiles_keys (t : Fin cfg0.N) (r : Fin 256) : 256 * tilesOf (grid0.coords t) = keysOf (rowOf t r).val := by
  have e : (grid0.coords t 1).val = (tile t).val := rfl
  unfold tilesOf keysOf rowOf
  rw [e]
  dsimp only
  split_ifs <;> omega

theorem tiles_pos (i : grid0.Coords) : 0 < tilesOf i := by unfold tilesOf; split_ifs <;> decide

/-- A grouped head of a point. -/
theorem head_grouped (hq : IsReal (argQC m c)) (hk : IsReal (argKC m c)) (t : Fin cfg0.N) (r : Fin 256) (e : Fin 64) {g : ℕ} (hg : g < 8) :
    Ideal.div (acAt (iblk m c 0 t) (iblk m c 1 t) (iblk m c 2 t) (tilesOf (grid0.coords t)) g (ix3 0 ⟨e.val, by omega⟩ r))
        (acAt (iblk m c 0 t) (iblk m c 1 t) (iblk m c 2 t) (tilesOf (grid0.coords t)) g (ix3 0 64 r))
      = spec scaleC (argQC m c) (argKC m c) (argVC m c) (batch t) (rowOf t r) ⟨g / 4, by omega⟩ ⟨g % 4, by omega⟩ e := by
  have hkv : kv g = g / 4 := by unfold kv; split_ifs <;> omega
  refine head_spec _ _ _ (by decide) _ _ _ hq hk scaleC (batch t) (rowOf t r) ⟨g / 4, by omega⟩ ⟨g % 4, by omega⟩ e
    (fun d => ?_) (fun n x d => ?_) (fun n x => ?_) (tiles_pos _) (tiles_keys t r)
  · rw [qAt_at _ (by omega)]
    refine (block0_at m c t _ r).trans ((queries_at m c _ _ _).trans ?_)
    rw [dif_pos (show 128 * g + d.val < 1024 by omega)]
    by_cases hd : d.val < 64
    · rw [dif_pos (show (128 * g + d.val) / 128 < 8 ∧ (128 * g + d.val) % 128 < 64 by omega), dif_pos hd]
      congr 2
      congr 1 <;> exact Fin.ext (by show _ = _; dsimp only; omega)
    · rw [dif_neg (show ¬ ((128 * g + d.val) / 128 < 8 ∧ (128 * g + d.val) % 128 < 64) by omega), dif_neg hd]
  · rw [kAt_at _ (by omega)]
    refine (block1_at m c t _ _ x d).trans ((keys_at m c _ _ _ _ _).trans ?_)
    rw [dif_pos (show kv g < 2 by omega)]
    by_cases hd : d.val < 64
    · rw [dif_pos (show n % 33 * 256 + x.val < 8448 ∧ d.val < 64 by omega), dif_pos hd, row_eq]
      congr 2
      exact Fin.ext hkv
    · rw [dif_neg (show ¬ (n % 33 * 256 + x.val < 8448 ∧ d.val < 64) by omega), dif_neg hd]
  · rw [vAt_at _ (by omega)]
    refine (block2_at m c t _ _ x).trans ((values_at m c _ _ _ _).trans ?_)
    rw [dif_pos (show 64 * kv g + e.val < 128 by omega), row_eq]
    congr 2 <;> exact Fin.ext (by show _ = _; dsimp only; omega)

/-- A latent head of a point. -/
theorem head_latent (hq : IsReal (argQD m c)) (hk : IsReal (argKD m c)) (t : Fin cfg0.N) (r : Fin 256) (e : Fin 64) {g : ℕ} (hg : g < 8) :
    Ideal.div (acAt (iblk m c 0 t) (iblk m c 1 t) (iblk m c 2 t) (tilesOf (grid0.coords t)) (g + 8) (ix3 0 ⟨e.val, by omega⟩ r))
        (acAt (iblk m c 0 t) (iblk m c 1 t) (iblk m c 2 t) (tilesOf (grid0.coords t)) (g + 8) (ix3 0 64 r))
      = spec scaleD (argQD m c) (argKD m c) (argVD m c) (batch t) (rowOf t r) ⟨g, hg⟩ 0 e := by
  have hkv : kv (g + 8) = g + 2 := by unfold kv; split_ifs <;> omega
  refine head_spec _ _ _ (by decide) _ _ _ hq hk scaleD (batch t) (rowOf t r) ⟨g, hg⟩ 0 e
    (fun d => ?_) (fun n x d => ?_) (fun n x => ?_) (tiles_pos _) (tiles_keys t r)
  · rw [qAt_at _ (by omega)]
    refine (block0_at m c t _ r).trans ((queries_at m c _ _ _).trans ?_)
    rw [dif_neg (show ¬ 128 * (g + 8) + d.val < 1024 by omega)]
    by_cases hd : d.val < 96
    · rw [dif_pos (show (128 * (g + 8) + d.val - 1024) / 128 < 8 ∧ (128 * (g + 8) + d.val - 1024) % 128 < 96 by omega), dif_pos hd]
      congr 2
      congr 1 <;> exact Fin.ext (by show _ = _; dsimp only; omega)
    · rw [dif_neg (show ¬ ((128 * (g + 8) + d.val - 1024) / 128 < 8 ∧ (128 * (g + 8) + d.val - 1024) % 128 < 96) by omega), dif_neg hd]
  · rw [kAt_at _ (by omega)]
    refine (block1_at m c t _ _ x d).trans ((keys_at m c _ _ _ _ _).trans ?_)
    rw [dif_neg (show ¬ kv (g + 8) < 2 by omega)]
    by_cases hd : d.val < 96
    · rw [dif_pos (show n % 33 * 256 + x.val < 8448 ∧ d.val < 96 by omega), dif_pos hd, row_eq]
      congr 2
    · rw [dif_neg (show ¬ (n % 33 * 256 + x.val < 8448 ∧ d.val < 96) by omega), dif_neg hd]
  · rw [vAt_at _ (by omega)]
    refine (block2_at m c t _ _ x).trans ((values_at m c _ _ _ _).trans ?_)
    rw [dif_neg (show ¬ 64 * kv (g + 8) + e.val < 128 by omega), row_eq]
    congr 2 <;> exact Fin.ext (by show _ = _; dsimp only; omega)

/-! ## The result -/

/-- The two mixers' results, side by side, at an index. -/
def wholeAt (b : Fin 4) (t : Fin 8448) (n : Fin 1024) : EReal :=
  if h : n.val < 512 then
    spec scaleC (argQC m c) (argKC m c) (argVC m c) b t ⟨n.val / 256, by omega⟩ ⟨n.val / 64 % 4, by omega⟩ ⟨n.val % 64, by omega⟩
  else
    spec scaleD (argQD m c) (argKD m c) (argVD m c) b t ⟨(n.val - 512) / 64, by omega⟩ 0 ⟨(n.val - 512) % 64, by omega⟩

/-- The two mixers' results, side by side. -/
def whole : (⟨3, ![4, 8448, 1024]⟩ : Shape).Idx → EReal := fun y => wholeAt m c (y 0) (y 1) (y 2)

theorem outsAt_at (hqc : IsReal (argQC m c)) (hkc : IsReal (argKC m c)) (hqd : IsReal (argQD m c)) (hkd : IsReal (argKD m c))
    (t : Fin cfg0.N) (r : Fin 256) (n : Fin 1024) :
    @Eq EReal ((outsAt m c t : FVec Ideal S1x256x1024 .bf16) (ix3 0 r n)) (wholeAt m c (batch t) (rowOf t r) n) := by
  have hn := n.isLt
  unfold outsAt
  rw [blockOut_at]
  have e (i : Fin 16) (x : Fin 80) : Ac (iblk m c 0 t) (iblk m c 1 t) (iblk m c 2 t) (tilesOf (grid0.coords t)) (ix3 i x r)
      = acAt (iblk m c 0 t) (iblk m c 1 t) (iblk m c 2 t) (tilesOf (grid0.coords t)) i.val (ix3 0 x r) := by
    refine congrArg (acAt _ _ _ _ i.val) (funext fun a => ?_)
    match a with
    | 0 => rfl
    | 1 => rfl
    | 2 => rfl
  rw [e, e]
  by_cases h : n.val < 512
  · refine (head_grouped m c hqc hkc t r ⟨n.val % 64, by omega⟩ (g := n.val / 64) (by omega)).trans ?_
    refine Eq.trans ?_ (dif_pos h).symm
    congr 1
    exact Fin.ext (by show _ = _; dsimp only; omega)
  · obtain ⟨g, hg⟩ : ∃ g, n.val / 64 = g + 8 := ⟨n.val / 64 - 8, by omega⟩
    rw [Fin.mk.injEq .. |>.mpr hg |> fun (x : (⟨n.val / 64, by omega⟩ : Fin 16) = ⟨g + 8, by omega⟩) => x]
    refine (head_latent m c hqd hkd t r ⟨n.val % 64, by omega⟩ (g := g) (by omega)).trans ?_
    refine Eq.trans ?_ (dif_neg h).symm
    congr 1 <;> exact Fin.ext (by show _ = _; dsimp only; omega)

/-- A grid point, by its two coordinates. -/
def coordsOf (b : Fin 4) (q : Fin 33) : grid0.Coords := fun a => match a with
  | 0 => b
  | 1 => q

/-- The result array of the call. -/
theorem result (hqc : IsReal (argQC m c)) (hkc : IsReal (argKC m c)) (hqd : IsReal (argQD m c)) (hkd : IsReal (argKD m c)) :
    (dats m 0 c).arrAt 3 cfg0.N = whole m c := by
  refine (dats m 0 c).arrAt_eq_of_covers 3 _
    ((cfg0.win 3).covers_of_indexMap_surj rfl (by decide) fun β => ⟨coordsOf (β 0) (β 1), fun a => ?_⟩) fun t hf y => ?_
  · match a with
    | 0 => exact word_of (n := 4) (by decide) (β 0)
    | 1 => exact word_of (n := 33) (by decide) (β 1)
    | 2 => exact (Nat.lt_one_iff.mp (β 2).isLt).symm
  · have e := index3 t
    have hy : y = ix3 0 (y 1) (y 2) := by
      funext a
      match a with
      | 0 => exact Fin.ext (Nat.lt_one_iff.mp (y 0).isLt)
      | 1 => rfl
      | 2 => rfl
    blk_simp
    rw [after0_3]
    rw [hy]
    refine (outsAt_at m c hqc hkc hqd hkd t (y 1) (y 2)).trans ?_
    unfold whole
    congr 1 <;> refine Fin.ext ?_ <;> blk_simp [e]
    · show _ = _ + 0; rfl
    · show 256 * _ + _ = _ * 256 + _; rw [Nat.mul_comm]; rfl

end Cert.KernelIdeal.Hand

end
-- ==== Proof.RefAt.lean ====
module

public import proofs.«01_k».proof.Proof.Gen.ReferenceIdeal.Run
public import proofs.«01_k».proof.Proof.Spec

@[expose] public section

set_option maxRecDepth 16384

noncomputable section

namespace Cert.ReferenceIdeal.Hand

open Cert.ReferenceIdeal Cert.ReferenceIdeal.Gen Cert.Attention Idealize.ShloMosaic

variable (qc : FVec Ideal S4x8448x2x4x64 .f32) (qd : FVec Ideal S4x8448x8x1x96 .f32) (kc : FVec Ideal S4x8448x2x64 .f32) (kd : FVec Ideal S4x8448x8x96 .f32)
  (vc : FVec Ideal S4x8448x2x64 .f32) (vd : FVec Ideal S4x8448x8x64 .f32)

def ctxC : FVec Ideal S4x256x2x4x64 .f32 :=
  mixRow (B := 4) (H := 2) (G := 4) (Q := 256) (K := 256) (D := 64) (E := 64) dot_S4x256x2x64_S4x256x2x4x64_S4x2x256x256x4_3_4_1_13_02_02_wf transposes_S4x2x256x256x4_S4x2x4x256x256_0_1_4_3_2 bcast_S_S4x2x4x256x256
    bcast_S4x2x4x256x1_S4x2x4x256x256_0_1_2_3_4 bcast_S4x2x4x256_S4x2x4x256x1_0_1_2_3 bcast_S_S4x2x4x256 reducesTo_S4x2x4x256x256_S4x2x4x256_d4 h_S_
    dot_S4x256x2x64_S4x2x4x256x256_S4x2x64x4x256_1_4_3_23_02_01_wf transposes_S4x2x64x4x256_S4x256x2x4x64_0_4_1_3_2 0x3E000000#32
    (extractStridedSlice S4x256x2x4x64 ![0, 0, 0, 0, 0] qc slices_S4x8448x2x4x64_S4x256x2x4x64_0_0_0_0_0)
    (extractStridedSlice S4x256x2x64 ![0, 0, 0, 0] kc slices_S4x8448x2x64_S4x256x2x64_0_0_0_0)
    (extractStridedSlice S4x256x2x64 ![0, 0, 0, 0] vc slices_S4x8448x2x64_S4x256x2x64_0_0_0_0)

def ctxD : FVec Ideal S4x256x8x1x64 .f32 :=
  mixRow (B := 4) (H := 8) (G := 1) (Q := 256) (K := 256) (D := 96) (E := 64) dot_S4x256x8x96_S4x256x8x1x96_S4x8x256x256x1_3_4_1_13_02_02_wf transposes_S4x8x256x256x1_S4x8x1x256x256_0_1_4_3_2 bcast_S_S4x8x1x256x256
    bcast_S4x8x1x256x1_S4x8x1x256x256_0_1_2_3_4 bcast_S4x8x1x256_S4x8x1x256x1_0_1_2_3 bcast_S_S4x8x1x256 reducesTo_S4x8x1x256x256_S4x8x1x256_d4 h_S_
    dot_S4x256x8x64_S4x8x1x256x256_S4x8x64x1x256_1_4_3_23_02_01_wf transposes_S4x8x64x1x256_S4x256x8x1x64_0_4_1_3_2 0x3DD105EC#32
    (extractStridedSlice S4x256x8x1x96 ![0, 0, 0, 0, 0] qd slices_S4x8448x8x1x96_S4x256x8x1x96_0_0_0_0_0)
    (extractStridedSlice S4x256x8x96 ![0, 0, 0, 0] kd slices_S4x8448x8x96_S4x256x8x96_0_0_0_0)
    (extractStridedSlice S4x256x8x64 ![0, 0, 0, 0] vd slices_S4x8448x8x64_S4x256x8x64_0_0_0_0)

def latC : FVec Ideal S4x8192x2x4x64 .f32 :=
  mixRow (B := 4) (H := 2) (G := 4) (Q := 8192) (K := 8448) (D := 64) (E := 64) dot_S4x8448x2x64_S4x8192x2x4x64_S4x2x8448x8192x4_3_4_1_13_02_02_wf transposes_S4x2x8448x8192x4_S4x2x4x8192x8448_0_1_4_3_2 bcast_S_S4x2x4x8192x8448
    bcast_S4x2x4x8192x1_S4x2x4x8192x8448_0_1_2_3_4 bcast_S4x2x4x8192_S4x2x4x8192x1_0_1_2_3 bcast_S_S4x2x4x8192 reducesTo_S4x2x4x8192x8448_S4x2x4x8192_d4 h_S_
    dot_S4x8448x2x64_S4x2x4x8192x8448_S4x2x64x4x8192_1_4_3_23_02_01_wf transposes_S4x2x64x4x8192_S4x8192x2x4x64_0_4_1_3_2 0x3E000000#32
    (extractStridedSlice S4x8192x2x4x64 ![0, 256, 0, 0, 0] qc slices_S4x8448x2x4x64_S4x8192x2x4x64_0_256_0_0_0) kc vc

def latD : FVec Ideal S4x8192x8x1x64 .f32 :=
  mixRow (B := 4) (H := 8) (G := 1) (Q := 8192) (K := 8448) (D := 96) (E := 64) dot_S4x8448x8x96_S4x8192x8x1x96_S4x8x8448x8192x1_3_4_1_13_02_02_wf transposes_S4x8x8448x8192x1_S4x8x1x8192x8448_0_1_4_3_2 bcast_S_S4x8x1x8192x8448
    bcast_S4x8x1x8192x1_S4x8x1x8192x8448_0_1_2_3_4 bcast_S4x8x1x8192_S4x8x1x8192x1_0_1_2_3 bcast_S_S4x8x1x8192 reducesTo_S4x8x1x8192x8448_S4x8x1x8192_d4 h_S_
    dot_S4x8448x8x64_S4x8x1x8192x8448_S4x8x64x1x8192_1_4_3_23_02_01_wf transposes_S4x8x64x1x8192_S4x8192x8x1x64_0_4_1_3_2 0x3DD105EC#32
    (extractStridedSlice S4x8192x8x1x96 ![0, 256, 0, 0, 0] qd slices_S4x8448x8x1x96_S4x8192x8x1x96_0_256_0_0_0) kd vd

def whole (cC : FVec Ideal S4x256x2x4x64 .f32) (cD : FVec Ideal S4x256x8x1x64 .f32) (lC : FVec Ideal S4x8192x2x4x64 .f32) (lD : FVec Ideal S4x8192x8x1x64 .f32) :
    FVec Ideal S4x8448x1024 .bf16 :=
  truncf .bf16 (concatenate S4x8448x1024 1
    [⟨S4x256x1024, concatenate S4x256x1024 2 [⟨S4x256x512, shapeCast S4x256x512 cC shapeCasts_S4x256x2x4x64_S4x256x512⟩,
      ⟨S4x256x512, shapeCast S4x256x512 cD shapeCasts_S4x256x8x1x64_S4x256x512⟩] concatenates_S4x256x512_S4x256x512_S4x256x1024_d2⟩,
     ⟨S4x8192x1024, concatenate S4x8192x1024 2 [⟨S4x8192x512, shapeCast S4x8192x512 lC shapeCasts_S4x8192x2x4x64_S4x8192x512⟩,
      ⟨S4x8192x512, shapeCast S4x8192x512 lD shapeCasts_S4x8192x8x1x64_S4x8192x512⟩] concatenates_S4x8192x512_S4x8192x512_S4x8192x1024_d2⟩]
    concatenates_S4x256x1024_S4x8192x1024_S4x8448x1024_d1) bitsLt_bf16_f32

theorem res_eq (m : (ℓ : Loc nD τ sig) → Buf (Elt Ideal) ℓ) (c : Dev nD) :
    Value.res_main_v83 m c = whole (ctxC (m ((c.tc : Thread nD τ).loc main_arg0)) (m ((c.tc : Thread nD τ).loc main_arg2)) (m ((c.tc : Thread nD τ).loc main_arg4)))
      (ctxD (m ((c.tc : Thread nD τ).loc main_arg1)) (m ((c.tc : Thread nD τ).loc main_arg3)) (m ((c.tc : Thread nD τ).loc main_arg5)))
      (latC (m ((c.tc : Thread nD τ).loc main_arg0)) (m ((c.tc : Thread nD τ).loc main_arg2)) (m ((c.tc : Thread nD τ).loc main_arg4)))
      (latD (m ((c.tc : Thread nD τ).loc main_arg1)) (m ((c.tc : Thread nD τ).loc main_arg3)) (m ((c.tc : Thread nD τ).loc main_arg5))) := rfl

theorem whole_at (cC cD lC lD) (b : Fin 4) (t : Fin 8448) (n : Fin 1024) : whole cC cD lC lD (ix3 b t n) =
    if h : t.val < 256 then
      if h' : n.val < 512 then cC (ix5 b ⟨t.val, h⟩ ⟨n.val / 256, by omega⟩ ⟨n.val / 64 % 4, by omega⟩ ⟨n.val % 64, by omega⟩)
      else cD (ix5 b ⟨t.val, h⟩ ⟨(n.val - 512) / 64, by omega⟩ 0 ⟨(n.val - 512) % 64, by omega⟩)
    else
      if h' : n.val < 512 then lC (ix5 b ⟨t.val - 256, by omega⟩ ⟨n.val / 256, by omega⟩ ⟨n.val / 64 % 4, by omega⟩ ⟨n.val % 64, by omega⟩)
      else lD (ix5 b ⟨t.val - 256, by omega⟩ ⟨(n.val - 512) / 64, by omega⟩ 0 ⟨(n.val - 512) % 64, by omega⟩) := by
  pointwise [whole]

theorem ctxC_at (hq : IsReal qc) (hk : IsReal kc) (b : Fin 4) (t : Fin 8448) (ht : t.val < 256) (h : Fin 2) (g : Fin 4) (e : Fin 64) :
    ctxC qc kc vc (ix5 b ⟨t.val, ht⟩ h g e) = spec scaleC qc kc vc b t h g e := by
  unfold spec keysOf
  rw [if_pos ht]
  refine mixRow_at _ _ _ _ _ _ _ _ _ _ _ _ _ _ (by decide) bot_eq scaleC_eq b _ h g e _ _ _ (fun x d => ?_) (fun d => ?_) fun x => ?_
  · rw [row_ctx, ← hk]; pointwise
  · rw [← hq]; pointwise
  · rw [row_ctx]; pointwise

theorem ctxD_at (hq : IsReal qd) (hk : IsReal kd) (b : Fin 4) (t : Fin 8448) (ht : t.val < 256) (h : Fin 8) (g : Fin 1) (e : Fin 64) :
    ctxD qd kd vd (ix5 b ⟨t.val, ht⟩ h g e) = spec scaleD qd kd vd b t h g e := by
  obtain rfl : g = 0 := Subsingleton.elim _ _
  unfold spec keysOf
  rw [if_pos ht]
  refine mixRow_at _ _ _ _ _ _ _ _ _ _ _ _ _ _ (by decide) bot_eq scaleD_eq b _ h 0 e _ _ _ (fun x d => ?_) (fun d => ?_) fun x => ?_
  · rw [row_ctx, ← hk]; pointwise
  · rw [← hq]; pointwise
  · rw [row_ctx]; pointwise

theorem latC_at (hq : IsReal qc) (hk : IsReal kc) (b : Fin 4) (t : Fin 8448) (ht : ¬ t.val < 256) (h : Fin 2) (g : Fin 4) (e : Fin 64) :
    latC qc kc vc (ix5 b ⟨t.val - 256, by omega⟩ h g e) = spec scaleC qc kc vc b t h g e := by
  unfold spec keysOf
  rw [if_neg ht]
  refine mixRow_at _ _ _ _ _ _ _ _ _ _ _ _ _ _ (by decide) bot_eq scaleC_eq b _ h g e _ _ _ (fun x d => ?_) (fun d => ?_) fun x => ?_
  · rw [row_fin, ← hk]
  · rw [← hq]; pointwise; congr; omega
  · rw [row_fin]

theorem latD_at (hq : IsReal qd) (hk : IsReal kd) (b : Fin 4) (t : Fin 8448) (ht : ¬ t.val < 256) (h : Fin 8) (g : Fin 1) (e : Fin 64) :
    latD qd kd vd (ix5 b ⟨t.val - 256, by omega⟩ h g e) = spec scaleD qd kd vd b t h g e := by
  obtain rfl : g = 0 := Subsingleton.elim _ _
  unfold spec keysOf
  rw [if_neg ht]
  refine mixRow_at _ _ _ _ _ _ _ _ _ _ _ _ _ _ (by decide) bot_eq scaleD_eq b _ h 0 e _ _ _ (fun x d => ?_) (fun d => ?_) fun x => ?_
  · rw [row_fin, ← hk]
  · rw [← hq]; pointwise; congr; omega
  · rw [row_fin]

/-- The reference's result at an index. -/
theorem reference_at (hqc : IsReal qc) (hqd : IsReal qd) (hkc : IsReal kc) (hkd : IsReal kd) (b : Fin 4) (t : Fin 8448) (n : Fin 1024) :
    whole (ctxC qc kc vc) (ctxD qd kd vd) (latC qc kc vc) (latD qd kd vd) (ix3 b t n) =
      if h : n.val < 512 then spec scaleC qc kc vc b t ⟨n.val / 256, by omega⟩ ⟨n.val / 64 % 4, by omega⟩ ⟨n.val % 64, by omega⟩
      else spec scaleD qd kd vd b t ⟨(n.val - 512) / 64, by omega⟩ 0 ⟨(n.val - 512) % 64, by omega⟩ := by
  rw [whole_at]
  by_cases ht : t.val < 256
  · rw [dif_pos ht]
    by_cases hn : n.val < 512
    · rw [dif_pos hn, dif_pos hn]
      exact ctxC_at _ _ _ hqc hkc b t ht _ _ _
    · rw [dif_neg hn, dif_neg hn]
      exact ctxD_at _ _ _ hqd hkd b t ht _ _ _
  · rw [dif_neg ht]
    by_cases hn : n.val < 512
    · rw [dif_pos hn, dif_pos hn]
      exact latC_at _ _ _ hqc hkc b t ht _ _ _
    · rw [dif_neg hn, dif_neg hn]
      exact latD_at _ _ _ hqd hkd b t ht _ _ _

end Cert.ReferenceIdeal.Hand

end
-- ==== Proof.Finite.lean ====
module

public import proofs.«01_k».proof.Proof.Spec
public import proofs.«01_k».proof.Proof.Gen.Pre_finite_scores
public import Idealize.ShloMosaic.Lib.Pointwise

@[expose] public section

noncomputable section

namespace Cert.Attention

open Idealize.ShloMosaic

theorem inf_eq : Ideal.ofBits .f32 0x7F800000#32 = ⊤ := by
  simp [Ideal.ofBits, Ideal.ieee]

/-- An array whose mask of finite elements is all ones is of real numbers. -/
theorem isReal_of_mask {s : Shape} (x : FVec Ideal s .f32) {dims : Fin 0 → Fin s.rank} (hb : (⟨0, ![]⟩ : Shape).BroadcastsInDim s dims)
    (h : cmpf .olt (Host.absf x) (broadcastInDim s dims hb (constant (F := Ideal) ⟨0, ![]⟩ .f32 0x7F800000#32)) = fun _ => 1#1) : IsReal x := by
  intro i
  have hi := congrFun h i
  pointwise at hi
  rw [inf_eq] at hi
  have lt : (max (x i) (-(x i)) : EReal) < ⊤ := by
    by_contra hn
    have e : decide ((FloatOps.absf (x i) : Ideal .f32) < ⊤) = false := decide_eq_false hn
    rw [e] at hi
    exact absurd hi (by decide)
  refine (EReal.coe_toReal (fun e => ?_) fun e => ?_).symm
  · rw [e] at lt
    simp at lt
  · rw [e] at lt
    simp at lt

end Cert.Attention

end
-- ==== Proof.FfnMath.lean ====
module

public import proofs.«01_k».proof.Proof.Math
public import proofs.«01_k».proof.Proof.RefSoft

@[expose] public section

set_option maxRecDepth 16384

noncomputable section

namespace Cert.FeedForward

open Idealize.ShloMosaic Cert.Attention Finset

/-- The gated feed-forward of one row: what feature `f` adds to column `n` of the result, out of the row and the three weights. -/
def term {D : ℕ} (h : Fin D → EReal) (g u : Fin D → ℕ → EReal) (w : ℕ → EReal) (f : ℕ) : EReal :=
  ((∑ d, h d * g d f) * Ideal.logistic (∑ d, h d * g d f)) * (∑ d, h d * u d f) * w f

/-- Column `n` of the feed-forward of one row with `N` hidden features. -/
def ffn (N : ℕ) {D : ℕ} (h : Fin D → EReal) (g u : Fin D → ℕ → EReal) (w : ℕ → EReal) : EReal := ∑ f ∈ range N, term h g u w f

/-- The features in eleven tiles of 256. -/
theorem tiles_eleven (T : ℕ → EReal) :
    (∑ k : Fin 256, T (0 + k.val)) + (∑ k : Fin 256, T (256 + k.val)) + (∑ k : Fin 256, T (512 + k.val)) + (∑ k : Fin 256, T (768 + k.val))
      + (∑ k : Fin 256, T (1024 + k.val)) + (∑ k : Fin 256, T (1280 + k.val)) + (∑ k : Fin 256, T (1536 + k.val)) + (∑ k : Fin 256, T (1792 + k.val))
      + (∑ k : Fin 256, T (2048 + k.val)) + (∑ k : Fin 256, T (2304 + k.val)) + (∑ k : Fin 256, T (2560 + k.val)) = ∑ f ∈ range 2816, T f := by
  rw [show (2816 : ℕ) = 256 * 11 from rfl, ← tiles_sum]
  simp only [sum_range_succ, sum_range_zero, zero_add]
  rfl

end Cert.FeedForward

end
-- ==== Proof.FfnKer.lean ====
module

public import proofs.«01_k».proof.Proof.FfnMath
public import proofs.«01_k».proof.Proof.Gen.Kernel2Ideal.Value
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel2Ideal.Hand

open Cert.Kernel2Ideal Cert.Kernel2Ideal.Gen Idealize.ShloMosaic Cert.FeedForward

/-- A tile of one of the two inner products. -/
def up (h : FVec Ideal S768x1024 .bf16) (v : Vec Ideal S1x1024x256 .bf16) : FVec Ideal S768x256 .f32 :=
  matmul (φ₂ := .bf16) dot_S768x1024_S1024x256_S768x256_1_0_0_1_n_n none h (shapeCast S1024x256 v shapeCasts_S1x1024x256_S1024x256) (constant S768x256 .f32 0x00000000#32)

/-- What a tile of 256 hidden features adds to the result. -/
def chunk (h : FVec Ideal S768x1024 .bf16) (g u : Vec Ideal S1x1024x256 .bf16) (d : Vec Ideal S1x256x1024 .bf16) : FVec Ideal S768x1024 .f32 :=
  matmul (φ₂ := .bf16) dot_S768x256_S256x1024_S768x1024_1_0_0_1_n_n none (truncf .bf16 (mulf (mulf (up h g) (logistic (up h g))) (up h u)) bitsLt_bf16_f32)
    (shapeCast S256x1024 d shapeCasts_S1x256x1024_S256x1024) (constant S768x1024 .f32 0x00000000#32)

theorem up_at (h : FVec Ideal S768x1024 .bf16) (v : Vec Ideal S1x1024x256 .bf16) (r : Fin 768) (k : Fin 256) :
    up h v (ix2 r k) = ∑ d : Fin 1024, h (ix2 r d) * v (ix3 0 d k) := by
  pointwise [up]

theorem chunk_at (h : FVec Ideal S768x1024 .bf16) (g u : Vec Ideal S1x1024x256 .bf16) (d : Vec Ideal S1x256x1024 .bf16) (r : Fin 768) (n : Fin 1024) :
    chunk h g u d (ix2 r n) = ∑ k : Fin 256, ((up h g (ix2 r k) * Ideal.logistic (up h g (ix2 r k))) * up h u (ix2 r k)) * d (ix3 0 k n) := by
  pointwise [chunk]

section Loads
variable {o : ℕ}

theorem ldCols (X : Vec Ideal S1x1024x2816 .bf16) (inb : ∀ a, (![0, 0, o] : Fin 3 → ℕ) a + S1x1024x256.size a ≤ S1x1024x2816.size a) (d : Fin 1024) (k : Fin 256) :
    View.ld X (Rect.unit (s := S1x1024x2816) ![0, 0, o] S1x1024x256.size inb) (ix3 0 d k) = X (ix3 0 d ⟨(o + k.val) % 2816, Nat.mod_lt _ (by decide)⟩) := by
  have h : o + 256 ≤ 2816 := inb 2
  refine View.ld_unit_apply_of X _ _ inb _ _ fun a => ?_
  match a with
  | 0 => rfl
  | 1 => exact (Nat.zero_add _).symm
  | 2 => exact Nat.mod_eq_of_lt (by have := k.isLt; omega)

theorem ldRows (X : Vec Ideal S1x2816x1024 .bf16) (inb : ∀ a, (![0, o, 0] : Fin 3 → ℕ) a + S1x256x1024.size a ≤ S1x2816x1024.size a) (k : Fin 256) (n : Fin 1024) :
    View.ld X (Rect.unit (s := S1x2816x1024) ![0, o, 0] S1x256x1024.size inb) (ix3 0 k n) = X (ix3 0 ⟨(o + k.val) % 2816, Nat.mod_lt _ (by decide)⟩ n) := by
  have h : o + 256 ≤ 2816 := inb 1
  refine View.ld_unit_apply_of X _ _ inb _ _ fun a => ?_
  match a with
  | 0 => rfl
  | 1 => exact Nat.mod_eq_of_lt (by have := k.isLt; omega)
  | 2 => exact (Nat.zero_add _).symm

end Loads

/-- The columns of the inner weights and the rows of the outer one, by number. -/
def colOf (X : Vec Ideal S1x1024x2816 .bf16) (d : Fin 1024) (f : ℕ) : EReal := X (ix3 0 d ⟨f % 2816, Nat.mod_lt _ (by decide)⟩)
def rowOf (X : Vec Ideal S1x2816x1024 .bf16) (n : Fin 1024) (f : ℕ) : EReal := X (ix3 0 ⟨f % 2816, Nat.mod_lt _ (by decide)⟩ n)

theorem chunk_ld {o : ℕ} (h : FVec Ideal S768x1024 .bf16) (X4 X5 : Vec Ideal S1x1024x2816 .bf16) (X6 : Vec Ideal S1x2816x1024 .bf16)
    (inb : ∀ a, (![0, 0, o] : Fin 3 → ℕ) a + S1x1024x256.size a ≤ S1x1024x2816.size a)
    (inb' : ∀ a, (![0, o, 0] : Fin 3 → ℕ) a + S1x256x1024.size a ≤ S1x2816x1024.size a) (r : Fin 768) (n : Fin 1024) :
    chunk h (View.ld X4 (Rect.unit (s := S1x1024x2816) ![0, 0, o] S1x1024x256.size inb)) (View.ld X5 (Rect.unit (s := S1x1024x2816) ![0, 0, o] S1x1024x256.size inb))
        (View.ld X6 (Rect.unit (s := S1x2816x1024) ![0, o, 0] S1x256x1024.size inb')) (ix2 r n)
      = ∑ k : Fin 256, term (fun d : Fin 1024 => h (ix2 r d)) (colOf X4) (colOf X5) (rowOf X6 n) (o + k.val) := by
  rw [chunk_at]
  refine Finset.sum_congr rfl fun k _ => ?_
  rw [up_at, up_at]
  unfold term
  rw [ldRows, Finset.sum_congr rfl fun d _ => congrArg (h (ix2 r d) * ·) (ldCols X4 inb d k), Finset.sum_congr rfl fun d _ => congrArg (h (ix2 r d) * ·) (ldCols X5 inb d k)]
  rfl

/-- The eleven tiles. -/
def body (X0 : Vec Ideal S1x768x1024 .bf16) (X4 X5 : Vec Ideal S1x1024x2816 .bf16) (X6 : Vec Ideal S1x2816x1024 .bf16) : FVec Ideal S768x1024 .f32 :=
  have h := k0_pay3 X0
  addf (addf (addf (addf (addf (addf (addf (addf (addf (addf
    (chunk h (View.ld X4 r0_1) (View.ld X5 r0_1) (View.ld X6 r0_2)) (chunk h (View.ld X4 r0_3) (View.ld X5 r0_3) (View.ld X6 r0_4)))
    (chunk h (View.ld X4 r0_5) (View.ld X5 r0_5) (View.ld X6 r0_6))) (chunk h (View.ld X4 r0_7) (View.ld X5 r0_7) (View.ld X6 r0_8)))
    (chunk h (View.ld X4 r0_9) (View.ld X5 r0_9) (View.ld X6 r0_10))) (chunk h (View.ld X4 r0_11) (View.ld X5 r0_11) (View.ld X6 r0_12)))
    (chunk h (View.ld X4 r0_13) (View.ld X5 r0_13) (View.ld X6 r0_14))) (chunk h (View.ld X4 r0_15) (View.ld X5 r0_15) (View.ld X6 r0_16)))
    (chunk h (View.ld X4 r0_17) (View.ld X5 r0_17) (View.ld X6 r0_18))) (chunk h (View.ld X4 r0_19) (View.ld X5 r0_19) (View.ld X6 r0_20)))
    (chunk h (View.ld X4 r0_21) (View.ld X5 r0_21) (View.ld X6 r0_22))

theorem body_at (X0 : Vec Ideal S1x768x1024 .bf16) (X4 X5 : Vec Ideal S1x1024x2816 .bf16) (X6 : Vec Ideal S1x2816x1024 .bf16) (r : Fin 768) (n : Fin 1024) :
    body X0 X4 X5 X6 (ix2 r n) = ffn 2816 (fun d : Fin 1024 => X0 (ix3 0 r d)) (colOf X4) (colOf X5) (rowOf X6 n) := by
  have e : (fun d : Fin 1024 => X0 (ix3 0 r d)) = fun d => k0_pay3 X0 (ix2 r d) := by
    funext d
    pointwise [k0_pay3]
  unfold ffn
  rw [e, ← tiles_eleven]
  iterate 10 refine (congrArg₂ (· + ·) ?_ (chunk_ld (k0_pay3 X0) X4 X5 X6 _ _ r n))
  exact chunk_ld (k0_pay3 X0) X4 X5 X6 _ _ r n

theorem out_eq (i : grid0.Coords) (X0 : Vec Ideal S1x768x1024 .bf16) (X1 : Vec Ideal S1x768x1024 .f32) (X2 X3 : Vec Ideal S1x6x1024 .f32)
    (X4 X5 : Vec Ideal S1x1024x2816 .bf16) (X6 : Vec Ideal S1x2816x1024 .bf16) :
    out0_7 i X0 X1 X2 X3 X4 X5 X6 = k0_pay1 (k0_pay2 i) (body X0 X4 X5 X6) X1 (View.ld X3 r0_23) (View.ld X2 r0_23) := by
  unfold out0_7
  rw [View.canon_cons_unit_lit _ _ _ (by decide), View.ld_unit_lit _ X0 (by decide), View.ld_unit_lit _ X1 (by decide)]
  unfold k0_pay12
  rw [View.ld_unit_lit _ X0 (by decide)]
  rfl

theorem mask_at (i : grid0.Coords) (r : Fin 768) : (k0_pay2 i (ix2 r 0) = 1#1) ↔ 768 * (i 1).val + r.val < 256 := by
  have h1 : (i 1).val < 11 := (i 1).isLt
  have hr : r.val < 768 := r.isLt
  pointwise [k0_pay2]
  rw [show Scalar.muli (BitVec.ofNat 32 (i 1).val) 768#32 = BitVec.ofNat 32 ((i 1).val * 768) from WordCmp.muli_ofNat _ _, WordCmp.addi_ofNat,
    Nat.mul_comm]
  exact WordCmp.cmpi_slt_ofNat_eq_one_iff (w := 32) (by norm_num; omega) (by norm_num)

theorem ldMod (X : Vec Ideal S1x6x1024 .f32) (n : Fin 1024) : View.ld X r0_23 (ix3 0 0 n) = X (ix3 0 5 n) := by
  refine View.ld_unit_apply_of X _ _ _ _ _ fun a => ?_
  match a with
  | 0 => rfl
  | 1 => rfl
  | 2 => exact (Nat.zero_add _).symm

theorem out_at (i : grid0.Coords) (X0 : Vec Ideal S1x768x1024 .bf16) (X1 : Vec Ideal S1x768x1024 .f32) (X2 X3 : Vec Ideal S1x6x1024 .f32)
    (X4 X5 : Vec Ideal S1x1024x2816 .bf16) (X6 : Vec Ideal S1x2816x1024 .bf16) (r : Fin 768) (n : Fin 1024) :
    out0_7 i X0 X1 X2 X3 X4 X5 X6 (ix3 0 r n) = X1 (ix3 0 r n) + (if 768 * (i 1).val + r.val < 256 then X3 (ix3 0 5 n) else X2 (ix3 0 5 n))
      * ffn 2816 (fun d : Fin 1024 => X0 (ix3 0 r d)) (colOf X4) (colOf X5) (rowOf X6 n) := by
  rw [out_eq, ← body_at, ← ldMod X3, ← ldMod X2]
  generalize body X0 X4 X5 X6 = y
  have hm := mask_at i r
  generalize k0_pay2 i = p at hm ⊢
  generalize View.ld X3 r0_23 = v
  generalize View.ld X2 r0_23 = w
  pointwise [k0_pay1]
  congr 2
  by_cases h : 768 * (i 1).val + r.val < 256
  · rw [if_pos h, hm.mpr h]
    rfl
  · rw [if_neg h]
    exact if_neg fun hp => h (hm.mp hp)

end Cert.Kernel2Ideal.Hand

end
-- ==== Proof.FfnHost.lean ====
module

public import proofs.«01_k».proof.Proof.FfnKer
public import Idealize.ShloMosaic.Lib.StableHlo.ReadAt
public import Idealize.ShloMosaic.Lib.KernelVsHost
public import Idealize.ShloMosaic.Lib.Pipeline.Covers

@[expose] public section

set_option maxRecDepth 16384

noncomputable section

namespace Cert.Kernel2Ideal.Hand

open Cert.Kernel2Ideal Cert.Kernel2Ideal.Gen Idealize.ShloMosaic Idealize.ShloMosaic.TcCoe Cert.FeedForward

variable (m : (ℓ : Loc nD τ sig) → Buf (Elt Ideal) ℓ) (c : Dev nD)

/-! ## The arguments, as functions -/

def argH : (⟨3, ![4, 8448, 1024]⟩ : Shape).Idx → EReal := m (c, Proc.tc.devRef main_arg0)
def argT : (⟨3, ![4, 256, 1024]⟩ : Shape).Idx → EReal := m (c, Proc.tc.devRef main_arg1)
def argX : (⟨3, ![4, 8192, 1024]⟩ : Shape).Idx → EReal := m (c, Proc.tc.devRef main_arg2)
def argMX : (⟨2, ![4, 6144]⟩ : Shape).Idx → EReal := m (c, Proc.tc.devRef main_arg3)
def argMT : (⟨2, ![1, 6144]⟩ : Shape).Idx → EReal := m (c, Proc.tc.devRef main_arg4)
def argG : (⟨2, ![1024, 2816]⟩ : Shape).Idx → EReal := m (c, Proc.tc.devRef main_arg5)
def argU : (⟨2, ![1024, 2816]⟩ : Shape).Idx → EReal := m (c, Proc.tc.devRef main_arg6)
def argW : (⟨2, ![2816, 1024]⟩ : Shape).Idx → EReal := m (c, Proc.tc.devRef main_arg7)

/-! ## The operands of the call, at an index -/

theorem rows_at (b : Fin 4) (t : Fin 8448) (n : Fin 1024) :
    @Eq EReal ((V m c main_v4 : FVec Ideal S4x8448x1024 .bf16) (ix3 b t n)) (argH m c (ix3 b t n)) := by
  unfold V
  after_reads_at
  rfl

theorem state_at (b : Fin 4) (t : Fin 8448) (n : Fin 1024) :
    @Eq EReal ((V m c main_v0 : FVec Ideal S4x8448x1024 .f32) (ix3 b t n))
      (if h : t.val < 256 then argT m c (ix3 b ⟨t.val, h⟩ n) else argX m c (ix3 b ⟨t.val - 256, by omega⟩ n)) := by
  unfold V
  after_reads_at
  rfl

theorem mods_at (b : Fin 4) (n : Fin 1024) :
    @Eq EReal ((V m c main_v3 : FVec Ideal S8x6x1024 .f32) (ix3 ⟨b.val, by omega⟩ 5 n)) (argMX m c (ix2 b ⟨5120 + n.val, by omega⟩)) := by
  have hn := n.isLt
  unfold V
  after_reads_at
  rfl

theorem mods_ctx (n : Fin 1024) :
    @Eq EReal ((V m c main_v3 : FVec Ideal S8x6x1024 .f32) (ix3 4 5 n)) (argMT m c (ix2 0 ⟨5120 + n.val, by omega⟩)) := by
  have hn := n.isLt
  unfold V
  after_reads_at
  rfl

theorem gate_at (d : Fin 1024) (f : Fin 2816) : @Eq EReal ((V m c main_v6 : FVec Ideal S1x1024x2816 .bf16) (ix3 0 d f)) (argG m c (ix2 d f)) := by
  unfold V
  after_reads_at
  rfl

theorem upper_at (d : Fin 1024) (f : Fin 2816) : @Eq EReal ((V m c main_v8 : FVec Ideal S1x1024x2816 .bf16) (ix3 0 d f)) (argU m c (ix2 d f)) := by
  unfold V
  after_reads_at
  rfl

theorem down_at (f : Fin 2816) (n : Fin 1024) : @Eq EReal ((V m c main_v10 : FVec Ideal S1x2816x1024 .bf16) (ix3 0 f n)) (argW m c (ix2 f n)) := by
  unfold V
  after_reads_at
  rfl

/-! ## The blocks that a point reads, at an index -/

theorem word_of {n : ℕ} (hn : n < 2 ^ 32) (x : Fin n) : (BitVec.ofNat 32 x.val).toNat = x.val := by
  rw [BitVec.toNat_ofNat]
  exact Nat.mod_eq_of_lt (by omega)

theorem index0 (t : Fin grid0.N) : win0_0.index t = ![(grid0.coords t 0).val, (grid0.coords t 1).val, 0] := by
  funext a
  match a with
  | 0 => exact word_of (n := 4) (by decide) (grid0.coords t 0)
  | 1 => exact word_of (n := 11) (by decide) (grid0.coords t 1)
  | 2 => rfl

theorem index1 (t : Fin grid0.N) : win0_1.index t = ![(grid0.coords t 0).val, (grid0.coords t 1).val, 0] := index0 t

theorem index7 (t : Fin grid0.N) : win0_7.index t = ![(grid0.coords t 0).val, (grid0.coords t 1).val, 0] := index0 t

theorem index2 (t : Fin grid0.N) : win0_2.index t = ![(grid0.coords t 0).val, 0, 0] := by
  funext a
  match a with
  | 0 => exact word_of (n := 4) (by decide) (grid0.coords t 0)
  | 1 => rfl
  | 2 => rfl

theorem index3 (t : Fin grid0.N) : win0_3.index t = ![4, 0, 0] := by
  funext a
  match a with
  | 0 => rfl
  | 1 => rfl
  | 2 => rfl

theorem index4 (t : Fin grid0.N) : win0_4.index t = ![0, 0, 0] := by
  funext a
  match a with
  | 0 => rfl
  | 1 => rfl
  | 2 => rfl

theorem index5 (t : Fin grid0.N) : win0_5.index t = ![0, 0, 0] := index4 t

theorem index6 (t : Fin grid0.N) : win0_6.index t = ![0, 0, 0] := index4 t

/-- The batch of a point. -/
def batch (t : Fin cfg0.N) : Fin 4 := grid0.coords t 0
/-- The tile of rows of a point. -/
def tile (t : Fin cfg0.N) : Fin 11 := grid0.coords t 1
/-- A row of a point's tile. -/
def posOf (t : Fin cfg0.N) (r : Fin 768) : Fin 8448 := ⟨768 * (tile t).val + r.val, by omega⟩

theorem block0_at (t : Fin cfg0.N) (r : Fin 768) (n : Fin 1024) :
    (iblk m c 0 t : FVec Ideal S1x768x1024 .bf16) (ix3 0 r n) = (V m c main_v4 : FVec Ideal S4x8448x1024 .bf16) (ix3 (batch t) (posOf t r) n) := by
  have e := index0 t
  unfold batch posOf tile
  blk_ext [iblk, e]

theorem block1_at (t : Fin cfg0.N) (r : Fin 768) (n : Fin 1024) :
    (iblk m c 1 t : FVec Ideal S1x768x1024 .f32) (ix3 0 r n) = (V m c main_v0 : FVec Ideal S4x8448x1024 .f32) (ix3 (batch t) (posOf t r) n) := by
  have e := index1 t
  unfold batch posOf tile
  blk_ext [iblk, e]

theorem block2_at (t : Fin cfg0.N) (j : Fin 6) (n : Fin 1024) :
    (iblk m c 2 t : FVec Ideal S1x6x1024 .f32) (ix3 0 j n) = (V m c main_v3 : FVec Ideal S8x6x1024 .f32) (ix3 ⟨(batch t).val, by omega⟩ j n) := by
  have e := index2 t
  unfold batch
  blk_ext [iblk, e]

theorem block3_at (t : Fin cfg0.N) (j : Fin 6) (n : Fin 1024) :
    (iblk m c 3 t : FVec Ideal S1x6x1024 .f32) (ix3 0 j n) = (V m c main_v3 : FVec Ideal S8x6x1024 .f32) (ix3 4 j n) := by
  have e := index3 t
  blk_ext [iblk, e]

theorem block4_at (t : Fin cfg0.N) (d : Fin 1024) (f : Fin 2816) :
    (iblk m c 4 t : FVec Ideal S1x1024x2816 .bf16) (ix3 0 d f) = (V m c main_v6 : FVec Ideal S1x1024x2816 .bf16) (ix3 0 d f) := by
  have e := index4 t
  blk_ext [iblk, e]

theorem block5_at (t : Fin cfg0.N) (d : Fin 1024) (f : Fin 2816) :
    (iblk m c 5 t : FVec Ideal S1x1024x2816 .bf16) (ix3 0 d f) = (V m c main_v8 : FVec Ideal S1x1024x2816 .bf16) (ix3 0 d f) := by
  have e := index5 t
  blk_ext [iblk, e]

theorem block6_at (t : Fin cfg0.N) (f : Fin 2816) (n : Fin 1024) :
    (iblk m c 6 t : FVec Ideal S1x2816x1024 .bf16) (ix3 0 f n) = (V m c main_v10 : FVec Ideal S1x2816x1024 .bf16) (ix3 0 f n) := by
  have e := index6 t
  blk_ext [iblk, e]

/-! ## The result -/

/-- The rows with the gated feed-forward added, at an index. -/
def wholeAt (b : Fin 4) (t : Fin 8448) (n : Fin 1024) : EReal :=
  (if h : t.val < 256 then argT m c (ix3 b ⟨t.val, h⟩ n) else argX m c (ix3 b ⟨t.val - 256, by omega⟩ n))
    + (if t.val < 256 then argMT m c (ix2 0 ⟨5120 + n.val, by omega⟩) else argMX m c (ix2 b ⟨5120 + n.val, by omega⟩))
      * ffn 2816 (fun d : Fin 1024 => argH m c (ix3 b t d)) (fun d f => argG m c (ix2 d ⟨f % 2816, Nat.mod_lt _ (by decide)⟩))
        (fun d f => argU m c (ix2 d ⟨f % 2816, Nat.mod_lt _ (by decide)⟩)) (fun f => argW m c (ix2 ⟨f % 2816, Nat.mod_lt _ (by decide)⟩ n))

def whole : (⟨3, ![4, 8448, 1024]⟩ : Shape).Idx → EReal := fun y => wholeAt m c (y 0) (y 1) (y 2)

theorem point_at (t : Fin cfg0.N) (r : Fin 768) (n : Fin 1024) :
    @Eq EReal ((out0_7 (grid0.coords t) (iblk m c 0 t) (iblk m c 1 t) (iblk m c 2 t) (iblk m c 3 t) (iblk m c 4 t) (iblk m c 5 t) (iblk m c 6 t)
      : FVec Ideal S1x768x1024 .f32) (ix3 0 r n)) (wholeAt m c (batch t) (posOf t r) n) := by
  refine (out_at (grid0.coords t) (iblk m c 0 t) (iblk m c 1 t) (iblk m c 2 t) (iblk m c 3 t) (iblk m c 4 t) (iblk m c 5 t) (iblk m c 6 t) r n).trans ?_
  have e0 : (fun d : Fin 1024 => (iblk m c 0 t : FVec Ideal S1x768x1024 .bf16) (ix3 0 r d)) = fun d => argH m c (ix3 (batch t) (posOf t r) d) :=
    funext fun d => (block0_at m c t r d).trans (rows_at m c _ _ _)
  have e4 : colOf (iblk m c 4 t) = fun d f => argG m c (ix2 d ⟨f % 2816, Nat.mod_lt _ (by decide)⟩) :=
    funext fun d => funext fun f => (block4_at m c t d _).trans (gate_at m c _ _)
  have e5 : colOf (iblk m c 5 t) = fun d f => argU m c (ix2 d ⟨f % 2816, Nat.mod_lt _ (by decide)⟩) :=
    funext fun d => funext fun f => (block5_at m c t d _).trans (upper_at m c _ _)
  have e6 : rowOf (iblk m c 6 t) n = fun f => argW m c (ix2 ⟨f % 2816, Nat.mod_lt _ (by decide)⟩ n) :=
    funext fun f => (block6_at m c t _ n).trans (down_at m c _ _)
  rw [e0, e4, e5, e6]
  unfold wholeAt
  refine congrArg₂ (· + ·) ((block1_at m c t r n).trans (state_at m c _ _ _)) (congrArg (· * _) ?_)
  have hc : 768 * (grid0.coords t 1).val + r.val = (posOf t r).val := rfl
  rw [hc]
  by_cases h : (posOf t r).val < 256
  · rw [if_pos h, if_pos h]
    exact (block3_at m c t 5 n).trans (mods_ctx m c n)
  · rw [if_neg h, if_neg h]
    exact (block2_at m c t 5 n).trans (mods_at m c _ n)

/-- A grid point, by its two coordinates. -/
def coordsOf (b : Fin 4) (q : Fin 11) : grid0.Coords := fun a => match a with
  | 0 => b
  | 1 => q

/-- The result array of the call. -/
theorem result : (dats m 0 c).arrAt 7 cfg0.N = whole m c := by
  refine (dats m 0 c).arrAt_eq_of_covers 7 _
    ((cfg0.win 7).covers_of_indexMap_surj rfl (by decide) fun β => ⟨coordsOf (β 0) (β 1), fun a => ?_⟩) fun t hf y => ?_
  · match a with
    | 0 => exact word_of (n := 4) (by decide) (β 0)
    | 1 => exact word_of (n := 11) (by decide) (β 1)
    | 2 => exact (Nat.lt_one_iff.mp (β 2).isLt).symm
  · have e := index7 t
    have hy : y = ix3 0 (y 1) (y 2) := by
      funext a
      match a with
      | 0 => exact Fin.ext (Nat.lt_one_iff.mp (y 0).isLt)
      | 1 => rfl
      | 2 => rfl
    blk_simp
    rw [after0_7]
    rw [hy]
    refine (point_at m c t (y 1) (y 2)).trans ?_
    unfold whole
    congr 1 <;> refine Fin.ext ?_ <;> blk_simp [e]
    · show _ = _ + 0; rfl
    · show 768 * _ + _ = _ * 768 + _; rw [Nat.mul_comm]; rfl

end Cert.Kernel2Ideal.Hand

end
-- ==== Proof.FfnRef.lean ====
module

public import proofs.«01_k».proof.Proof.FfnMath
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Reference2Ideal.Hand

open Cert.Reference2Ideal Cert.Reference2Ideal.Gen Idealize.ShloMosaic Cert.FeedForward

section Sizes
variable {B T D N : ℕ}

abbrev Rows (B T D : ℕ) : Shape := ⟨3, ![B, T, D]⟩
abbrev Mat (D N : ℕ) : Shape := ⟨2, ![D, N]⟩

def dotR (wf : DotDims.WF (Rows B T D) (Mat D N) (Rows B T N) [2] [0] [0, 1] [1] [] []) : DotDims (Rows B T D) (Mat D N) (Rows B T N) where
  lhsContracting := [2]
  rhsContracting := [0]
  lhsNonContracting := [0, 1]
  rhsNonContracting := [1]
  lhsBatch := []
  rhsBatch := []
  wf := wf

/-- Rows times a matrix. -/
def rowsMul (wf : DotDims.WF (Rows B T D) (Mat D N) (Rows B T N) [2] [0] [0, 1] [1] [] []) (x : FVec Ideal (Rows B T D) .f32) (w : FVec Ideal (Mat D N) .f32) :
    FVec Ideal (Rows B T N) .f32 := Host.dotGeneral (dotR wf) none x w

theorem rowsMul_at (wf) (x : FVec Ideal (Rows B T D) .f32) (w : FVec Ideal (Mat D N) .f32) (b : Fin B) (t : Fin T) (n : Fin N) :
    rowsMul wf x w (ix3 b t n) = ∑ d, x (ix3 b t d) * w (ix2 d n) := by
  pointwise [rowsMul]
  rw [Ideal.matmul_apply₁_of _ (a := 2) (K := D) rfl rfl _ _ _ _ (fun d => ix3 b t d) (fun d => ix2 d n), zero_add]
  · intro d; funext a
    match a with
    | 0 => rfl
    | 1 => rfl
    | 2 => rfl
  · intro d; funext a
    match a with
    | 0 => rfl
    | 1 => rfl

/-- The gated unit. -/
def gated (h : S_.BroadcastsInDim (Rows B T N) ![]) (g u : FVec Ideal (Rows B T N) .f32) : FVec Ideal (Rows B T N) .f32 :=
  mulf (mulf g (Host.divf (broadcastInDim (Rows B T N) ![] h (constant S_ .f32 0x3F800000#32))
    (addf (broadcastInDim (Rows B T N) ![] h (constant S_ .f32 0x3F800000#32)) (Host.exp (Host.negf g))))) u

theorem gated_at (h) (g u : FVec Ideal (Rows B T N) .f32) (b : Fin B) (t : Fin T) (n : Fin N) :
    gated h g u (ix3 b t n) = (g (ix3 b t n) * Ideal.logistic (g (ix3 b t n))) * u (ix3 b t n) := by
  pointwise [gated]
  rfl

end Sizes

variable (h : FVec Ideal S4x8448x1024 .f32) (s : FVec Ideal S4x256x1024 .f32) (x : FVec Ideal S4x8192x1024 .f32) (mx : FVec Ideal S4x6144 .f32)
  (mt : FVec Ideal S1x6144 .f32) (wg wu : FVec Ideal S1024x2816 .f32) (wd : FVec Ideal S2816x1024 .f32)

def feed : FVec Ideal S4x8448x1024 .f32 :=
  rowsMul dot_S4x8448x2816_S2816x1024_S4x8448x1024_2_0_01_1_n_n_wf
    (gated bcast_S_S4x8448x2816 (rowsMul dot_S4x8448x1024_S1024x2816_S4x8448x2816_2_0_01_1_n_n_wf h wg)
      (rowsMul dot_S4x8448x1024_S1024x2816_S4x8448x2816_2_0_01_1_n_n_wf h wu)) wd

theorem feed_at (b : Fin 4) (t : Fin 8448) (n : Fin 1024) :
    feed h wg wu wd (ix3 b t n) = ffn 2816 (fun d : Fin 1024 => h (ix3 b t d)) (fun d f => wg (ix2 d ⟨f % 2816, Nat.mod_lt _ (by decide)⟩))
        (fun d f => wu (ix2 d ⟨f % 2816, Nat.mod_lt _ (by decide)⟩)) (fun f => wd (ix2 ⟨f % 2816, Nat.mod_lt _ (by decide)⟩ n)) := by
  unfold feed ffn
  rw [rowsMul_at, Finset.sum_range]
  refine Finset.sum_congr rfl fun f _ => ?_
  rw [gated_at, rowsMul_at, rowsMul_at]
  have e : (⟨f.val % 2816, Nat.mod_lt _ (by decide)⟩ : Fin 2816) = f := Fin.ext (Nat.mod_eq_of_lt f.isLt)
  unfold term
  simp only [e]

def whole (f : FVec Ideal S4x8448x1024 .f32) : FVec Ideal S4x8448x1024 .f32 :=
  concatenate S4x8448x1024 1
    [⟨S4x256x1024, addf s (mulf (broadcastInDim S4x256x1024 ![0, 1, 2] bcast_S1x1x1024_S4x256x1024_0_1_2 (extractStridedSlice S1x1x1024 ![0, 0, 5120]
        (broadcastInDim S1x1x6144 ![0, 2] bcast_S1x6144_S1x1x6144_0_2 mt) slices_S1x1x6144_S1x1x1024_0_0_5120))
        (extractStridedSlice S4x256x1024 ![0, 0, 0] f slices_S4x8448x1024_S4x256x1024_0_0_0))⟩,
     ⟨S4x8192x1024, addf x (mulf (broadcastInDim S4x8192x1024 ![0, 1, 2] bcast_S4x1x1024_S4x8192x1024_0_1_2 (extractStridedSlice S4x1x1024 ![0, 0, 5120]
        (broadcastInDim S4x1x6144 ![0, 2] bcast_S4x6144_S4x1x6144_0_2 mx) slices_S4x1x6144_S4x1x1024_0_0_5120))
        (extractStridedSlice S4x8192x1024 ![0, 256, 0] f slices_S4x8448x1024_S4x8192x1024_0_256_0))⟩]
    concatenates_S4x256x1024_S4x8192x1024_S4x8448x1024_d1

theorem whole_at (f : FVec Ideal S4x8448x1024 .f32) (b : Fin 4) (t : Fin 8448) (n : Fin 1024) :
    whole s x mx mt f (ix3 b t n) = (if h : t.val < 256 then s (ix3 b ⟨t.val, h⟩ n) else x (ix3 b ⟨t.val - 256, by omega⟩ n))
      + (if t.val < 256 then mt (ix2 0 ⟨5120 + n.val, by omega⟩) else mx (ix2 b ⟨5120 + n.val, by omega⟩)) * f (ix3 b t n) := by
  pointwise [whole]
  by_cases h : t.val < 256
  · simp only [h, dif_pos, if_pos]
  · simp only [h, dif_neg, if_neg, not_false_eq_true]
    have e : (⟨256 + (t.val - 256), by omega⟩ : Fin 8448) = t := Fin.ext (by show 256 + (t.val - 256) = t.val; omega)
    rw [e]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = whole (m ((c.tc : Thread nD τ).loc main_arg1)) (m ((c.tc : Thread nD τ).loc main_arg2))
          (m ((c.tc : Thread nD τ).loc main_arg3)) (m ((c.tc : Thread nD τ).loc main_arg4))
          (feed (m ((c.tc : Thread nD τ).loc main_arg0)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Value.run (F := Ideal) m ρ)

end Cert.Reference2Ideal.Hand

end
-- ==== Proof.MoeKit.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_grouped_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- Every window whose index map reads a table has its block inside the array at every point. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S140 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents on core `c`, and the table held at half the full share, to be read only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged: from a run to `FramePost` of proof data whose arrays are the contents at the region's entry. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2816 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x2816 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel3Ideal.Hand

end
-- ==== Proof.MoeRun.lean ====
module

public import proofs.«01_k».proof.Proof.MoeKit

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The count of used tiles, as the body reads it. -/
abbrev word1 (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))

set_option maxHeartbeats 1000000 in
/-- The body at a tile below the used count: the pieces that its stores leave in the result's buffer, with the triple. -/
noncomputable def runUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body at a tile past the used count. -/
noncomputable def runIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel3Ideal.Hand

end
-- ==== Proof.MoeFrame.lean ====
module

public import proofs.«01_k».proof.Proof.MoeRun
public import Idealize.ShloMosaic.Lib.Claim

@[expose] public section

set_option maxRecDepth 16384

noncomputable section

namespace Cert.Kernel3Ideal.Hand

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Of the two conditions exactly one holds. -/
theorem second_iff (i : grid0.Coords) (v : BitVec 32) : k0_cond2 i v = 1#1 ↔ ¬ k0_cond1 i v = 1#1 := by
  have key : ∀ b : BitVec 1, (Scalar.cmpi .ne (Scalar.extui (Scalar.xori b 1#1) : BitVec 32) 0#32 = 1#1)
      ↔ ¬ (Scalar.cmpi .ne (Scalar.extui b : BitVec 32) 0#32 = 1#1) := by decide
  exact key _

theorem not_second {i : grid0.Coords} {v : BitVec 32} (h : k0_cond1 i v = 1#1) : ¬ k0_cond2 i v = 1#1 := fun h' => (second_iff i v).mp h' h

/-- So the result's window is written at every point. -/
theorem never_idle (pf : pre0.Contents (Elt F)) (i : grid0.Coords) : idle0 pf 4 i = false := by
  show (!(k0_cond1 i (pf.atD 1 ![0]) == 1#1) && !(k0_cond2 i (pf.atD 1 ![0]) == 1#1)) = false
  by_cases h : k0_cond1 i (pf.atD 1 ![0]) = 1#1
  · rw [beq_iff_eq.mpr h]; rfl
  · rw [beq_iff_eq.mpr ((second_iff i _).mpr h)]; exact Bool.and_false _

/-- The one store covers the block. -/
theorem coverUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) (y : S512x1024.Idx) :
    ∃ pc ∈ (runUsed c i arg3 harg3 arg4 harg4 arg5 harg5 arg6 harg6 arg7 harg7 x0 x1 x2 x3 xt0 xt1 hc1 hc2).1, y ∈ pc.1.set :=
  View.cover_of_tiledL (runUsed c i arg3 harg3 arg4 harg4 arg5 harg5 arg6 harg6 arg7 harg7 x0 x1 x2 x3 xt0 xt1 hc1 hc2).1 S512x1024.size (by sl_kernel_rfl) y

/-- What the body leaves in the result's buffer. -/
def outUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) : Vec F S512x1024 .bf16 :=
  VO0_4.read (Elt F) (VO0_4.writes (Elt F) VO0_4.junk (runUsed c i arg3 harg3 arg4 harg4 arg5 harg5 arg6 harg6 arg7 harg7 x0 x1 x2 x3 xt0 xt1 hc1 hc2).1)

/-- The one store covers the block. -/
theorem coverIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) (y : S512x1024.Idx) :
    ∃ pc ∈ (runIdle c i arg3 harg3 arg4 harg4 arg5 harg5 arg6 harg6 arg7 harg7 x0 x1 x2 x3 xt0 xt1 hc1 hc2).1, y ∈ pc.1.set :=
  View.cover_of_tiledL (runIdle c i arg3 harg3 arg4 harg4 arg5 harg5 arg6 harg6 arg7 harg7 x0 x1 x2 x3 xt0 xt1 hc1 hc2).1 S512x1024.size (by sl_kernel_rfl) y

/-- What the body leaves in the result's buffer. -/
def outIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) : Vec F S512x1024 .bf16 :=
  VO0_4.read (Elt F) (VO0_4.writes (Elt F) VO0_4.junk (runIdle c i arg3 harg3 arg4 harg4 arg5 harg5 arg6 harg6 arg7 harg7 x0 x1 x2 x3 xt0 xt1 hc1 hc2).1)

/-- What the result's buffer holds after a point. -/
def outsAt0 (hO : Ok m) (c : Dev nD) (t : Fin (cfgM m hO).N) : Vec F S512x1024 .bf16 :=
  if h : k0_cond1 (grid0.coords t) (word1 c (tbl m 1)) = 1#1 then
    outUsed c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (not_second h)
  else outIdle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h ((second_iff _ _).mpr h)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  by_cases hc : k0_cond1 (grid0.coords t) (word1 c (tbl m 1)) = 1#1
  · rw [dif_pos hc]; unfold outUsed
    iintro ⟨⟨HΦ, ⟨HT0, HT1⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (iblk m hO c 0 t) (iblk m hO c 1 t) (iblk m hO c 2 t) (iblk m hO c 3 t) (tbl m 0) (tbl m 1) hc (not_second hc)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverUsed c _ _ _ _ _ _ _ _ _ _ _ _ _ _ _ _ _ _ _)
  · rw [dif_neg hc]; unfold outIdle
    iintro ⟨⟨HΦ, ⟨HT0, HT1⟩⟩, Ho, ⟨%d0, H0⟩, ⟨%d1, H1⟩, ⟨%d2, H2⟩, ⟨%d3, H3⟩, ⟨%d4, H4⟩⟩
    iapply ((runIdle c (grid0.coords t) _ _ _ _ _ _ _ _ _ _ (iblk m hO c 0 t) (iblk m hO c 1 t) (iblk m hO c 2 t) (iblk m hO c 3 t) (tbl m 0) (tbl m 1) hc ((second_iff _ _).mpr hc)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverIdle c _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : (cfgM m hO).idle 4 ((cfgM m hO).grid.coords t) = false := never_idle _ _
  unfold bodyPost
  erw [hi]

/-! ## The run and the frame -/

set_option backward.isDefEq.respectTransparency.types false in
/-- `run_main`'s statement, and every counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The run ends, leaves the arguments as they were and every counter at zero, for tables whose blocks are inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel3Ideal.Hand

end
-- ==== Proof.MoeKer.lean ====
module

public import proofs.«01_k».proof.Proof.MoeFrame
public import proofs.«01_k».proof.Proof.FfnMath
public import Idealize.ShloMosaic.Lib.Pointwise
public import Idealize.ShloMosaic.Lib.Pipeline.ValueKit
public import Idealize.ShloMosaic.Lib.Tactic.CleanTypes
public import Idealize.ShloMosaic.Lib.VecWindow

@[expose] public section

set_option maxRecDepth 16384

noncomputable section

namespace Cert.Kernel3Ideal.Hand

open Cert.Kernel3Ideal Cert.Kernel3Ideal.Gen Idealize.ShloMosaic Cert.FeedForward

/-- A tile of one of the two inner products. -/
def up (h : FVec Ideal S512x1024 .bf16) (v : Vec Ideal S1x1024x256 .f32) : FVec Ideal S512x256 .f32 :=
  matmul (φ₁ := .bf16) (φ₂ := .bf16) dot_S512x1024_S1024x256_S512x256_1_0_0_1_n_n none h
    (truncf .bf16 (shapeCast S1024x256 v shapeCasts_S1x1024x256_S1024x256) bitsLt_bf16_f32) (constant S512x256 .f32 0x00000000#32)

/-- What a tile of 256 hidden features adds to the result. -/
def chunk (h : FVec Ideal S512x1024 .bf16) (g u : Vec Ideal S1x1024x256 .f32) (d : Vec Ideal S1x256x1024 .f32) : FVec Ideal S512x1024 .f32 :=
  matmul (φ₁ := .bf16) (φ₂ := .bf16) dot_S512x256_S256x1024_S512x1024_1_0_0_1_n_n none (truncf .bf16 (mulf (mulf (up h g) (logistic (up h g))) (up h u)) bitsLt_bf16_f32)
    (truncf .bf16 (shapeCast S256x1024 d shapeCasts_S1x256x1024_S256x1024) bitsLt_bf16_f32) (constant S512x1024 .f32 0x00000000#32)

theorem up_at (h : FVec Ideal S512x1024 .bf16) (v : Vec Ideal S1x1024x256 .f32) (r : Fin 512) (k : Fin 256) :
    up h v (ix2 r k) = ∑ d : Fin 1024, h (ix2 r d) * v (ix3 0 d k) := by
  pointwise [up]

theorem chunk_at (h : FVec Ideal S512x1024 .bf16) (g u : Vec Ideal S1x1024x256 .f32) (d : Vec Ideal S1x256x1024 .f32) (r : Fin 512) (n : Fin 1024) :
    chunk h g u d (ix2 r n) = ∑ k : Fin 256, ((up h g (ix2 r k) * Ideal.logistic (up h g (ix2 r k))) * up h u (ix2 r k)) * d (ix3 0 k n) := by
  pointwise [chunk]

section Loads
variable {o : ℕ}

theorem ldCols (X : Vec Ideal S1x1024x2816 .f32) (inb : ∀ a, (![0, 0, o] : Fin 3 → ℕ) a + S1x1024x256.size a ≤ S1x1024x2816.size a) (d : Fin 1024) (k : Fin 256) :
    View.ld X (Rect.unit (s := S1x1024x2816) ![0, 0, o] S1x1024x256.size inb) (ix3 0 d k) = X (ix3 0 d ⟨(o + k.val) % 2816, Nat.mod_lt _ (by decide)⟩) := by
  have h : o + 256 ≤ 2816 := inb 2
  refine View.ld_unit_apply_of X _ _ inb _ _ fun a => ?_
  match a with
  | 0 => rfl
  | 1 => exact (Nat.zero_add _).symm
  | 2 => exact Nat.mod_eq_of_lt (by have := k.isLt; omega)

theorem ldRows (X : Vec Ideal S1x2816x1024 .f32) (inb : ∀ a, (![0, o, 0] : Fin 3 → ℕ) a + S1x256x1024.size a ≤ S1x2816x1024.size a) (k : Fin 256) (n : Fin 1024) :
    View.ld X (Rect.unit (s := S1x2816x1024) ![0, o, 0] S1x256x1024.size inb) (ix3 0 k n) = X (ix3 0 ⟨(o + k.val) % 2816, Nat.mod_lt _ (by decide)⟩ n) := by
  have h : o + 256 ≤ 2816 := inb 1
  refine View.ld_unit_apply_of X _ _ inb _ _ fun a => ?_
  match a with
  | 0 => rfl
  | 1 => exact Nat.mod_eq_of_lt (by have := k.isLt; omega)
  | 2 => exact (Nat.zero_add _).symm

end Loads

/-- A block of the inner weights and one of the outer, without the two leading axes of extent one. -/
def inner (x : Vec Ideal S1x1x1024x2816 .f32) : Vec Ideal S1x1024x2816 .f32 :=
  shapeCast S1x1024x2816 x (squeezes_S1x1x1024x2816_S1x1024x2816).numel_eq
def outer (x : Vec Ideal S1x1x2816x1024 .f32) : Vec Ideal S1x2816x1024 .f32 :=
  shapeCast S1x2816x1024 x (squeezes_S1x1x2816x1024_S1x2816x1024).numel_eq

theorem inner_at (x : Vec Ideal S1x1x1024x2816 .f32) (d : Fin 1024) (f : Fin 2816) : inner x (ix3 0 d f) = x (ix4 0 0 d f) := by
  pointwise [inner]

theorem outer_at (x : Vec Ideal S1x1x2816x1024 .f32) (f : Fin 2816) (n : Fin 1024) : outer x (ix3 0 f n) = x (ix4 0 0 f n) := by
  pointwise [outer]

/-- The columns of the inner weights and the rows of the outer one, by number. -/
def colOf (X : Vec Ideal S1x1x1024x2816 .f32) (d : Fin 1024) (f : ℕ) : EReal := X (ix4 0 0 d ⟨f % 2816, Nat.mod_lt _ (by decide)⟩)
def rowOf (X : Vec Ideal S1x1x2816x1024 .f32) (n : Fin 1024) (f : ℕ) : EReal := X (ix4 0 0 ⟨f % 2816, Nat.mod_lt _ (by decide)⟩ n)

theorem chunk_ld {o : ℕ} (h : FVec Ideal S512x1024 .bf16) (X4 X5 : Vec Ideal S1x1x1024x2816 .f32) (X6 : Vec Ideal S1x1x2816x1024 .f32)
    (inb : ∀ a, (![0, 0, o] : Fin 3 → ℕ) a + S1x1024x256.size a ≤ S1x1024x2816.size a)
    (inb' : ∀ a, (![0, o, 0] : Fin 3 → ℕ) a + S1x256x1024.size a ≤ S1x2816x1024.size a) (r : Fin 512) (n : Fin 1024) :
    chunk h (View.ld (inner X4) (Rect.unit (s := S1x1024x2816) ![0, 0, o] S1x1024x256.size inb)) (View.ld (inner X5) (Rect.unit (s := S1x1024x2816) ![0, 0, o] S1x1024x256.size inb))
        (View.ld (outer X6) (Rect.unit (s := S1x2816x1024) ![0, o, 0] S1x256x1024.size inb')) (ix2 r n)
      = ∑ k : Fin 256, term (fun d : Fin 1024 => h (ix2 r d)) (colOf X4) (colOf X5) (rowOf X6 n) (o + k.val) := by
  rw [chunk_at]
  refine Finset.sum_congr rfl fun k _ => ?_
  rw [up_at, up_at]
  unfold term
  rw [ldRows, outer_at, Finset.sum_congr rfl fun d _ => congrArg (h (ix2 r d) * ·) ((ldCols (inner X4) inb d k).trans (inner_at X4 d _)),
    Finset.sum_congr rfl fun d _ => congrArg (h (ix2 r d) * ·) ((ldCols (inner X5) inb d k).trans (inner_at X5 d _))]
  rfl

section Views
variable {sp : Space} (M : Memref sig .tc sp S1x1x1024x2816 .f32) (hM : M.IsWhole) (N : Memref sig .tc sp S1x1x2816x1024 .f32) (hN : N.IsWhole)

/-- What the body loads of a block of weights. -/
def loadCols (x : Vec Ideal S1x1x1024x2816 .f32) (o : ℕ) (inb : ∀ a, (![0, 0, o] : Fin 3 → ℕ) a + S1x1024x256.size a ≤ S1x1024x2816.size a) : Vec Ideal S1x1024x256 .f32 :=
  View.readAt (Elt Ideal) ((M.slice (Rect.unit (s := S1x1x1024x2816) ![0, 0, 0, 0] S1x1x1024x2816.size inb_S1x1x1024x2816_S1x1x1024x2816_0_0_0_0) (fun _ => rfl)).squeeze S1x1024x2816 squeezes_S1x1x1024x2816_S1x1024x2816).view
    (Rect.unit (s := S1x1024x2816) ![0, 0, o] S1x1024x256.size inb).toLoadRect (hM.unread x)

def loadRows (x : Vec Ideal S1x1x2816x1024 .f32) (o : ℕ) (inb : ∀ a, (![0, o, 0] : Fin 3 → ℕ) a + S1x256x1024.size a ≤ S1x2816x1024.size a) : Vec Ideal S1x256x1024 .f32 :=
  View.readAt (Elt Ideal) ((N.slice (Rect.unit (s := S1x1x2816x1024) ![0, 0, 0, 0] S1x1x2816x1024.size inb_S1x1x2816x1024_S1x1x2816x1024_0_0_0_0) (fun _ => rfl)).squeeze S1x2816x1024 squeezes_S1x1x2816x1024_S1x2816x1024).view
    (Rect.unit (s := S1x2816x1024) ![0, o, 0] S1x256x1024.size inb).toLoadRect (hN.unread x)

theorem loadCols_eq (x : Vec Ideal S1x1x1024x2816 .f32) (o : ℕ) (inb) :
    loadCols M hM x o inb = View.ld (inner x) (Rect.unit (s := S1x1024x2816) ![0, 0, o] S1x1024x256.size inb) := by
  unfold loadCols
  rw [View.readAt_eq_ld]
  refine congrArg (View.ld · _) ?_
  refine (Memref.read_squeeze_full (s := S1x1x1024x2816) M _ _ _).trans ?_
  rw [hM.read_unread]
  rfl

theorem loadRows_eq (x : Vec Ideal S1x1x2816x1024 .f32) (o : ℕ) (inb) :
    loadRows N hN x o inb = View.ld (outer x) (Rect.unit (s := S1x2816x1024) ![0, o, 0] S1x256x1024.size inb) := by
  unfold loadRows
  rw [View.readAt_eq_ld]
  refine congrArg (View.ld · _) ?_
  refine (Memref.read_squeeze_full (s := S1x1x2816x1024) N _ _ _).trans ?_
  rw [hN.read_unread]
  rfl

end Views

section Block
variable (c : Dev nD) (i : grid0.Coords) (arg3 : Memref sig .tc .vmem S512x1024 .bf16) (harg3 : arg3.IsWhole) (arg4 : Memref sig .tc .vmem S1x1x1024x2816 .f32) (harg4 : arg4.IsWhole)
  (arg5 : Memref sig .tc .vmem S1x1x1024x2816 .f32) (harg5 : arg5.IsWhole) (arg6 : Memref sig .tc .vmem S1x1x2816x1024 .f32) (harg6 : arg6.IsWhole)
  (arg7 : Memref sig .tc .vmem S512x1024 .bf16) (harg7 : arg7.IsWhole)
  (x0 : Vec Ideal S512x1024 .bf16) (x1 : Vec Ideal S1x1x1024x2816 .f32) (x2 : Vec Ideal S1x1x1024x2816 .f32) (x3 : Vec Ideal S1x1x2816x1024 .f32)
  (xt0 : TbBuf0 (F := Ideal) c tbM0_0) (xt1 : TbBuf0 (F := Ideal) c tbM0_1)

/-- A tile of features, of what the body loads. -/
def part (h : FVec Ideal S512x1024 .bf16) (o : ℕ) (inb : ∀ a, (![0, 0, o] : Fin 3 → ℕ) a + S1x1024x256.size a ≤ S1x1024x2816.size a)
    (inb' : ∀ a, (![0, o, 0] : Fin 3 → ℕ) a + S1x256x1024.size a ≤ S1x2816x1024.size a) : FVec Ideal S512x1024 .f32 :=
  chunk h (loadCols arg4 harg4 x1 o inb) (loadCols arg5 harg5 x2 o inb) (loadRows arg6 harg6 x3 o inb')

theorem part_at (h : FVec Ideal S512x1024 .bf16) (o : ℕ) (inb inb') (r : Fin 512) (n : Fin 1024) :
    part arg4 harg4 arg5 harg5 arg6 harg6 x1 x2 x3 h o inb inb' (ix2 r n)
      = ∑ k : Fin 256, term (fun d : Fin 1024 => h (ix2 r d)) (colOf x1) (colOf x2) (rowOf x3 n) (o + k.val) := by
  unfold part
  rw [loadCols_eq, loadCols_eq, loadRows_eq]
  exact chunk_ld h x1 x2 x3 inb inb' r n

def loaded : FVec Ideal S512x1024 .bf16 :=
  k0_pay3 (View.readAt (Elt Ideal) arg3.view (Rect.unit (s := S512x1024) ![0, 0] S512x1024.size inb_S512x1024_S512x1024_0_0).toLoadRect (harg3.unread x0))

theorem loaded_at (r : Fin 512) (d : Fin 1024) : loaded arg3 harg3 x0 (ix2 r d) = x0 (ix2 r d) := by
  unfold loaded
  rw [View.readAt_eq_ld, View.ld_unit_lit _ _ (by decide), harg3.read_unread]
  pointwise [k0_pay3]

/-- The eleven tiles. -/
def body : FVec Ideal S512x1024 .f32 :=
  have h := loaded arg3 harg3 x0
  addf (addf (addf (addf (addf (addf (addf (addf (addf (addf
    (part arg4 harg4 arg5 harg5 arg6 harg6 x1 x2 x3 h 0 inb_S1x1024x2816_S1x1024x256_0_0_0 inb_S1x2816x1024_S1x256x1024_0_0_0)
    (part arg4 harg4 arg5 harg5 arg6 harg6 x1 x2 x3 h 256 inb_S1x1024x2816_S1x1024x256_0_0_256 inb_S1x2816x1024_S1x256x1024_0_256_0))
    (part arg4 harg4 arg5 harg5 arg6 harg6 x1 x2 x3 h 512 inb_S1x1024x2816_S1x1024x256_0_0_512 inb_S1x2816x1024_S1x256x1024_0_512_0))
    (part arg4 harg4 arg5 harg5 arg6 harg6 x1 x2 x3 h 768 inb_S1x1024x2816_S1x1024x256_0_0_768 inb_S1x2816x1024_S1x256x1024_0_768_0))
    (part arg4 harg4 arg5 harg5 arg6 harg6 x1 x2 x3 h 1024 inb_S1x1024x2816_S1x1024x256_0_0_1024 inb_S1x2816x1024_S1x256x1024_0_1024_0))
    (part arg4 harg4 arg5 harg5 arg6 harg6 x1 x2 x3 h 1280 inb_S1x1024x2816_S1x1024x256_0_0_1280 inb_S1x2816x1024_S1x256x1024_0_1280_0))
    (part arg4 harg4 arg5 harg5 arg6 harg6 x1 x2 x3 h 1536 inb_S1x1024x2816_S1x1024x256_0_0_1536 inb_S1x2816x1024_S1x256x1024_0_1536_0))
    (part arg4 harg4 arg5 harg5 arg6 harg6 x1 x2 x3 h 1792 inb_S1x1024x2816_S1x1024x256_0_0_1792 inb_S1x2816x1024_S1x256x1024_0_1792_0))
    (part arg4 harg4 arg5 harg5 arg6 harg6 x1 x2 x3 h 2048 inb_S1x1024x2816_S1x1024x256_0_0_2048 inb_S1x2816x1024_S1x256x1024_0_2048_0))
    (part arg4 harg4 arg5 harg5 arg6 harg6 x1 x2 x3 h 2304 inb_S1x1024x2816_S1x1024x256_0_0_2304 inb_S1x2816x1024_S1x256x1024_0_2304_0))
    (part arg4 harg4 arg5 harg5 arg6 harg6 x1 x2 x3 h 2560 inb_S1x1024x2816_S1x1024x256_0_0_2560 inb_S1x2816x1024_S1x256x1024_0_2560_0)

theorem body_at (r : Fin 512) (n : Fin 1024) :
    body arg3 harg3 arg4 harg4 arg5 harg5 arg6 harg6 x0 x1 x2 x3 (ix2 r n) = ffn 2816 (fun d : Fin 1024 => x0 (ix2 r d)) (colOf x1) (colOf x2) (rowOf x3 n) := by
  have e : (fun d : Fin 1024 => x0 (ix2 r d)) = fun d => loaded arg3 harg3 x0 (ix2 r d) := funext fun d => (loaded_at arg3 harg3 x0 r d).symm
  unfold ffn
  rw [e, ← tiles_eleven]
  iterate 10 refine (congrArg₂ (· + ·) ?_ (part_at arg4 harg4 arg5 harg5 arg6 harg6 x1 x2 x3 _ _ _ _ r n))
  exact part_at arg4 harg4 arg5 harg5 arg6 harg6 x1 x2 x3 _ _ _ _ r n

/-- What a used tile leaves is the eleven tiles' sum. -/
theorem outUsed_eq (hc1 : k0_cond1 i (word1 c xt1) = 1#1) (hc2 : ¬ k0_cond2 i (word1 c xt1) = 1#1) :
    outUsed c i arg3 harg3 arg4 harg4 arg5 harg5 arg6 harg6 arg7 harg7 x0 x1 x2 x3 xt0 xt1 hc1 hc2
      = truncf .bf16 (body arg3 harg3 arg4 harg4 arg5 harg5 arg6 harg6 x0 x1 x2 x3) bitsLt_bf16_f32 := by
  unfold outUsed runUsed
  dsimp only
  rw [View.read_writes_junk_eq_canon, View.canon_cons_unit_lit _ _ _ (by decide)]
  rfl

theorem outUsed_at (hc1 : k0_cond1 i (word1 c xt1) = 1#1) (hc2 : ¬ k0_cond2 i (word1 c xt1) = 1#1) (r : Fin 512) (n : Fin 1024) :
    @Eq EReal (outUsed c i arg3 harg3 arg4 harg4 arg5 harg5 arg6 harg6 arg7 harg7 x0 x1 x2 x3 xt0 xt1 hc1 hc2 (ix2 r n))
      (ffn 2816 (fun d : Fin 1024 => x0 (ix2 r d)) (colOf x1) (colOf x2) (rowOf x3 n)) := by
  rw [outUsed_eq]
  exact body_at arg3 harg3 arg4 harg4 arg5 harg5 arg6 harg6 x0 x1 x2 x3 r n

/-- What a tile past the used ones leaves is zero. -/
theorem outIdle_at (hc1 : ¬ k0_cond1 i (word1 c xt1) = 1#1) (hc2 : k0_cond2 i (word1 c xt1) = 1#1) (r : Fin 512) (n : Fin 1024) :
    @Eq EReal (outIdle c i arg3 harg3 arg4 harg4 arg5 harg5 arg6 harg6 arg7 harg7 x0 x1 x2 x3 xt0 xt1 hc1 hc2 (ix2 r n)) 0 := by
  unfold outIdle runIdle
  dsimp only
  rw [View.read_writes_junk_eq_canon, View.canon_cons_unit_lit _ _ _ (by decide)]
  pointwise [k0_pay2]

end Block

end Cert.Kernel3Ideal.Hand

end
-- ==== Proof.MoeSame.lean ====
module

public import proofs.«01_k».proof.Proof.MoeFrame
public import proofs.«01_k».proof.Proof.Gen.Kernel3
public import proofs.«01_k».proof.Proof.Gen.Pre_experts_named
public import proofs.«01_k».proof.Defs
public import Idealize.ShloMosaic.Lib.Pointwise

@[expose] public section

set_option maxRecDepth 65536
set_option maxHeartbeats 4000000

noncomputable section
open Idealize.ShloMosaic Idealize.SL.Sem

namespace Cert.Kernel3Ideal.Hand

open Cert.Kernel3Ideal.Gen Idealize.ShloMosaic.TcCoe

/-! The program as printed and its idealization have one text. -/

theorem bodies_eq : @Cert.Kernel3.defs₀ Bits _ _ = @Cert.Kernel3Ideal.defs₀ Bits _ _ := by
  unfold Cert.Kernel3.defs₀ Cert.Kernel3Ideal.defs₀
  congr 1
  funext l a
  match l, a with
  | 0, (t, s) => rfl
  | ⟨_ + 1, h⟩, _ => exact absurd h (Nat.not_lt.2 (Nat.le_add_left _ _))

theorem defs_eq : @Cert.Kernel3.defs Bits _ _ = @Cert.Kernel3Ideal.defs Bits _ _ := by
  unfold Cert.Kernel3.defs Cert.Kernel3Ideal.defs
  rw [bodies_eq]; rfl

/-! ## The tiles' experts are eight -/

section Ok
variable {F : FTy → Type} [FloatOps F]

theorem word_of {n : ℕ} (hn : n < 2 ^ 32) (x : Fin n) : (BitVec.ofNat 32 x.val).toNat = x.val := by
  rw [BitVec.toNat_ofNat]
  exact Nat.mod_eq_of_lt (by omega)

/-- The table of the tiles' experts, as the region finds it. -/
def experts (m : (ℓ : Loc nD τ sig) → Buf (Elt F) ℓ) : (⟨1, ![140]⟩ : Shape).Idx → BitVec 32 := m ((0 : Dev nD), Proc.tc.devRef main_arg1)

theorem tbl_at (m : (ℓ : Loc nD τ sig) → Buf (Elt F) ℓ) (i : grid0.Coords) :
    (tbl m).at 0 (Rect.unit (s := S140) ![(Scalar.indexCast (BitVec.ofNat 32 (i 0).val)).toNat] S1.size (k0_off1_inb i)) numel1_S1 = experts m (ix1 (i 0)) := by
  unfold Pipeline.Prefetch.Contents.at tbl
  rw [show V m 0 (pre0.ref 0) = experts m from V_main_arg1 m 0]
  refine congrArg (experts m) (funext fun (a : Fin 1) => ?_)
  match a with
  | 0 =>
    refine Fin.ext ?_
    show (BitVec.ofNat 32 (i 0).val).toNat + _ = (i 0).val
    exact word_of (n := 140) (by decide) (i 0)

theorem index1 (m : (ℓ : Loc nD τ sig) → Buf (Elt F) ℓ) (i : grid0.Coords) :
    cc0_transform_1 k0_off1_inb numel1_S1 (tbl m) i = ![0, (experts m (ix1 (i 0))).toNat, 0, 0] := by
  unfold cc0_transform_1
  dsimp only
  rw [tbl_at]; rfl

theorem index2 (m : (ℓ : Loc nD τ sig) → Buf (Elt F) ℓ) (i : grid0.Coords) :
    cc0_transform_2 k0_off1_inb numel1_S1 (tbl m) i = ![0, (experts m (ix1 (i 0))).toNat, 0, 0] := index1 m i

theorem index3 (m : (ℓ : Loc nD τ sig) → Buf (Elt F) ℓ) (i : grid0.Coords) :
    cc0_transform_3 k0_off1_inb numel1_S1 (tbl m) i = ![0, (experts m (ix1 (i 0))).toNat, 0, 0] := index1 m i

theorem ok_of_named (m : (ℓ : Loc nD τ sig) → Buf (Elt F) ℓ) (h : ∀ j, (experts m (ix1 j)).toNat < 8) : Ok m := by
  refine ⟨fun i => ⟨?_, Or.inl rfl⟩, fun i => ⟨?_, Or.inl rfl⟩, fun i => ⟨?_, Or.inl rfl⟩⟩
  · rw [index1]
    have hk := h (i 0)
    generalize (experts m (ix1 (i 0))).toNat = k at hk ⊢
    intro a
    match a with
    | 0 => show (0 + 1) * 1 ≤ 2; omega
    | 1 => show (k + 1) * 1 ≤ 8; omega
    | 2 => show (0 + 1) * 1024 ≤ 1024; omega
    | 3 => show (0 + 1) * 2816 ≤ 2816; omega
  · rw [index2]
    have hk := h (i 0)
    generalize (experts m (ix1 (i 0))).toNat = k at hk ⊢
    intro a
    match a with
    | 0 => show (0 + 1) * 1 ≤ 2; omega
    | 1 => show (k + 1) * 1 ≤ 8; omega
    | 2 => show (0 + 1) * 1024 ≤ 1024; omega
    | 3 => show (0 + 1) * 2816 ≤ 2816; omega
  · rw [index3]
    have hk := h (i 0)
    generalize (experts m (ix1 (i 0))).toNat = k at hk ⊢
    intro a
    match a with
    | 0 => show (0 + 1) * 1 ≤ 2; omega
    | 1 => show (k + 1) * 1 ≤ 8; omega
    | 2 => show (0 + 1) * 2816 ≤ 2816; omega
    | 3 => show (0 + 1) * 1024 ≤ 1024; omega

/-- A word that is, signed, at least 0 and below 8. -/
theorem named_word (v : BitVec 32) (h : Scalar.andi (Scalar.cmpi .sge v 0#32) (Scalar.cmpi .slt v 8#32) = 1#1) : v.toNat < 8 := by
  have e1 : Scalar.cmpi .sge v 0#32 = BitVec.ofBool (decide (v.toNat < 2 ^ (32 - 1))) := WordCmp.cmpi_sge_zero v
  have e2 : Scalar.cmpi .slt v 8#32 = BitVec.ofBool (decide (v.toInt < (8#32).toInt)) := WordCmp.cmpi_slt_eq v 8#32
  rw [e1, e2] at h
  by_cases h1 : v.toNat < 2 ^ (32 - 1)
  · by_cases h2 : v.toInt < (8#32).toInt
    · rw [WordCmp.toInt_eq_toNat_of_lt_half h1, show (8#32 : BitVec 32).toInt = 8 from by decide] at h2
      omega
    · rw [decide_eq_false h2] at h
      generalize decide (v.toNat < 2 ^ (32 - 1)) = b at h
      exact absurd h (by cases b <;> decide)
  · rw [decide_eq_false h1] at h
    generalize decide (v.toInt < (8#32).toInt) = b at h
    exact absurd h (by cases b <;> decide)

/-- What the precondition says of the table. -/
theorem named_of_mask (te : IVec S140 32) {dims : Fin 0 → Fin S140.rank} (hb hb' : (⟨0, ![]⟩ : Shape).BroadcastsInDim S140 dims)
    (h : andi (cmpi .sge te (broadcastInDim S140 dims hb (constantI ⟨0, ![]⟩ 32 0#32))) (cmpi .slt te (broadcastInDim S140 dims hb' (constantI ⟨0, ![]⟩ 32 8#32)))
      = fun _ => 1#1) (j : Fin 140) : (te (ix1 j)).toNat < 8 :=
  named_word _ (congrFun h (ix1 j))

end Ok

/-- The program as printed, where each tile names one of the eight experts. -/
theorem frame_printed : Cert.quiescent_Kernel3 (hKernel3 := Cert.Kernel3.Gen.facts) (hPre_experts_named := Cert.Pre_experts_named.Gen.facts) := fun m g h => by
  rw [defs_eq]
  exact frame (F := Bits) m g (ok_of_named (F := Bits) m (named_of_mask _ _ _ (h 0)))

/-- The kernel at the extended reals. -/
theorem frame_ideal : Cert.quiescent_Kernel3Ideal (hKernel3Ideal := Cert.Kernel3Ideal.Gen.facts) (hPre_experts_named := Cert.Pre_experts_named.Gen.facts) := fun m g h =>
  frame (F := Ideal) m g (ok_of_named (F := Ideal) m (named_of_mask _ _ _ (h 0)))

end Cert.Kernel3Ideal.Hand

end
-- ==== Proof.MoeHost.lean ====
module

public import proofs.«01_k».proof.Proof.MoeKer
public import proofs.«01_k».proof.Proof.MoeSame
public import Idealize.ShloMosaic.Lib.StableHlo.ReadAt
public import Idealize.ShloMosaic.Lib.KernelVsHost
public import Idealize.ShloMosaic.Lib.Pipeline.Covers

@[expose] public section

set_option maxRecDepth 16384

noncomputable section

namespace Cert.Kernel3Ideal.Hand

open Cert.Kernel3Ideal Cert.Kernel3Ideal.Gen Idealize.ShloMosaic Idealize.ShloMosaic.TcCoe Cert.FeedForward

variable (m : (ℓ : Loc nD τ sig) → Buf (Elt Ideal) ℓ) (hO : Ok m) (c : Dev nD)

/-! ## The arguments, as functions -/

def argX : (⟨2, ![71680, 1024]⟩ : Shape).Idx → EReal := m (c, Proc.tc.devRef main_arg0)
def argN : (⟨1, ![1]⟩ : Shape).Idx → BitVec 32 := m (c, Proc.tc.devRef main_arg2)
def argG : (⟨4, ![2, 8, 1024, 2816]⟩ : Shape).Idx → EReal := m (c, Proc.tc.devRef main_arg3)
def argU : (⟨4, ![2, 8, 1024, 2816]⟩ : Shape).Idx → EReal := m (c, Proc.tc.devRef main_arg4)
def argD : (⟨4, ![2, 8, 2816, 1024]⟩ : Shape).Idx → EReal := m (c, Proc.tc.devRef main_arg5)

/-- The rows, the one operand that the host prepares. -/
theorem rows_at (t : Fin 71680) (d : Fin 1024) :
    @Eq EReal ((V m c main_v0 : FVec Ideal S71680x1024 .bf16) (ix2 t d)) (argX m c (ix2 t d)) := by
  unfold V
  after_reads_at
  rfl

/-! ## The blocks that a point reads, at an index -/

/-- The tile of a point. -/
def tile (t : Fin (cfgM m hO).N) : Fin 140 := grid0.coords t 0
/-- A row of a point's tile. -/
def posOf (t : Fin (cfgM m hO).N) (r : Fin 512) : Fin 71680 := ⟨512 * (tile m hO t).val + r.val, by omega⟩
/-- The expert of a point's tile. -/
def expertOf (j : Fin 140) : Fin 8 := ⟨(experts m (ix1 j)).toNat % 8, Nat.mod_lt _ (by decide)⟩

theorem map0 (i : grid0.Coords) : cc0_transform_0 i = ![(i 0).val, 0] := by
  funext a
  match a with
  | 0 => exact word_of (n := 140) (by decide) (i 0)
  | 1 => rfl

theorem idx0 (t : Fin (cfgM m hO).N) : ((cfgM m hO).win 0).index t = ![(grid0.coords t 0).val, 0] := map0 _
theorem idx4 (t : Fin (cfgM m hO).N) : ((cfgM m hO).win 4).index t = ![(grid0.coords t 0).val, 0] := map0 _
theorem idx1 (t : Fin (cfgM m hO).N) : ((cfgM m hO).win 1).index t = ![0, (experts m (ix1 (grid0.coords t 0))).toNat, 0, 0] := index1 m _
theorem idx2 (t : Fin (cfgM m hO).N) : ((cfgM m hO).win 2).index t = ![0, (experts m (ix1 (grid0.coords t 0))).toNat, 0, 0] := index2 m _
theorem idx3 (t : Fin (cfgM m hO).N) : ((cfgM m hO).win 3).index t = ![0, (experts m (ix1 (grid0.coords t 0))).toNat, 0, 0] := index3 m _

theorem block0_at (t : Fin (cfgM m hO).N) (r : Fin 512) (d : Fin 1024) :
    (iblk m hO c 0 t : FVec Ideal S512x1024 .bf16) (ix2 r d) = (V m c main_v0 : FVec Ideal S71680x1024 .bf16) (ix2 (posOf m hO t r) d) := by
  have e := idx0 m hO t
  unfold posOf tile
  blk_ext [iblk, e]

variable (named : ∀ j, (experts m (ix1 j)).toNat < 8)
include named

theorem block1_at (t : Fin (cfgM m hO).N) (d : Fin 1024) (f : Fin 2816) :
    (iblk m hO c 1 t : FVec Ideal S1x1x1024x2816 .f32) (ix4 0 0 d f) = (V m c main_arg3 : FVec Ideal S2x8x1024x2816 .f32) (ix4 0 (expertOf m (tile m hO t)) d f) := by
  have e := idx1 m hO t
  have h := Nat.mod_eq_of_lt (named (grid0.coords t 0))
  unfold expertOf tile
  blk_ext [iblk, e, h]

theorem block2_at (t : Fin (cfgM m hO).N) (d : Fin 1024) (f : Fin 2816) :
    (iblk m hO c 2 t : FVec Ideal S1x1x1024x2816 .f32) (ix4 0 0 d f) = (V m c main_arg4 : FVec Ideal S2x8x1024x2816 .f32) (ix4 0 (expertOf m (tile m hO t)) d f) := by
  have e := idx2 m hO t
  have h := Nat.mod_eq_of_lt (named (grid0.coords t 0))
  unfold expertOf tile
  blk_ext [iblk, e, h]

theorem block3_at (t : Fin (cfgM m hO).N) (f : Fin 2816) (n : Fin 1024) :
    (iblk m hO c 3 t : FVec Ideal S1x1x2816x1024 .f32) (ix4 0 0 f n) = (V m c main_arg5 : FVec Ideal S2x8x2816x1024 .f32) (ix4 0 (expertOf m (tile m hO t)) f n) := by
  have e := idx3 m hO t
  have h := Nat.mod_eq_of_lt (named (grid0.coords t 0))
  unfold expertOf tile
  blk_ext [iblk, e, h]

omit named

/-! ## The result -/

/-- The tile of a row. -/
def tileOf (t : Fin 71680) : Fin 140 := ⟨t.val / 512, by omega⟩

/-- A row's feed-forward by an expert, at a column. -/
def one (e : Fin 8) (t : Fin 71680) (n : Fin 1024) : EReal :=
  ffn 2816 (fun d : Fin 1024 => argX m c (ix2 t d)) (fun d f => argG m c (ix4 0 e d ⟨f % 2816, Nat.mod_lt _ (by decide)⟩))
    (fun d f => argU m c (ix4 0 e d ⟨f % 2816, Nat.mod_lt _ (by decide)⟩)) (fun f => argD m c (ix4 0 e ⟨f % 2816, Nat.mod_lt _ (by decide)⟩ n))

/-- The named expert's feed-forward where the tile is used, zero elsewhere. -/
def wholeAt (t : Fin 71680) (n : Fin 1024) : EReal :=
  Scalar.select (Scalar.cmpi .slt (BitVec.ofNat 32 (tileOf t).val) (argN m c (ix1 0))) (one m c (expertOf m (tileOf t)) t n) 0

def whole : (⟨2, ![71680, 1024]⟩ : Shape).Idx → EReal := fun y => wholeAt m c (y 0) (y 1)

/-- The body's condition is the comparison. -/
theorem cond_iff (i : grid0.Coords) (v : BitVec 32) : k0_cond1 i v = 1#1 ↔ Scalar.cmpi .slt (BitVec.ofNat 32 (i 0).val) v = 1#1 := by
  have key : ∀ b : BitVec 1, (Scalar.cmpi .ne (Scalar.extui b : BitVec 32) 0#32 = 1#1) ↔ b = 1#1 := by decide
  exact key _

theorem count_at : word1 c (tbl m 1) = argN m c (ix1 0) := by
  obtain rfl : c = 0 := Subsingleton.elim _ _
  unfold word1 tbl
  rw [show V m 0 (pre0.ref 1) = argN m 0 from V_main_arg2 m 0]
  refine congrArg (argN m 0) (funext fun (a : Fin 1) => ?_)
  match a with
  | 0 => exact Fin.ext rfl

include named in
theorem point_at (t : Fin (cfgM m hO).N) (r : Fin 512) (n : Fin 1024) :
    @Eq EReal ((outsAt0 m hO c t : FVec Ideal S512x1024 .bf16) (ix2 r n)) (wholeAt m c (posOf m hO t r) n) := by
  have ht : tileOf (posOf m hO t r) = tile m hO t := Fin.ext (by
    show (512 * (tile m hO t).val + r.val) / 512 = _
    omega)
  unfold wholeAt
  rw [ht]
  unfold outsAt0
  by_cases h : k0_cond1 (grid0.coords t) (word1 c (tbl m 1)) = 1#1
  · rw [dif_pos h]
    have hs : Scalar.cmpi .slt (BitVec.ofNat 32 (tile m hO t).val) (argN m c (ix1 0)) = 1#1 := by
      rw [← count_at]; exact (cond_iff _ _).mp h
    rw [hs]
    refine (outUsed_at c (grid0.coords t) _ _ _ _ _ _ _ _ _ _ (iblk m hO c 0 t) (iblk m hO c 1 t) (iblk m hO c 2 t) (iblk m hO c 3 t) (tbl m 0) (tbl m 1) h _ r n).trans ?_
    have e0 : (fun d : Fin 1024 => (iblk m hO c 0 t : FVec Ideal S512x1024 .bf16) (ix2 r d)) = fun d => argX m c (ix2 (posOf m hO t r) d) :=
      funext fun d => (block0_at m hO c t r d).trans (rows_at m c _ _)
    have e1 : colOf (iblk m hO c 1 t) = fun d f => argG m c (ix4 0 (expertOf m (tile m hO t)) d ⟨f % 2816, Nat.mod_lt _ (by decide)⟩) :=
      funext fun d => funext fun f => (block1_at m hO c named t d _).trans (congrFun (V_main_arg3 m c) _)
    have e2 : colOf (iblk m hO c 2 t) = fun d f => argU m c (ix4 0 (expertOf m (tile m hO t)) d ⟨f % 2816, Nat.mod_lt _ (by decide)⟩) :=
      funext fun d => funext fun f => (block2_at m hO c named t d _).trans (congrFun (V_main_arg4 m c) _)
    have e3 : rowOf (iblk m hO c 3 t) n = fun f => argD m c (ix4 0 (expertOf m (tile m hO t)) ⟨f % 2816, Nat.mod_lt _ (by decide)⟩ n) :=
      funext fun f => (block3_at m hO c named t _ n).trans (congrFun (V_main_arg5 m c) _)
    rw [e0, e1, e2, e3]
    rfl
  · rw [dif_neg h]
    have hs : ¬ Scalar.cmpi .slt (BitVec.ofNat 32 (tile m hO t).val) (argN m c (ix1 0)) = 1#1 := by
      rw [← count_at]; exact fun hc => h ((cond_iff _ _).mpr hc)
    refine (outIdle_at c (grid0.coords t) _ _ _ _ _ _ _ _ _ _ (iblk m hO c 0 t) (iblk m hO c 1 t) (iblk m hO c 2 t) (iblk m hO c 3 t) (tbl m 0) (tbl m 1) h _ r n).trans ?_
    exact (if_neg hs).symm

/-- A grid point, by its coordinate. -/
def coordsOf (j : Fin 140) : grid0.Coords := fun a => match a with
  | 0 => j

include named in
/-- The result array of the call. -/
theorem result : (dats m hO 0 c).arrAt 4 (cfgM m hO).N = whole m c := by
  have pos : ∀ a : Fin 2, 0 < S512x1024.size a := by decide
  have n0 : ((cfgM m hO).win 4).nblk (0 : Fin 2) = 140 := by
    show (71680 + 512 - 1) / 512 = 140
    decide
  have n1 : ((cfgM m hO).win 4).nblk (1 : Fin 2) = 1 := by
    show (1024 + 1024 - 1) / 1024 = 1
    decide
  refine (dats m hO 0 c).arrAt_eq_of_covers 4 _
    (((cfgM m hO).win 4).covers_of_indexMap_surj rfl pos fun β => ⟨coordsOf ((β (0 : Fin 2)).cast n0), fun (a : Fin 2) => ?_⟩) fun t hf y => ?_
  · match a with
    | 0 => exact word_of (n := 140) (by decide) ((β (0 : Fin 2)).cast n0)
    | 1 => exact (Nat.lt_one_iff.mp ((β (1 : Fin 2)).cast n1).isLt).symm
  · have e := idx4 m hO t
    change S512x1024.Idx at y
    have hy : y = ix2 (y 0) (y 1) := by
      funext a
      match a with
      | 0 => rfl
      | 1 => rfl
    blk_simp
    rw [after0_4]
    rw [hy]
    refine (point_at m hO c named t (y 0) (y 1)).trans ?_
    unfold whole
    congr 1 <;> refine Fin.ext ?_ <;> blk_simp [e]
    show 512 * _ + _ = _ * 512 + _
    rw [Nat.mul_comm]; rfl

/-- The call's run, its result named. -/
theorem run (ρ : Dev nD → PrngReg) (named : ∀ j, (experts m (ix1 j)).toNat < 8) :
    θ_run defs (onTc (τ := τ) (main (F := Ideal))) ⟨m, fun _ => 0, ρ⟩ fun r => ∀ c : Dev nD,
      r.2.mem ((c.tc : Thread nD τ).loc main_v1) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have hO := ok_of_named m named
  (θ_run defs _ _).mono (fun _ h c => ⟨((h.1 c).1 4).trans (result m hO c named), h.2 c⟩)
    (θ_run_and (run_main m ρ hO) (unchanged m ρ hO))

end Cert.Kernel3Ideal.Hand

end
-- ==== Proof.MoeRef.lean ====
module

public import proofs.«01_k».proof.Proof.FfnMath
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Reference3Ideal.Hand

open Cert.Reference3Ideal Cert.Reference3Ideal.Gen Idealize.ShloMosaic Cert.FeedForward

section Sizes
variable {T D N : ℕ}

abbrev Mat (D N : ℕ) : Shape := ⟨2, ![D, N]⟩

def dotR (wf : DotDims.WF (Mat T D) (Mat D N) (Mat T N) [1] [0] [0] [1] [] []) : DotDims (Mat T D) (Mat D N) (Mat T N) where
  lhsContracting := [1]
  rhsContracting := [0]
  lhsNonContracting := [0]
  rhsNonContracting := [1]
  lhsBatch := []
  rhsBatch := []
  wf := wf

/-- Rows times a matrix. -/
def rowsMul (wf : DotDims.WF (Mat T D) (Mat D N) (Mat T N) [1] [0] [0] [1] [] []) (x : FVec Ideal (Mat T D) .f32) (w : FVec Ideal (Mat D N) .f32) :
    FVec Ideal (Mat T N) .f32 := Host.dotGeneral (dotR wf) none x w

theorem rowsMul_at (wf) (x : FVec Ideal (Mat T D) .f32) (w : FVec Ideal (Mat D N) .f32) (t : Fin T) (n : Fin N) :
    rowsMul wf x w (ix2 t n) = ∑ d, x (ix2 t d) * w (ix2 d n) := by
  pointwise [rowsMul]
  rw [Ideal.matmul_apply₁_of _ (a := 1) (K := D) rfl rfl _ _ _ _ (fun d => ix2 t d) (fun d => ix2 d n), zero_add]
  · intro d; funext a
    match a with
    | 0 => rfl
    | 1 => rfl
  · intro d; funext a
    match a with
    | 0 => rfl
    | 1 => rfl

/-- The gated unit. -/
def gated (h : S_.BroadcastsInDim (Mat T N) ![]) (g u : FVec Ideal (Mat T N) .f32) : FVec Ideal (Mat T N) .f32 :=
  mulf (mulf g (Host.divf (broadcastInDim (Mat T N) ![] h (constant S_ .f32 0x3F800000#32))
    (addf (broadcastInDim (Mat T N) ![] h (constant S_ .f32 0x3F800000#32)) (Host.exp (Host.negf g))))) u

theorem gated_at (h) (g u : FVec Ideal (Mat T N) .f32) (t : Fin T) (n : Fin N) :
    gated h g u (ix2 t n) = (g (ix2 t n) * Ideal.logistic (g (ix2 t n))) * u (ix2 t n) := by
  pointwise [gated]
  rfl

end Sizes

/-! ## One expert -/

def upW (e : ℕ) (hs : S2x8x1024x2816.Slices ![0, e, 0, 0] S1x1x1024x2816) (w : FVec Ideal S2x8x1024x2816 .f32) : FVec Ideal S1024x2816 .f32 :=
  shapeCast S1024x2816 (extractStridedSlice S1x1x1024x2816 ![0, e, 0, 0] w hs) shapeCasts_S1x1x1024x2816_S1024x2816

def downW (e : ℕ) (hs : S2x8x2816x1024.Slices ![0, e, 0, 0] S1x1x2816x1024) (w : FVec Ideal S2x8x2816x1024 .f32) : FVec Ideal S2816x1024 .f32 :=
  shapeCast S2816x1024 (extractStridedSlice S1x1x2816x1024 ![0, e, 0, 0] w hs) shapeCasts_S1x1x2816x1024_S2816x1024

theorem upW_at (e : ℕ) (he : e < 8) (hs) (w : FVec Ideal S2x8x1024x2816 .f32) (d : Fin 1024) (f : Fin 2816) :
    upW e hs w (ix2 d f) = w (ix4 0 ⟨e, he⟩ d f) := by
  pointwise [upW]

theorem downW_at (e : ℕ) (he : e < 8) (hs) (w : FVec Ideal S2x8x2816x1024 .f32) (f : Fin 2816) (n : Fin 1024) :
    downW e hs w (ix2 f n) = w (ix4 0 ⟨e, he⟩ f n) := by
  pointwise [downW]

variable (x : FVec Ideal S71680x1024 .f32) (te : IVec S140 32) (nu : IVec S1 32) (wg wu : FVec Ideal S2x8x1024x2816 .f32) (wd : FVec Ideal S2x8x2816x1024 .f32)

/-- Every row's gated feed-forward by expert `e`. -/
def feed (e : ℕ) (hu : S2x8x1024x2816.Slices ![0, e, 0, 0] S1x1x1024x2816) (hd : S2x8x2816x1024.Slices ![0, e, 0, 0] S1x1x2816x1024) : FVec Ideal S71680x1024 .f32 :=
  rowsMul dot_S71680x2816_S2816x1024_S71680x1024_1_0_0_1_n_n_wf
    (gated bcast_S_S71680x2816 (rowsMul dot_S71680x1024_S1024x2816_S71680x2816_1_0_0_1_n_n_wf x (upW e hu wg))
      (rowsMul dot_S71680x1024_S1024x2816_S71680x2816_1_0_0_1_n_n_wf x (upW e hu wu))) (downW e hd wd)

/-- A row's gated feed-forward by expert `e`, at a column. -/
def one (e : Fin 8) (t : Fin 71680) (n : Fin 1024) : EReal :=
  ffn 2816 (fun d : Fin 1024 => x (ix2 t d)) (fun d f => wg (ix4 0 e d ⟨f % 2816, Nat.mod_lt _ (by decide)⟩))
    (fun d f => wu (ix4 0 e d ⟨f % 2816, Nat.mod_lt _ (by decide)⟩)) (fun f => wd (ix4 0 e ⟨f % 2816, Nat.mod_lt _ (by decide)⟩ n))

theorem feed_at (e : ℕ) (he : e < 8) (hu hd) (t : Fin 71680) (n : Fin 1024) : feed x wg wu wd e hu hd (ix2 t n) = one x wg wu wd ⟨e, he⟩ t n := by
  unfold feed one ffn
  rw [rowsMul_at, Finset.sum_range]
  refine Finset.sum_congr rfl fun f _ => ?_
  rw [gated_at, rowsMul_at, rowsMul_at]
  have e' : (⟨f.val % 2816, Nat.mod_lt _ (by decide)⟩ : Fin 2816) = f := Fin.ext (Nat.mod_eq_of_lt f.isLt)
  unfold term
  simp only [e', upW_at e he, downW_at e he]

/-! ## The choice of the expert -/

/-- The tile of a row. -/
def tileOf (t : Fin 71680) : Fin 140 := ⟨t.val / 512, by omega⟩

/-- Each row's expert. -/
def experts : IVec S71680x1 32 :=
  shapeCast S71680x1 (broadcastInDim S140x512 ![0, 1] bcast_S140x1_S140x512_0_1 (broadcastInDim S140x1 ![0] bcast_S140_S140x1_0 te)) shapeCasts_S140x512_S71680x1

theorem experts_at (t : Fin 71680) : experts te (ix2 t 0) = te (ix1 (tileOf t)) := by
  pointwise [experts]
  rfl

/-- Whether each row's tile is used. -/
def used : IVec S71680x1 1 :=
  shapeCast S71680x1 (broadcastInDim S140x512 ![0, 1] bcast_S140x1_S140x512_0_1 (broadcastInDim S140x1 ![0] bcast_S140_S140x1_0
    (cmpi .slt (iotaInDim S140 32 0) (broadcastInDim S140 ![0] bcast_S1_S140_0 nu)))) shapeCasts_S140x512_S71680x1

theorem used_at (t : Fin 71680) : used nu (ix2 t 0) = Scalar.cmpi .slt (BitVec.ofNat 32 (tileOf t).val) (nu (ix1 0)) := by
  pointwise [used]
  rfl

def zeros : FVec Ideal S71680x1024 .f32 := broadcastInDim S71680x1024 ![] bcast_S_S71680x1024 (constant S_ .f32 0x00000000#32)

theorem zeros_at (t : Fin 71680) (n : Fin 1024) : zeros (ix2 t n) = 0 := by
  pointwise [zeros]

/-- Rows where a mask is one, zero elsewhere. -/
def keep (c : IVec S71680x1 1) (y : FVec Ideal S71680x1024 .f32) : FVec Ideal S71680x1024 .f32 :=
  select (broadcastInDim S71680x1024 ![0, 1] bcast_S71680x1_S71680x1024_0_1 c) y zeros

theorem keep_at (c : IVec S71680x1 1) (y) (t : Fin 71680) (n : Fin 1024) : keep c y (ix2 t n) = Scalar.select (c (ix2 t 0)) (y (ix2 t n)) 0 := by
  rw [← zeros_at t n]
  unfold keep
  generalize zeros = z
  pointwise
  try rfl

/-- The rows of expert `e`. -/
def mask (e : BitVec 32) : IVec S71680x1 1 := cmpi .eq (experts te) (broadcastInDim S71680x1 ![] bcast_S_S71680x1 (constantI S_ 32 e))

theorem mask_at (e : BitVec 32) (t : Fin 71680) : mask te e (ix2 t 0) = Scalar.cmpi .eq (te (ix1 (tileOf t))) e := by
  rw [← experts_at te t]
  unfold mask
  generalize experts te = z
  pointwise
  try rfl

def sum8 : FVec Ideal S71680x1024 .f32 :=
  addf (addf (addf (addf (addf (addf (addf (addf zeros
    (keep (mask te 0#32) (feed x wg wu wd 0 slices_S2x8x1024x2816_S1x1x1024x2816_0_0_0_0 slices_S2x8x2816x1024_S1x1x2816x1024_0_0_0_0)))
    (keep (mask te 1#32) (feed x wg wu wd 1 slices_S2x8x1024x2816_S1x1x1024x2816_0_1_0_0 slices_S2x8x2816x1024_S1x1x2816x1024_0_1_0_0)))
    (keep (mask te 2#32) (feed x wg wu wd 2 slices_S2x8x1024x2816_S1x1x1024x2816_0_2_0_0 slices_S2x8x2816x1024_S1x1x2816x1024_0_2_0_0)))
    (keep (mask te 3#32) (feed x wg wu wd 3 slices_S2x8x1024x2816_S1x1x1024x2816_0_3_0_0 slices_S2x8x2816x1024_S1x1x2816x1024_0_3_0_0)))
    (keep (mask te 4#32) (feed x wg wu wd 4 slices_S2x8x1024x2816_S1x1x1024x2816_0_4_0_0 slices_S2x8x2816x1024_S1x1x2816x1024_0_4_0_0)))
    (keep (mask te 5#32) (feed x wg wu wd 5 slices_S2x8x1024x2816_S1x1x1024x2816_0_5_0_0 slices_S2x8x2816x1024_S1x1x2816x1024_0_5_0_0)))
    (keep (mask te 6#32) (feed x wg wu wd 6 slices_S2x8x1024x2816_S1x1x1024x2816_0_6_0_0 slices_S2x8x2816x1024_S1x1x2816x1024_0_6_0_0)))
    (keep (mask te 7#32) (feed x wg wu wd 7 slices_S2x8x1024x2816_S1x1x1024x2816_0_7_0_0 slices_S2x8x2816x1024_S1x1x2816x1024_0_7_0_0))

theorem addf_at (a b : FVec Ideal S71680x1024 .f32) (i : S71680x1024.Idx) : @Eq EReal (addf a b i) ((a i : EReal) + (b i : EReal)) := rfl

/-- Eight terms of which one is chosen. -/
theorem choose_one (v : BitVec 32) (h : v.toNat < 8) (T : Fin 8 → EReal) :
    (((((((((0 : EReal) + Scalar.select (Scalar.cmpi .eq v 0#32) (T 0) 0) + Scalar.select (Scalar.cmpi .eq v 1#32) (T 1) 0)
      + Scalar.select (Scalar.cmpi .eq v 2#32) (T 2) 0) + Scalar.select (Scalar.cmpi .eq v 3#32) (T 3) 0) + Scalar.select (Scalar.cmpi .eq v 4#32) (T 4) 0)
      + Scalar.select (Scalar.cmpi .eq v 5#32) (T 5) 0) + Scalar.select (Scalar.cmpi .eq v 6#32) (T 6) 0) + Scalar.select (Scalar.cmpi .eq v 7#32) (T 7) 0)
      = T ⟨v.toNat % 8, Nat.mod_lt _ (by decide)⟩ := by
  have hv : v = BitVec.ofNat 32 v.toNat := by rw [BitVec.ofNat_toNat, BitVec.setWidth_eq]
  generalize v.toNat = k at h hv
  subst hv
  have cases : k = 0 ∨ k = 1 ∨ k = 2 ∨ k = 3 ∨ k = 4 ∨ k = 5 ∨ k = 6 ∨ k = 7 := by omega
  rcases cases with rfl | rfl | rfl | rfl | rfl | rfl | rfl | rfl <;>
    simp [Scalar.select, Scalar.cmpi, IntOp.cmpi]

theorem sum8_at (t : Fin 71680) (n : Fin 1024) (h : (te (ix1 (tileOf t))).toNat < 8) :
    @Eq EReal (sum8 x te wg wu wd (ix2 t n)) (one x wg wu wd ⟨(te (ix1 (tileOf t))).toNat % 8, Nat.mod_lt _ (by decide)⟩ t n) := by
  unfold sum8
  simp only [addf_at, keep_at, mask_at, zeros_at]
  rw [feed_at x wg wu wd 0 (by decide), feed_at x wg wu wd 1 (by decide), feed_at x wg wu wd 2 (by decide), feed_at x wg wu wd 3 (by decide),
    feed_at x wg wu wd 4 (by decide), feed_at x wg wu wd 5 (by decide), feed_at x wg wu wd 6 (by decide), feed_at x wg wu wd 7 (by decide)]
  exact choose_one _ h fun e => one x wg wu wd e t n

def whole : FVec Ideal S71680x1024 .bf16 := truncf .bf16 (keep (used nu) (sum8 x te wg wu wd)) bitsLt_bf16_f32

/-- The reference's result at an index: the named expert's feed-forward where the tile is used, zero elsewhere. -/
theorem whole_at (t : Fin 71680) (n : Fin 1024) (h : (te (ix1 (tileOf t))).toNat < 8) :
    @Eq EReal (whole x te nu wg wu wd (ix2 t n))
      (Scalar.select (Scalar.cmpi .slt (BitVec.ofNat 32 (tileOf t).val) (nu (ix1 0)))
        (one x wg wu wd ⟨(te (ix1 (tileOf t))).toNat % 8, Nat.mod_lt _ (by decide)⟩ t n) 0) := by
  show @Eq EReal (keep (used nu) (sum8 x te wg wu wd) (ix2 t n)) _
  rw [keep_at, used_at, sum8_at x te wg wu wd t n h]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run (F := Ideal) m ρ)

end Cert.Reference3Ideal.Hand

end
-- ==== Proof.MoeSecondKit.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Hand

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_grouped_ffn (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- Every window whose index map reads a table has its block inside the array at every point. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S140 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents on core `c`, and the table held at half the full share, to be read only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged: from a run to `FramePost` of proof data whose arrays are the contents at the region's entry. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2816 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x2816 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2816x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel4Ideal.Hand

end
-- ==== Proof.MoeSecondRun.lean ====
module

public import proofs.«01_k».proof.Proof.MoeSecondKit

@[expose] public section

set_option maxRecDepth 16384

noncomputable section

namespace Cert.Kernel4Ideal.Hand

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The count of used tiles, as the body reads it. -/
abbrev word1 (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))

set_option maxHeartbeats 1000000 in
/-- The body at a tile below the used count: the pieces that its stores leave in the result's buffer, with the triple. -/
noncomputable def runUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body at a tile past the used count. -/
noncomputable def runIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_grouped_ffn i tbM0_0 htbM0_0 tbM0_1 htbM0_1 arg3 harg3 arg4 harg4 arg5 harg5 arg6 harg6 arg7 harg7) K } := by
  refine ⟨?_, fun E K => ?run⟩
  case run =>
    simp only [cc0_moe_grouped_ffn_eq_skeleton]; unfold cc0_moe_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel4Ideal.Hand

end
-- ==== Proof.MoeSecondFrame.lean ====
module

public import proofs.«01_k».proof.Proof.MoeSecondRun
public import Idealize.ShloMosaic.Lib.Claim

@[expose] public section

set_option maxRecDepth 16384

noncomputable section

namespace Cert.Kernel4Ideal.Hand

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Of the two conditions exactly one holds. -/
theorem second_iff (i : grid0.Coords) (v : BitVec 32) : k0_cond2 i v = 1#1 ↔ ¬ k0_cond1 i v = 1#1 := by
  have key : ∀ b : BitVec 1, (Scalar.cmpi .ne (Scalar.extui (Scalar.xori b 1#1) : BitVec 32) 0#32 = 1#1)
      ↔ ¬ (Scalar.cmpi .ne (Scalar.extui b : BitVec 32) 0#32 = 1#1) := by decide
  exact key _

theorem not_second {i : grid0.Coords} {v : BitVec 32} (h : k0_cond1 i v = 1#1) : ¬ k0_cond2 i v = 1#1 := fun h' => (second_iff i v).mp h' h

/-- So the result's window is written at every point. -/
theorem never_idle (pf : pre0.Contents (Elt F)) (i : grid0.Coords) : idle0 pf 4 i = false := by
  show (!(k0_cond1 i (pf.atD 1 ![0]) == 1#1) && !(k0_cond2 i (pf.atD 1 ![0]) == 1#1)) = false
  by_cases h : k0_cond1 i (pf.atD 1 ![0]) = 1#1
  · rw [beq_iff_eq.mpr h]; rfl
  · rw [beq_iff_eq.mpr ((second_iff i _).mpr h)]; exact Bool.and_false _

/-- The one store covers the block. -/
theorem coverUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) (y : S512x1024.Idx) :
    ∃ pc ∈ (runUsed c i arg3 harg3 arg4 harg4 arg5 harg5 arg6 harg6 arg7 harg7 x0 x1 x2 x3 xt0 xt1 hc1 hc2).1, y ∈ pc.1.set :=
  View.cover_of_tiledL (runUsed c i arg3 harg3 arg4 harg4 arg5 harg5 arg6 harg6 arg7 harg7 x0 x1 x2 x3 xt0 xt1 hc1 hc2).1 S512x1024.size (by sl_kernel_rfl) y

/-- What the body leaves in the result's buffer. -/
def outUsed (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : k0_cond1 i (word1 c xt1) = 1#1) (hc2 : ¬ k0_cond2 i (word1 c xt1) = 1#1) : Vec F S512x1024 .bf16 :=
  VO0_4.read (Elt F) (VO0_4.writes (Elt F) VO0_4.junk (runUsed c i arg3 harg3 arg4 harg4 arg5 harg5 arg6 harg6 arg7 harg7 x0 x1 x2 x3 xt0 xt1 hc1 hc2).1)

/-- The one store covers the block. -/
theorem coverIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) (y : S512x1024.Idx) :
    ∃ pc ∈ (runIdle c i arg3 harg3 arg4 harg4 arg5 harg5 arg6 harg6 arg7 harg7 x0 x1 x2 x3 xt0 xt1 hc1 hc2).1, y ∈ pc.1.set :=
  View.cover_of_tiledL (runIdle c i arg3 harg3 arg4 harg4 arg5 harg5 arg6 harg6 arg7 harg7 x0 x1 x2 x3 xt0 xt1 hc1 hc2).1 S512x1024.size (by sl_kernel_rfl) y

/-- What the body leaves in the result's buffer. -/
def outIdle (c : Dev nD) (i : grid0.Coords) (arg3 : Memref sig .tc .vmem S512x1024 .bf16) (harg3 : arg3.IsWhole) (arg4 : Memref sig .tc .vmem S1x1x1024x2816 .f32) (harg4 : arg4.IsWhole) (arg5 : Memref sig .tc .vmem S1x1x1024x2816 .f32) (harg5 : arg5.IsWhole) (arg6 : Memref sig .tc .vmem S1x1x2816x1024 .f32) (harg6 : arg6.IsWhole) (arg7 : Memref sig .tc .vmem S512x1024 .bf16) (harg7 : arg7.IsWhole)
    (x0 : Vec F S512x1024 .bf16) (x1 : Vec F S1x1x1024x2816 .f32) (x2 : Vec F S1x1x1024x2816 .f32) (x3 : Vec F S1x1x2816x1024 .f32) (xt0 : TbBuf0 (F := F) c tbM0_0) (xt1 : TbBuf0 (F := F) c tbM0_1) (hc1 : ¬ k0_cond1 i (word1 c xt1) = 1#1) (hc2 : k0_cond2 i (word1 c xt1) = 1#1) : Vec F S512x1024 .bf16 :=
  VO0_4.read (Elt F) (VO0_4.writes (Elt F) VO0_4.junk (runIdle c i arg3 harg3 arg4 harg4 arg5 harg5 arg6 harg6 arg7 harg7 x0 x1 x2 x3 xt0 xt1 hc1 hc2).1)

/-- What the result's buffer holds after a point. -/
def outsAt0 (hO : Ok m) (c : Dev nD) (t : Fin (cfgM m hO).N) : Vec F S512x1024 .bf16 :=
  if h : k0_cond1 (grid0.coords t) (word1 c (tbl m 1)) = 1#1 then
    outUsed c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (not_second h)
  else outIdle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h ((second_iff _ _).mpr h)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  by_cases hc : k0_cond1 (grid0.coords t) (word1 c (tbl m 1)) = 1#1
  · rw [dif_pos hc]; unfold outUsed
    iintro ⟨⟨HΦ, ⟨HT0, HT1⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (iblk m hO c 0 t) (iblk m hO c 1 t) (iblk m hO c 2 t) (iblk m hO c 3 t) (tbl m 0) (tbl m 1) hc (not_second hc)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverUsed c _ _ _ _ _ _ _ _ _ _ _ _ _ _ _ _ _ _ _)
  · rw [dif_neg hc]; unfold outIdle
    iintro ⟨⟨HΦ, ⟨HT0, HT1⟩⟩, Ho, ⟨%d0, H0⟩, ⟨%d1, H1⟩, ⟨%d2, H2⟩, ⟨%d3, H3⟩, ⟨%d4, H4⟩⟩
    iapply ((runIdle c (grid0.coords t) _ _ _ _ _ _ _ _ _ _ (iblk m hO c 0 t) (iblk m hO c 1 t) (iblk m hO c 2 t) (iblk m hO c 3 t) (tbl m 0) (tbl m 1) hc ((second_iff _ _).mpr hc)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverIdle c _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : (cfgM m hO).idle 4 ((cfgM m hO).grid.coords t) = false := never_idle _ _
  unfold bodyPost
  erw [hi]

/-! ## The run and the frame -/

set_option backward.isDefEq.respectTransparency.types false in
/-- `run_main`'s statement, and every counter at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The run ends, leaves the arguments as they were and every counter at zero, for tables whose blocks are inside the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel4Ideal.Hand

end
-- ==== Proof.MoeSecondKer.lean ====
module

public import proofs.«01_k».proof.Proof.MoeSecondFrame
public import proofs.«01_k».proof.Proof.FfnMath
public import Idealize.ShloMosaic.Lib.Pointwise
public import Idealize.ShloMosaic.Lib.Pipeline.ValueKit
public import Idealize.ShloMosaic.Lib.Tactic.CleanTypes
public import Idealize.ShloMosaic.Lib.VecWindow

@[expose] public section

set_option maxRecDepth 16384

noncomputable section

namespace Cert.Kernel4Ideal.Hand

open Cert.Kernel4Ideal Cert.Kernel4Ideal.Gen Idealize.ShloMosaic Cert.FeedForward

/-- A tile of one of the two inner products. -/
def up (h : FVec Ideal S512x1024 .bf16) (v : Vec Ideal S1x1024x256 .f32) : FVec Ideal S512x256 .f32 :=
  matmul (φ₁ := .bf16) (φ₂ := .bf16) dot_S512x1024_S1024x256_S512x256_1_0_0_1_n_n none h
    (truncf .bf16 (shapeCast S1024x256 v shapeCasts_S1x1024x256_S1024x256) bitsLt_bf16_f32) (constant S512x256 .f32 0x00000000#32)

/-- What a tile of 256 hidden features adds to the result. -/
def chunk (h : FVec Ideal S512x1024 .bf16) (g u : Vec Ideal S1x1024x256 .f32) (d : Vec Ideal S1x256x1024 .f32) : FVec Ideal S512x1024 .f32 :=
  matmul (φ₁ := .bf16) (φ₂ := .bf16) dot_S512x256_S256x1024_S512x1024_1_0_0_1_n_n none (truncf .bf16 (mulf (mulf (up h g) (logistic (up h g))) (up h u)) bitsLt_bf16_f32)
    (truncf .bf16 (shapeCast S256x1024 d shapeCasts_S1x256x1024_S256x1024) bitsLt_bf16_f32) (constant S512x1024 .f32 0x00000000#32)

theorem up_at (h : FVec Ideal S512x1024 .bf16) (v : Vec Ideal S1x1024x256 .f32) (r : Fin 512) (k : Fin 256) :
    up h v (ix2 r k) = ∑ d : Fin 1024, h (ix2 r d) * v (ix3 0 d k) := by
  pointwise [up]

theorem chunk_at (h : FVec Ideal S512x1024 .bf16) (g u : Vec Ideal S1x1024x256 .f32) (d : Vec Ideal S1x256x1024 .f32) (r : Fin 512) (n : Fin 1024) :
    chunk h g u d (ix2 r n) = ∑ k : Fin 256, ((up h g (ix2 r k) * Ideal.logistic (up h g (ix2 r k))) * up h u (ix2 r k)) * d (ix3 0 k n) := by
  pointwise [chunk]

section Loads
variable {o : ℕ}

theorem ldCols (X : Vec Ideal S1x1024x2816 .f32) (inb : ∀ a, (![0, 0, o] : Fin 3 → ℕ) a + S1x1024x256.size a ≤ S1x1024x2816.size a) (d : Fin 1024) (k : Fin 256) :
    View.ld X (Rect.unit (s := S1x1024x2816) ![0, 0, o] S1x1024x256.size inb) (ix3 0 d k) = X (ix3 0 d ⟨(o + k.val) % 2816, Nat.mod_lt _ (by decide)⟩) := by
  have h : o + 256 ≤ 2816 := inb 2
  refine View.ld_unit_apply_of X _ _ inb _ _ fun a => ?_
  match a with
  | 0 => rfl
  | 1 => exact (Nat.zero_add _).symm
  | 2 => exact Nat.mod_eq_of_lt (by have := k.isLt; omega)

theorem ldRows (X : Vec Ideal S1x2816x1024 .f32) (inb : ∀ a, (![0, o, 0] : Fin 3 → ℕ) a + S1x256x1024.size a ≤ S1x2816x1024.size a) (k : Fin 256) (n : Fin 1024) :
    View.ld X (Rect.unit (s := S1x2816x1024) ![0, o, 0] S1x256x1024.size inb) (ix3 0 k n) = X (ix3 0 ⟨(o + k.val) % 2816, Nat.mod_lt _ (by decide)⟩ n) := by
  have h : o + 256 ≤ 2816 := inb 1
  refine View.ld_unit_apply_of X _ _ inb _ _ fun a => ?_
  match a with
  | 0 => rfl
  | 1 => exact Nat.mod_eq_of_lt (by have := k.isLt; omega)
  | 2 => exact (Nat.zero_add _).symm

end Loads

/-- A block of the inner weights and one of the outer, without the two leading axes of extent one. -/
def inner (x : Vec Ideal S1x1x1024x2816 .f32) : Vec Ideal S1x1024x2816 .f32 :=
  shapeCast S1x1024x2816 x (squeezes_S1x1x1024x2816_S1x1024x2816).numel_eq
def outer (x : Vec Ideal S1x1x2816x1024 .f32) : Vec Ideal S1x2816x1024 .f32 :=
  shapeCast S1x2816x1024 x (squeezes_S1x1x2816x1024_S1x2816x1024).numel_eq

theorem inner_at (x : Vec Ideal S1x1x1024x2816 .f32) (d : Fin 1024) (f : Fin 2816) : inner x (ix3 0 d f) = x (ix4 0 0 d f) := by
  pointwise [inner]

theorem outer_at (x : Vec Ideal S1x1x2816x1024 .f32) (f : Fin 2816) (n : Fin 1024) : outer x (ix3 0 f n) = x (ix4 0 0 f n) := by
  pointwise [outer]

/-- The columns of the inner weights and the rows of the outer one, by number. -/
def colOf (X : Vec Ideal S1x1x1024x2816 .f32) (d : Fin 1024) (f : ℕ) : EReal := X (ix4 0 0 d ⟨f % 2816, Nat.mod_lt _ (by decide)⟩)
def rowOf (X : Vec Ideal S1x1x2816x1024 .f32) (n : Fin 1024) (f : ℕ) : EReal := X (ix4 0 0 ⟨f % 2816, Nat.mod_lt _ (by decide)⟩ n)

theorem chunk_ld {o : ℕ} (h : FVec Ideal S512x1024 .bf16) (X4 X5 : Vec Ideal S1x1x1024x2816 .f32) (X6 : Vec Ideal S1x1x2816x1024 .f32)
    (inb : ∀ a, (![0, 0, o] : Fin 3 → ℕ) a + S1x1024x256.size a ≤ S1x1024x2816.size a)
    (inb' : ∀ a, (![0, o, 0] : Fin 3 → ℕ) a + S1x256x1024.size a ≤ S1x2816x1024.size a) (r : Fin 512) (n : Fin 1024) :
    chunk h (View.ld (inner X4) (Rect.unit (s := S1x1024x2816) ![0, 0, o] S1x1024x256.size inb)) (View.ld (inner X5) (Rect.unit (s := S1x1024x2816) ![0, 0, o] S1x1024x256.size inb))
        (View.ld (outer X6) (Rect.unit (s := S1x2816x1024) ![0, o, 0] S1x256x1024.size inb')) (ix2 r n)
      = ∑ k : Fin 256, term (fun d : Fin 1024 => h (ix2 r d)) (colOf X4) (colOf X5) (rowOf X6 n) (o + k.val) := by
  rw [chunk_at]
  refine Finset.sum_congr rfl fun k _ => ?_
  rw [up_at, up_at]
  unfold term
  rw [ldRows, outer_at, Finset.sum_congr rfl fun d _ => congrArg (h (ix2 r d) * ·) ((ldCols (inner X4) inb d k).trans (inner_at X4 d _)),
    Finset.sum_congr rfl fun d _ => congrArg (h (ix2 r d) * ·) ((ldCols (inner X5) inb d k).trans (inner_at X5 d _))]
  rfl

section Views
variable {sp : Space} (M : Memref sig .tc sp S1x1x1024x2816 .f32) (hM : M.IsWhole) (N : Memref sig .tc sp S1x1x2816x1024 .f32) (hN : N.IsWhole)

/-- What the body loads of a block of weights. -/
def loadCols (x : Vec Ideal S1x1x1024x2816 .f32) (o : ℕ) (inb : ∀ a, (![0, 0, o] : Fin 3 → ℕ) a + S1x1024x256.size a ≤ S1x1024x2816.size a) : Vec Ideal S1x1024x256 .f32 :=
  View.readAt (Elt Ideal) ((M.slice (Rect.unit (s := S1x1x1024x2816) ![0, 0, 0, 0] S1x1x1024x2816.size inb_S1x1x1024x2816_S1x1x1024x2816_0_0_0_0) (fun _ => rfl)).squeeze S1x1024x2816 squeezes_S1x1x1024x2816_S1x1024x2816).view
    (Rect.unit (s := S1x1024x2816) ![0, 0, o] S1x1024x256.size inb).toLoadRect (hM.unread x)

def loadRows (x : Vec Ideal S1x1x2816x1024 .f32) (o : ℕ) (inb : ∀ a, (![0, o, 0] : Fin 3 → ℕ) a + S1x256x1024.size a ≤ S1x2816x1024.size a) : Vec Ideal S1x256x1024 .f32 :=
  View.readAt (Elt Ideal) ((N.slice (Rect.unit (s := S1x1x2816x1024) ![0, 0, 0, 0] S1x1x2816x1024.size inb_S1x1x2816x1024_S1x1x2816x1024_0_0_0_0) (fun _ => rfl)).squeeze S1x2816x1024 squeezes_S1x1x2816x1024_S1x2816x1024).view
    (Rect.unit (s := S1x2816x1024) ![0, o, 0] S1x256x1024.size inb).toLoadRect (hN.unread x)

theorem loadCols_eq (x : Vec Ideal S1x1x1024x2816 .f32) (o : ℕ) (inb) :
    loadCols M hM x o inb = View.ld (inner x) (Rect.unit (s := S1x1024x2816) ![0, 0, o] S1x1024x256.size inb) := by
  unfold loadCols
  rw [View.readAt_eq_ld]
  refine congrArg (View.ld · _) ?_
  refine (Memref.read_squeeze_full (s := S1x1x1024x2816) M _ _ _).trans ?_
  rw [hM.read_unread]
  rfl

theorem loadRows_eq (x : Vec Ideal S1x1x2816x1024 .f32) (o : ℕ) (inb) :
    loadRows N hN x o inb = View.ld (outer x) (Rect.unit (s := S1x2816x1024) ![0, o, 0] S1x256x1024.size inb) := by
  unfold loadRows
  rw [View.readAt_eq_ld]
  refine congrArg (View.ld · _) ?_
  refine (Memref.read_squeeze_full (s := S1x1x2816x1024) N _ _ _).trans ?_
  rw [hN.read_unread]
  rfl

end Views

section Block
variable (c : Dev nD) (i : grid0.Coords) (arg3 : Memref sig .tc .vmem S512x1024 .bf16) (harg3 : arg3.IsWhole) (arg4 : Memref sig .tc .vmem S1x1x1024x2816 .f32) (harg4 : arg4.IsWhole)
  (arg5 : Memref sig .tc .vmem S1x1x1024x2816 .f32) (harg5 : arg5.IsWhole) (arg6 : Memref sig .tc .vmem S1x1x2816x1024 .f32) (harg6 : arg6.IsWhole)
  (arg7 : Memref sig .tc .vmem S512x1024 .bf16) (harg7 : arg7.IsWhole)
  (x0 : Vec Ideal S512x1024 .bf16) (x1 : Vec Ideal S1x1x1024x2816 .f32) (x2 : Vec Ideal S1x1x1024x2816 .f32) (x3 : Vec Ideal S1x1x2816x1024 .f32)
  (xt0 : TbBuf0 (F := Ideal) c tbM0_0) (xt1 : TbBuf0 (F := Ideal) c tbM0_1)

/-- A tile of features, of what the body loads. -/
def part (h : FVec Ideal S512x1024 .bf16) (o : ℕ) (inb : ∀ a, (![0, 0, o] : Fin 3 → ℕ) a + S1x1024x256.size a ≤ S1x1024x2816.size a)
    (inb' : ∀ a, (![0, o, 0] : Fin 3 → ℕ) a + S1x256x1024.size a ≤ S1x2816x1024.size a) : FVec Ideal S512x1024 .f32 :=
  chunk h (loadCols arg4 harg4 x1 o inb) (loadCols arg5 harg5 x2 o inb) (loadRows arg6 harg6 x3 o inb')

theorem part_at (h : FVec Ideal S512x1024 .bf16) (o : ℕ) (inb inb') (r : Fin 512) (n : Fin 1024) :
    part arg4 harg4 arg5 harg5 arg6 harg6 x1 x2 x3 h o inb inb' (ix2 r n)
      = ∑ k : Fin 256, term (fun d : Fin 1024 => h (ix2 r d)) (colOf x1) (colOf x2) (rowOf x3 n) (o + k.val) := by
  unfold part
  rw [loadCols_eq, loadCols_eq, loadRows_eq]
  exact chunk_ld h x1 x2 x3 inb inb' r n

def loaded : FVec Ideal S512x1024 .bf16 :=
  k0_pay3 (View.readAt (Elt Ideal) arg3.view (Rect.unit (s := S512x1024) ![0, 0] S512x1024.size inb_S512x1024_S512x1024_0_0).toLoadRect (harg3.unread x0))

theorem loaded_at (r : Fin 512) (d : Fin 1024) : loaded arg3 harg3 x0 (ix2 r d) = x0 (ix2 r d) := by
  unfold loaded
  rw [View.readAt_eq_ld, View.ld_unit_lit _ _ (by decide), harg3.read_unread]
  pointwise [k0_pay3]

/-- The eleven tiles. -/
def body : FVec Ideal S512x1024 .f32 :=
  have h := loaded arg3 harg3 x0
  addf (addf (addf (addf (addf (addf (addf (addf (addf (addf
    (part arg4 harg4 arg5 harg5 arg6 harg6 x1 x2 x3 h 0 inb_S1x1024x2816_S1x1024x256_0_0_0 inb_S1x2816x1024_S1x256x1024_0_0_0)
    (part arg4 harg4 arg5 harg5 arg6 harg6 x1 x2 x3 h 256 inb_S1x1024x2816_S1x1024x256_0_0_256 inb_S1x2816x1024_S1x256x1024_0_256_0))
    (part arg4 harg4 arg5 harg5 arg6 harg6 x1 x2 x3 h 512 inb_S1x1024x2816_S1x1024x256_0_0_512 inb_S1x2816x1024_S1x256x1024_0_512_0))
    (part arg4 harg4 arg5 harg5 arg6 harg6 x1 x2 x3 h 768 inb_S1x1024x2816_S1x1024x256_0_0_768 inb_S1x2816x1024_S1x256x1024_0_768_0))
    (part arg4 harg4 arg5 harg5 arg6 harg6 x1 x2 x3 h 1024 inb_S1x1024x2816_S1x1024x256_0_0_1024 inb_S1x2816x1024_S1x256x1024_0_1024_0))
    (part arg4 harg4 arg5 harg5 arg6 harg6 x1 x2 x3 h 1280 inb_S1x1024x2816_S1x1024x256_0_0_1280 inb_S1x2816x1024_S1x256x1024_0_1280_0))
    (part arg4 harg4 arg5 harg5 arg6 harg6 x1 x2 x3 h 1536 inb_S1x1024x2816_S1x1024x256_0_0_1536 inb_S1x2816x1024_S1x256x1024_0_1536_0))
    (part arg4 harg4 arg5 harg5 arg6 harg6 x1 x2 x3 h 1792 inb_S1x1024x2816_S1x1024x256_0_0_1792 inb_S1x2816x1024_S1x256x1024_0_1792_0))
    (part arg4 harg4 arg5 harg5 arg6 harg6 x1 x2 x3 h 2048 inb_S1x1024x2816_S1x1024x256_0_0_2048 inb_S1x2816x1024_S1x256x1024_0_2048_0))
    (part arg4 harg4 arg5 harg5 arg6 harg6 x1 x2 x3 h 2304 inb_S1x1024x2816_S1x1024x256_0_0_2304 inb_S1x2816x1024_S1x256x1024_0_2304_0))
    (part arg4 harg4 arg5 harg5 arg6 harg6 x1 x2 x3 h 2560 inb_S1x1024x2816_S1x1024x256_0_0_2560 inb_S1x2816x1024_S1x256x1024_0_2560_0)

theorem body_at (r : Fin 512) (n : Fin 1024) :
    body arg3 harg3 arg4 harg4 arg5 harg5 arg6 harg6 x0 x1 x2 x3 (ix2 r n) = ffn 2816 (fun d : Fin 1024 => x0 (ix2 r d)) (colOf x1) (colOf x2) (rowOf x3 n) := by
  have e : (fun d : Fin 1024 => x0 (ix2 r d)) = fun d => loaded arg3 harg3 x0 (ix2 r d) := funext fun d => (loaded_at arg3 harg3 x0 r d).symm
  unfold ffn
  rw [e, ← tiles_eleven]
  iterate 10 refine (congrArg₂ (· + ·) ?_ (part_at arg4 harg4 arg5 harg5 arg6 harg6 x1 x2 x3 _ _ _ _ r n))
  exact part_at arg4 harg4 arg5 harg5 arg6 harg6 x1 x2 x3 _ _ _ _ r n

/-- What a used tile leaves is the eleven tiles' sum. -/
theorem outUsed_eq (hc1 : k0_cond1 i (word1 c xt1) = 1#1) (hc2 : ¬ k0_cond2 i (word1 c xt1) = 1#1) :
    outUsed c i arg3 harg3 arg4 harg4 arg5 harg5 arg6 harg6 arg7 harg7 x0 x1 x2 x3 xt0 xt1 hc1 hc2
      = truncf .bf16 (body arg3 harg3 arg4 harg4 arg5 harg5 arg6 harg6 x0 x1 x2 x3) bitsLt_bf16_f32 := by
  unfold outUsed runUsed
  dsimp only
  rw [View.read_writes_junk_eq_canon, View.canon_cons_unit_lit _ _ _ (by decide)]
  rfl

theorem outUsed_at (hc1 : k0_cond1 i (word1 c xt1) = 1#1) (hc2 : ¬ k0_cond2 i (word1 c xt1) = 1#1) (r : Fin 512) (n : Fin 1024) :
    @Eq EReal (outUsed c i arg3 harg3 arg4 harg4 arg5 harg5 arg6 harg6 arg7 harg7 x0 x1 x2 x3 xt0 xt1 hc1 hc2 (ix2 r n))
      (ffn 2816 (fun d : Fin 1024 => x0 (ix2 r d)) (colOf x1) (colOf x2) (rowOf x3 n)) := by
  rw [outUsed_eq]
  exact body_at arg3 harg3 arg4 harg4 arg5 harg5 arg6 harg6 x0 x1 x2 x3 r n

/-- What a tile past the used ones leaves is zero. -/
theorem outIdle_at (hc1 : ¬ k0_cond1 i (word1 c xt1) = 1#1) (hc2 : k0_cond2 i (word1 c xt1) = 1#1) (r : Fin 512) (n : Fin 1024) :
    @Eq EReal (outIdle c i arg3 harg3 arg4 harg4 arg5 harg5 arg6 harg6 arg7 harg7 x0 x1 x2 x3 xt0 xt1 hc1 hc2 (ix2 r n)) 0 := by
  unfold outIdle runIdle
  dsimp only
  rw [View.read_writes_junk_eq_canon, View.canon_cons_unit_lit _ _ _ (by decide)]
  pointwise [k0_pay2]

end Block

end Cert.Kernel4Ideal.Hand

end
-- ==== Proof.MoeSecondSame.lean ====
module

public import proofs.«01_k».proof.Proof.MoeSecondFrame
public import proofs.«01_k».proof.Proof.Gen.Kernel4
public import proofs.«01_k».proof.Proof.Gen.Pre_experts_named
public import proofs.«01_k».proof.Defs
public import Idealize.ShloMosaic.Lib.Pointwise

@[expose] public section

set_option maxRecDepth 65536
set_option maxHeartbeats 4000000

noncomputable section
open Idealize.ShloMosaic Idealize.SL.Sem

namespace Cert.Kernel4Ideal.Hand

open Cert.Kernel4Ideal.Gen Idealize.ShloMosaic.TcCoe

/-! The program as printed and its idealization have one text. -/

theorem bodies_eq : @Cert.Kernel4.defs₀ Bits _ _ = @Cert.Kernel4Ideal.defs₀ Bits _ _ := by
  unfold Cert.Kernel4.defs₀ Cert.Kernel4Ideal.defs₀
  congr 1
  funext l a
  match l, a with
  | 0, (t, s) => rfl
  | ⟨_ + 1, h⟩, _ => exact absurd h (Nat.not_lt.2 (Nat.le_add_left _ _))

theorem defs_eq : @Cert.Kernel4.defs Bits _ _ = @Cert.Kernel4Ideal.defs Bits _ _ := by
  unfold Cert.Kernel4.defs Cert.Kernel4Ideal.defs
  rw [bodies_eq]; rfl

/-! ## The tiles' experts are eight -/

section Ok
variable {F : FTy → Type} [FloatOps F]

theorem word_of {n : ℕ} (hn : n < 2 ^ 32) (x : Fin n) : (BitVec.ofNat 32 x.val).toNat = x.val := by
  rw [BitVec.toNat_ofNat]
  exact Nat.mod_eq_of_lt (by omega)

/-- The table of the tiles' experts, as the region finds it. -/
def experts (m : (ℓ : Loc nD τ sig) → Buf (Elt F) ℓ) : (⟨1, ![140]⟩ : Shape).Idx → BitVec 32 := m ((0 : Dev nD), Proc.tc.devRef main_arg1)

theorem tbl_at (m : (ℓ : Loc nD τ sig) → Buf (Elt F) ℓ) (i : grid0.Coords) :
    (tbl m).at 0 (Rect.unit (s := S140) ![(Scalar.indexCast (BitVec.ofNat 32 (i 0).val)).toNat] S1.size (k0_off1_inb i)) numel1_S1 = experts m (ix1 (i 0)) := by
  unfold Pipeline.Prefetch.Contents.at tbl
  rw [show V m 0 (pre0.ref 0) = experts m from V_main_arg1 m 0]
  refine congrArg (experts m) (funext fun (a : Fin 1) => ?_)
  match a with
  | 0 =>
    refine Fin.ext ?_
    show (BitVec.ofNat 32 (i 0).val).toNat + _ = (i 0).val
    exact word_of (n := 140) (by decide) (i 0)

theorem index1 (m : (ℓ : Loc nD τ sig) → Buf (Elt F) ℓ) (i : grid0.Coords) :
    cc0_transform_1 k0_off1_inb numel1_S1 (tbl m) i = ![1, (experts m (ix1 (i 0))).toNat, 0, 0] := by
  unfold cc0_transform_1
  dsimp only
  rw [tbl_at]; rfl

theorem index2 (m : (ℓ : Loc nD τ sig) → Buf (Elt F) ℓ) (i : grid0.Coords) :
    cc0_transform_2 k0_off1_inb numel1_S1 (tbl m) i = ![1, (experts m (ix1 (i 0))).toNat, 0, 0] := index1 m i

theorem index3 (m : (ℓ : Loc nD τ sig) → Buf (Elt F) ℓ) (i : grid0.Coords) :
    cc0_transform_3 k0_off1_inb numel1_S1 (tbl m) i = ![1, (experts m (ix1 (i 0))).toNat, 0, 0] := index1 m i

theorem ok_of_named (m : (ℓ : Loc nD τ sig) → Buf (Elt F) ℓ) (h : ∀ j, (experts m (ix1 j)).toNat < 8) : Ok m := by
  refine ⟨fun i => ⟨?_, Or.inl rfl⟩, fun i => ⟨?_, Or.inl rfl⟩, fun i => ⟨?_, Or.inl rfl⟩⟩
  · rw [index1]
    have hk := h (i 0)
    generalize (experts m (ix1 (i 0))).toNat = k at hk ⊢
    intro a
    match a with
    | 0 => show (1 + 1) * 1 ≤ 2; omega
    | 1 => show (k + 1) * 1 ≤ 8; omega
    | 2 => show (0 + 1) * 1024 ≤ 1024; omega
    | 3 => show (0 + 1) * 2816 ≤ 2816; omega
  · rw [index2]
    have hk := h (i 0)
    generalize (experts m (ix1 (i 0))).toNat = k at hk ⊢
    intro a
    match a with
    | 0 => show (1 + 1) * 1 ≤ 2; omega
    | 1 => show (k + 1) * 1 ≤ 8; omega
    | 2 => show (0 + 1) * 1024 ≤ 1024; omega
    | 3 => show (0 + 1) * 2816 ≤ 2816; omega
  · rw [index3]
    have hk := h (i 0)
    generalize (experts m (ix1 (i 0))).toNat = k at hk ⊢
    intro a
    match a with
    | 0 => show (1 + 1) * 1 ≤ 2; omega
    | 1 => show (k + 1) * 1 ≤ 8; omega
    | 2 => show (0 + 1) * 2816 ≤ 2816; omega
    | 3 => show (0 + 1) * 1024 ≤ 1024; omega

/-- A word that is, signed, at least 0 and below 8. -/
theorem named_word (v : BitVec 32) (h : Scalar.andi (Scalar.cmpi .sge v 0#32) (Scalar.cmpi .slt v 8#32) = 1#1) : v.toNat < 8 := by
  have e1 : Scalar.cmpi .sge v 0#32 = BitVec.ofBool (decide (v.toNat < 2 ^ (32 - 1))) := WordCmp.cmpi_sge_zero v
  have e2 : Scalar.cmpi .slt v 8#32 = BitVec.ofBool (decide (v.toInt < (8#32).toInt)) := WordCmp.cmpi_slt_eq v 8#32
  rw [e1, e2] at h
  by_cases h1 : v.toNat < 2 ^ (32 - 1)
  · by_cases h2 : v.toInt < (8#32).toInt
    · rw [WordCmp.toInt_eq_toNat_of_lt_half h1, show (8#32 : BitVec 32).toInt = 8 from by decide] at h2
      omega
    · rw [decide_eq_false h2] at h
      generalize decide (v.toNat < 2 ^ (32 - 1)) = b at h
      exact absurd h (by cases b <;> decide)
  · rw [decide_eq_false h1] at h
    generalize decide (v.toInt < (8#32).toInt) = b at h
    exact absurd h (by cases b <;> decide)

/-- What the precondition says of the table. -/
theorem named_of_mask (te : IVec S140 32) {dims : Fin 0 → Fin S140.rank} (hb hb' : (⟨0, ![]⟩ : Shape).BroadcastsInDim S140 dims)
    (h : andi (cmpi .sge te (broadcastInDim S140 dims hb (constantI ⟨0, ![]⟩ 32 0#32))) (cmpi .slt te (broadcastInDim S140 dims hb' (constantI ⟨0, ![]⟩ 32 8#32)))
      = fun _ => 1#1) (j : Fin 140) : (te (ix1 j)).toNat < 8 :=
  named_word _ (congrFun h (ix1 j))

end Ok

/-- The program as printed, where each tile names one of the eight experts. -/
theorem frame_printed : Cert.quiescent_Kernel4 (hKernel4 := Cert.Kernel4.Gen.facts) (hPre_experts_named := Cert.Pre_experts_named.Gen.facts) := fun m g h => by
  rw [defs_eq]
  exact frame (F := Bits) m g (ok_of_named (F := Bits) m (named_of_mask _ _ _ (h 0)))

/-- The kernel at the extended reals. -/
theorem frame_ideal : Cert.quiescent_Kernel4Ideal (hKernel4Ideal := Cert.Kernel4Ideal.Gen.facts) (hPre_experts_named := Cert.Pre_experts_named.Gen.facts) := fun m g h =>
  frame (F := Ideal) m g (ok_of_named (F := Ideal) m (named_of_mask _ _ _ (h 0)))

end Cert.Kernel4Ideal.Hand

end
-- ==== Proof.MoeSecondHost.lean ====
module

public import proofs.«01_k».proof.Proof.MoeSecondKer
public import proofs.«01_k».proof.Proof.MoeSecondSame
public import Idealize.ShloMosaic.Lib.StableHlo.ReadAt
public import Idealize.ShloMosaic.Lib.KernelVsHost
public import Idealize.ShloMosaic.Lib.Pipeline.Covers

@[expose] public section

set_option maxRecDepth 16384

noncomputable section

namespace Cert.Kernel4Ideal.Hand

open Cert.Kernel4Ideal Cert.Kernel4Ideal.Gen Idealize.ShloMosaic Idealize.ShloMosaic.TcCoe Cert.FeedForward

variable (m : (ℓ : Loc nD τ sig) → Buf (Elt Ideal) ℓ) (hO : Ok m) (c : Dev nD)

/-! ## The arguments, as functions -/

def argX : (⟨2, ![71680, 1024]⟩ : Shape).Idx → EReal := m (c, Proc.tc.devRef main_arg0)
def argN : (⟨1, ![1]⟩ : Shape).Idx → BitVec 32 := m (c, Proc.tc.devRef main_arg2)
def argG : (⟨4, ![2, 8, 1024, 2816]⟩ : Shape).Idx → EReal := m (c, Proc.tc.devRef main_arg3)
def argU : (⟨4, ![2, 8, 1024, 2816]⟩ : Shape).Idx → EReal := m (c, Proc.tc.devRef main_arg4)
def argD : (⟨4, ![2, 8, 2816, 1024]⟩ : Shape).Idx → EReal := m (c, Proc.tc.devRef main_arg5)

/-- The rows, the one operand that the host prepares. -/
theorem rows_at (t : Fin 71680) (d : Fin 1024) :
    @Eq EReal ((V m c main_v0 : FVec Ideal S71680x1024 .bf16) (ix2 t d)) (argX m c (ix2 t d)) := by
  unfold V
  after_reads_at
  rfl

/-! ## The blocks that a point reads, at an index -/

/-- The tile of a point. -/
def tile (t : Fin (cfgM m hO).N) : Fin 140 := grid0.coords t 0
/-- A row of a point's tile. -/
def posOf (t : Fin (cfgM m hO).N) (r : Fin 512) : Fin 71680 := ⟨512 * (tile m hO t).val + r.val, by omega⟩
/-- The expert of a point's tile. -/
def expertOf (j : Fin 140) : Fin 8 := ⟨(experts m (ix1 j)).toNat % 8, Nat.mod_lt _ (by decide)⟩

theorem map0 (i : grid0.Coords) : cc0_transform_0 i = ![(i 0).val, 0] := by
  funext a
  match a with
  | 0 => exact word_of (n := 140) (by decide) (i 0)
  | 1 => rfl

theorem idx0 (t : Fin (cfgM m hO).N) : ((cfgM m hO).win 0).index t = ![(grid0.coords t 0).val, 0] := map0 _
theorem idx4 (t : Fin (cfgM m hO).N) : ((cfgM m hO).win 4).index t = ![(grid0.coords t 0).val, 0] := map0 _
theorem idx1 (t : Fin (cfgM m hO).N) : ((cfgM m hO).win 1).index t = ![1, (experts m (ix1 (grid0.coords t 0))).toNat, 0, 0] := index1 m _
theorem idx2 (t : Fin (cfgM m hO).N) : ((cfgM m hO).win 2).index t = ![1, (experts m (ix1 (grid0.coords t 0))).toNat, 0, 0] := index2 m _
theorem idx3 (t : Fin (cfgM m hO).N) : ((cfgM m hO).win 3).index t = ![1, (experts m (ix1 (grid0.coords t 0))).toNat, 0, 0] := index3 m _

theorem block0_at (t : Fin (cfgM m hO).N) (r : Fin 512) (d : Fin 1024) :
    (iblk m hO c 0 t : FVec Ideal S512x1024 .bf16) (ix2 r d) = (V m c main_v0 : FVec Ideal S71680x1024 .bf16) (ix2 (posOf m hO t r) d) := by
  have e := idx0 m hO t
  unfold posOf tile
  blk_ext [iblk, e]

variable (named : ∀ j, (experts m (ix1 j)).toNat < 8)
include named

theorem block1_at (t : Fin (cfgM m hO).N) (d : Fin 1024) (f : Fin 2816) :
    (iblk m hO c 1 t : FVec Ideal S1x1x1024x2816 .f32) (ix4 0 0 d f) = (V m c main_arg3 : FVec Ideal S2x8x1024x2816 .f32) (ix4 1 (expertOf m (tile m hO t)) d f) := by
  have e := idx1 m hO t
  have h := Nat.mod_eq_of_lt (named (grid0.coords t 0))
  unfold expertOf tile
  blk_ext [iblk, e, h]

theorem block2_at (t : Fin (cfgM m hO).N) (d : Fin 1024) (f : Fin 2816) :
    (iblk m hO c 2 t : FVec Ideal S1x1x1024x2816 .f32) (ix4 0 0 d f) = (V m c main_arg4 : FVec Ideal S2x8x1024x2816 .f32) (ix4 1 (expertOf m (tile m hO t)) d f) := by
  have e := idx2 m hO t
  have h := Nat.mod_eq_of_lt (named (grid0.coords t 0))
  unfold expertOf tile
  blk_ext [iblk, e, h]

theorem block3_at (t : Fin (cfgM m hO).N) (f : Fin 2816) (n : Fin 1024) :
    (iblk m hO c 3 t : FVec Ideal S1x1x2816x1024 .f32) (ix4 0 0 f n) = (V m c main_arg5 : FVec Ideal S2x8x2816x1024 .f32) (ix4 1 (expertOf m (tile m hO t)) f n) := by
  have e := idx3 m hO t
  have h := Nat.mod_eq_of_lt (named (grid0.coords t 0))
  unfold expertOf tile
  blk_ext [iblk, e, h]

omit named

/-! ## The result -/

/-- The tile of a row. -/
def tileOf (t : Fin 71680) : Fin 140 := ⟨t.val / 512, by omega⟩

/-- A row's feed-forward by an expert, at a column. -/
def one (e : Fin 8) (t : Fin 71680) (n : Fin 1024) : EReal :=
  ffn 2816 (fun d : Fin 1024 => argX m c (ix2 t d)) (fun d f => argG m c (ix4 1 e d ⟨f % 2816, Nat.mod_lt _ (by decide)⟩))
    (fun d f => argU m c (ix4 1 e d ⟨f % 2816, Nat.mod_lt _ (by decide)⟩)) (fun f => argD m c (ix4 1 e ⟨f % 2816, Nat.mod_lt _ (by decide)⟩ n))

/-- The named expert's feed-forward where the tile is used, zero elsewhere. -/
def wholeAt (t : Fin 71680) (n : Fin 1024) : EReal :=
  Scalar.select (Scalar.cmpi .slt (BitVec.ofNat 32 (tileOf t).val) (argN m c (ix1 0))) (one m c (expertOf m (tileOf t)) t n) 0

def whole : (⟨2, ![71680, 1024]⟩ : Shape).Idx → EReal := fun y => wholeAt m c (y 0) (y 1)

/-- The body's condition is the comparison. -/
theorem cond_iff (i : grid0.Coords) (v : BitVec 32) : k0_cond1 i v = 1#1 ↔ Scalar.cmpi .slt (BitVec.ofNat 32 (i 0).val) v = 1#1 := by
  have key : ∀ b : BitVec 1, (Scalar.cmpi .ne (Scalar.extui b : BitVec 32) 0#32 = 1#1) ↔ b = 1#1 := by decide
  exact key _

theorem count_at : word1 c (tbl m 1) = argN m c (ix1 0) := by
  obtain rfl : c = 0 := Subsingleton.elim _ _
  unfold word1 tbl
  rw [show V m 0 (pre0.ref 1) = argN m 0 from V_main_arg2 m 0]
  refine congrArg (argN m 0) (funext fun (a : Fin 1) => ?_)
  match a with
  | 0 => exact Fin.ext rfl

include named in
theorem point_at (t : Fin (cfgM m hO).N) (r : Fin 512) (n : Fin 1024) :
    @Eq EReal ((outsAt0 m hO c t : FVec Ideal S512x1024 .bf16) (ix2 r n)) (wholeAt m c (posOf m hO t r) n) := by
  have ht : tileOf (posOf m hO t r) = tile m hO t := Fin.ext (by
    show (512 * (tile m hO t).val + r.val) / 512 = _
    omega)
  unfold wholeAt
  rw [ht]
  unfold outsAt0
  by_cases h : k0_cond1 (grid0.coords t) (word1 c (tbl m 1)) = 1#1
  · rw [dif_pos h]
    have hs : Scalar.cmpi .slt (BitVec.ofNat 32 (tile m hO t).val) (argN m c (ix1 0)) = 1#1 := by
      rw [← count_at]; exact (cond_iff _ _).mp h
    rw [hs]
    refine (outUsed_at c (grid0.coords t) _ _ _ _ _ _ _ _ _ _ (iblk m hO c 0 t) (iblk m hO c 1 t) (iblk m hO c 2 t) (iblk m hO c 3 t) (tbl m 0) (tbl m 1) h _ r n).trans ?_
    have e0 : (fun d : Fin 1024 => (iblk m hO c 0 t : FVec Ideal S512x1024 .bf16) (ix2 r d)) = fun d => argX m c (ix2 (posOf m hO t r) d) :=
      funext fun d => (block0_at m hO c t r d).trans (rows_at m c _ _)
    have e1 : colOf (iblk m hO c 1 t) = fun d f => argG m c (ix4 1 (expertOf m (tile m hO t)) d ⟨f % 2816, Nat.mod_lt _ (by decide)⟩) :=
      funext fun d => funext fun f => (block1_at m hO c named t d _).trans (congrFun (V_main_arg3 m c) _)
    have e2 : colOf (iblk m hO c 2 t) = fun d f => argU m c (ix4 1 (expertOf m (tile m hO t)) d ⟨f % 2816, Nat.mod_lt _ (by decide)⟩) :=
      funext fun d => funext fun f => (block2_at m hO c named t d _).trans (congrFun (V_main_arg4 m c) _)
    have e3 : rowOf (iblk m hO c 3 t) n = fun f => argD m c (ix4 1 (expertOf m (tile m hO t)) ⟨f % 2816, Nat.mod_lt _ (by decide)⟩ n) :=
      funext fun f => (block3_at m hO c named t _ n).trans (congrFun (V_main_arg5 m c) _)
    rw [e0, e1, e2, e3]
    rfl
  · rw [dif_neg h]
    have hs : ¬ Scalar.cmpi .slt (BitVec.ofNat 32 (tile m hO t).val) (argN m c (ix1 0)) = 1#1 := by
      rw [← count_at]; exact fun hc => h ((cond_iff _ _).mpr hc)
    refine (outIdle_at c (grid0.coords t) _ _ _ _ _ _ _ _ _ _ (iblk m hO c 0 t) (iblk m hO c 1 t) (iblk m hO c 2 t) (iblk m hO c 3 t) (tbl m 0) (tbl m 1) h _ r n).trans ?_
    exact (if_neg hs).symm

/-- A grid point, by its coordinate. -/
def coordsOf (j : Fin 140) : grid0.Coords := fun a => match a with
  | 0 => j

include named in
/-- The result array of the call. -/
theorem result : (dats m hO 0 c).arrAt 4 (cfgM m hO).N = whole m c := by
  have pos : ∀ a : Fin 2, 0 < S512x1024.size a := by decide
  have n0 : ((cfgM m hO).win 4).nblk (0 : Fin 2) = 140 := by
    show (71680 + 512 - 1) / 512 = 140
    decide
  have n1 : ((cfgM m hO).win 4).nblk (1 : Fin 2) = 1 := by
    show (1024 + 1024 - 1) / 1024 = 1
    decide
  refine (dats m hO 0 c).arrAt_eq_of_covers 4 _
    (((cfgM m hO).win 4).covers_of_indexMap_surj rfl pos fun β => ⟨coordsOf ((β (0 : Fin 2)).cast n0), fun (a : Fin 2) => ?_⟩) fun t hf y => ?_
  · match a with
    | 0 => exact word_of (n := 140) (by decide) ((β (0 : Fin 2)).cast n0)
    | 1 => exact (Nat.lt_one_iff.mp ((β (1 : Fin 2)).cast n1).isLt).symm
  · have e := idx4 m hO t
    change S512x1024.Idx at y
    have hy : y = ix2 (y 0) (y 1) := by
      funext a
      match a with
      | 0 => rfl
      | 1 => rfl
    blk_simp
    rw [after0_4]
    rw [hy]
    refine (point_at m hO c named t (y 0) (y 1)).trans ?_
    unfold whole
    congr 1 <;> refine Fin.ext ?_ <;> blk_simp [e]
    show 512 * _ + _ = _ * 512 + _
    rw [Nat.mul_comm]; rfl

/-- The call's run, its result named. -/
theorem run (ρ : Dev nD → PrngReg) (named : ∀ j, (experts m (ix1 j)).toNat < 8) :
    θ_run defs (onTc (τ := τ) (main (F := Ideal))) ⟨m, fun _ => 0, ρ⟩ fun r => ∀ c : Dev nD,
      r.2.mem ((c.tc : Thread nD τ).loc main_v1) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have hO := ok_of_named m named
  (θ_run defs _ _).mono (fun _ h c => ⟨((h.1 c).1 4).trans (result m hO c named), h.2 c⟩)
    (θ_run_and (run_main m ρ hO) (unchanged m ρ hO))

end Cert.Kernel4Ideal.Hand

end
-- ==== Proof.MoeSecondRef.lean ====
module

public import proofs.«01_k».proof.Proof.FfnMath
public import proofs.«01_k».proof.Proof.Gen.Reference4Ideal.Run
public import Idealize.ShloMosaic.Lib.Pointwise
public import Idealize.ShloMosaic.Lib.Tactic.CleanTypes

@[expose] public section

set_option maxRecDepth 16384

noncomputable section

namespace Cert.Reference4Ideal.Hand

open Cert.Reference4Ideal Cert.Reference4Ideal.Gen Idealize.ShloMosaic Cert.FeedForward

section Sizes
variable {T D N : ℕ}

abbrev Mat (D N : ℕ) : Shape := ⟨2, ![D, N]⟩

def dotR (wf : DotDims.WF (Mat T D) (Mat D N) (Mat T N) [1] [0] [0] [1] [] []) : DotDims (Mat T D) (Mat D N) (Mat T N) where
  lhsContracting := [1]
  rhsContracting := [0]
  lhsNonContracting := [0]
  rhsNonContracting := [1]
  lhsBatch := []
  rhsBatch := []
  wf := wf

/-- Rows times a matrix. -/
def rowsMul (wf : DotDims.WF (Mat T D) (Mat D N) (Mat T N) [1] [0] [0] [1] [] []) (x : FVec Ideal (Mat T D) .f32) (w : FVec Ideal (Mat D N) .f32) :
    FVec Ideal (Mat T N) .f32 := Host.dotGeneral (dotR wf) none x w

theorem rowsMul_at (wf) (x : FVec Ideal (Mat T D) .f32) (w : FVec Ideal (Mat D N) .f32) (t : Fin T) (n : Fin N) :
    rowsMul wf x w (ix2 t n) = ∑ d, x (ix2 t d) * w (ix2 d n) := by
  pointwise [rowsMul]
  rw [Ideal.matmul_apply₁_of _ (a := 1) (K := D) rfl rfl _ _ _ _ (fun d => ix2 t d) (fun d => ix2 d n), zero_add]
  · intro d; funext a
    match a with
    | 0 => rfl
    | 1 => rfl
  · intro d; funext a
    match a with
    | 0 => rfl
    | 1 => rfl

/-- The gated unit. -/
def gated (h : S_.BroadcastsInDim (Mat T N) ![]) (g u : FVec Ideal (Mat T N) .f32) : FVec Ideal (Mat T N) .f32 :=
  mulf (mulf g (Host.divf (broadcastInDim (Mat T N) ![] h (constant S_ .f32 0x3F800000#32))
    (addf (broadcastInDim (Mat T N) ![] h (constant S_ .f32 0x3F800000#32)) (Host.exp (Host.negf g))))) u

theorem gated_at (h) (g u : FVec Ideal (Mat T N) .f32) (t : Fin T) (n : Fin N) :
    gated h g u (ix2 t n) = (g (ix2 t n) * Ideal.logistic (g (ix2 t n))) * u (ix2 t n) := by
  pointwise [gated]
  rfl

end Sizes

/-! ## One expert -/

def upW (e : ℕ) (hs : S2x8x1024x2816.Slices ![1, e, 0, 0] S1x1x1024x2816) (w : FVec Ideal S2x8x1024x2816 .f32) : FVec Ideal S1024x2816 .f32 :=
  shapeCast S1024x2816 (extractStridedSlice S1x1x1024x2816 ![1, e, 0, 0] w hs) shapeCasts_S1x1x1024x2816_S1024x2816

def downW (e : ℕ) (hs : S2x8x2816x1024.Slices ![1, e, 0, 0] S1x1x2816x1024) (w : FVec Ideal S2x8x2816x1024 .f32) : FVec Ideal S2816x1024 .f32 :=
  shapeCast S2816x1024 (extractStridedSlice S1x1x2816x1024 ![1, e, 0, 0] w hs) shapeCasts_S1x1x2816x1024_S2816x1024

theorem upW_at (e : ℕ) (he : e < 8) (hs) (w : FVec Ideal S2x8x1024x2816 .f32) (d : Fin 1024) (f : Fin 2816) :
    upW e hs w (ix2 d f) = w (ix4 1 ⟨e, he⟩ d f) := by
  pointwise [upW]

theorem downW_at (e : ℕ) (he : e < 8) (hs) (w : FVec Ideal S2x8x2816x1024 .f32) (f : Fin 2816) (n : Fin 1024) :
    downW e hs w (ix2 f n) = w (ix4 1 ⟨e, he⟩ f n) := by
  pointwise [downW]

variable (x : FVec Ideal S71680x1024 .f32) (te : IVec S140 32) (nu : IVec S1 32) (wg wu : FVec Ideal S2x8x1024x2816 .f32) (wd : FVec Ideal S2x8x2816x1024 .f32)

/-- Every row's gated feed-forward by expert `e`. -/
def feed (e : ℕ) (hu : S2x8x1024x2816.Slices ![1, e, 0, 0] S1x1x1024x2816) (hd : S2x8x2816x1024.Slices ![1, e, 0, 0] S1x1x2816x1024) : FVec Ideal S71680x1024 .f32 :=
  rowsMul dot_S71680x2816_S2816x1024_S71680x1024_1_0_0_1_n_n_wf
    (gated bcast_S_S71680x2816 (rowsMul dot_S71680x1024_S1024x2816_S71680x2816_1_0_0_1_n_n_wf x (upW e hu wg))
      (rowsMul dot_S71680x1024_S1024x2816_S71680x2816_1_0_0_1_n_n_wf x (upW e hu wu))) (downW e hd wd)

/-- A row's gated feed-forward by expert `e`, at a column. -/
def one (e : Fin 8) (t : Fin 71680) (n : Fin 1024) : EReal :=
  ffn 2816 (fun d : Fin 1024 => x (ix2 t d)) (fun d f => wg (ix4 1 e d ⟨f % 2816, Nat.mod_lt _ (by decide)⟩))
    (fun d f => wu (ix4 1 e d ⟨f % 2816, Nat.mod_lt _ (by decide)⟩)) (fun f => wd (ix4 1 e ⟨f % 2816, Nat.mod_lt _ (by decide)⟩ n))

theorem feed_at (e : ℕ) (he : e < 8) (hu hd) (t : Fin 71680) (n : Fin 1024) : feed x wg wu wd e hu hd (ix2 t n) = one x wg wu wd ⟨e, he⟩ t n := by
  unfold feed one ffn
  rw [rowsMul_at, Finset.sum_range]
  refine Finset.sum_congr rfl fun f _ => ?_
  rw [gated_at, rowsMul_at, rowsMul_at]
  have e' : (⟨f.val % 2816, Nat.mod_lt _ (by decide)⟩ : Fin 2816) = f := Fin.ext (Nat.mod_eq_of_lt f.isLt)
  unfold term
  simp only [e', upW_at e he, downW_at e he]

/-! ## The choice of the expert -/

/-- The tile of a row. -/
def tileOf (t : Fin 71680) : Fin 140 := ⟨t.val / 512, by omega⟩

/-- Each row's expert. -/
def experts : IVec S71680x1 32 :=
  shapeCast S71680x1 (broadcastInDim S140x512 ![0, 1] bcast_S140x1_S140x512_0_1 (broadcastInDim S140x1 ![0] bcast_S140_S140x1_0 te)) shapeCasts_S140x512_S71680x1

theorem experts_at (t : Fin 71680) : experts te (ix2 t 0) = te (ix1 (tileOf t)) := by
  pointwise [experts]
  rfl

/-- Whether each row's tile is used. -/
def used : IVec S71680x1 1 :=
  shapeCast S71680x1 (broadcastInDim S140x512 ![0, 1] bcast_S140x1_S140x512_0_1 (broadcastInDim S140x1 ![0] bcast_S140_S140x1_0
    (cmpi .slt (iotaInDim S140 32 0) (broadcastInDim S140 ![0] bcast_S1_S140_0 nu)))) shapeCasts_S140x512_S71680x1

theorem used_at (t : Fin 71680) : used nu (ix2 t 0) = Scalar.cmpi .slt (BitVec.ofNat 32 (tileOf t).val) (nu (ix1 0)) := by
  pointwise [used]
  rfl

def zeros : FVec Ideal S71680x1024 .f32 := broadcastInDim S71680x1024 ![] bcast_S_S71680x1024 (constant S_ .f32 0x00000000#32)

theorem zeros_at (t : Fin 71680) (n : Fin 1024) : zeros (ix2 t n) = 0 := by
  pointwise [zeros]

/-- Rows where a mask is one, zero elsewhere. -/
def keep (c : IVec S71680x1 1) (y : FVec Ideal S71680x1024 .f32) : FVec Ideal S71680x1024 .f32 :=
  select (broadcastInDim S71680x1024 ![0, 1] bcast_S71680x1_S71680x1024_0_1 c) y zeros

theorem keep_at (c : IVec S71680x1 1) (y) (t : Fin 71680) (n : Fin 1024) : keep c y (ix2 t n) = Scalar.select (c (ix2 t 0)) (y (ix2 t n)) 0 := by
  rw [← zeros_at t n]
  unfold keep
  generalize zeros = z
  pointwise
  try rfl

/-- The rows of expert `e`. -/
def mask (e : BitVec 32) : IVec S71680x1 1 := cmpi .eq (experts te) (broadcastInDim S71680x1 ![] bcast_S_S71680x1 (constantI S_ 32 e))

theorem mask_at (e : BitVec 32) (t : Fin 71680) : mask te e (ix2 t 0) = Scalar.cmpi .eq (te (ix1 (tileOf t))) e := by
  rw [← experts_at te t]
  unfold mask
  generalize experts te = z
  pointwise
  try rfl

def sum8 : FVec Ideal S71680x1024 .f32 :=
  addf (addf (addf (addf (addf (addf (addf (addf zeros
    (keep (mask te 0#32) (feed x wg wu wd 0 slices_S2x8x1024x2816_S1x1x1024x2816_1_0_0_0 slices_S2x8x2816x1024_S1x1x2816x1024_1_0_0_0)))
    (keep (mask te 1#32) (feed x wg wu wd 1 slices_S2x8x1024x2816_S1x1x1024x2816_1_1_0_0 slices_S2x8x2816x1024_S1x1x2816x1024_1_1_0_0)))
    (keep (mask te 2#32) (feed x wg wu wd 2 slices_S2x8x1024x2816_S1x1x1024x2816_1_2_0_0 slices_S2x8x2816x1024_S1x1x2816x1024_1_2_0_0)))
    (keep (mask te 3#32) (feed x wg wu wd 3 slices_S2x8x1024x2816_S1x1x1024x2816_1_3_0_0 slices_S2x8x2816x1024_S1x1x2816x1024_1_3_0_0)))
    (keep (mask te 4#32) (feed x wg wu wd 4 slices_S2x8x1024x2816_S1x1x1024x2816_1_4_0_0 slices_S2x8x2816x1024_S1x1x2816x1024_1_4_0_0)))
    (keep (mask te 5#32) (feed x wg wu wd 5 slices_S2x8x1024x2816_S1x1x1024x2816_1_5_0_0 slices_S2x8x2816x1024_S1x1x2816x1024_1_5_0_0)))
    (keep (mask te 6#32) (feed x wg wu wd 6 slices_S2x8x1024x2816_S1x1x1024x2816_1_6_0_0 slices_S2x8x2816x1024_S1x1x2816x1024_1_6_0_0)))
    (keep (mask te 7#32) (feed x wg wu wd 7 slices_S2x8x1024x2816_S1x1x1024x2816_1_7_0_0 slices_S2x8x2816x1024_S1x1x2816x1024_1_7_0_0))

theorem addf_at (a b : FVec Ideal S71680x1024 .f32) (i : S71680x1024.Idx) : @Eq EReal (addf a b i) ((a i : EReal) + (b i : EReal)) := rfl

/-- Eight terms of which one is chosen. -/
theorem choose_one (v : BitVec 32) (h : v.toNat < 8) (T : Fin 8 → EReal) :
    (((((((((0 : EReal) + Scalar.select (Scalar.cmpi .eq v 0#32) (T 0) 0) + Scalar.select (Scalar.cmpi .eq v 1#32) (T 1) 0)
      + Scalar.select (Scalar.cmpi .eq v 2#32) (T 2) 0) + Scalar.select (Scalar.cmpi .eq v 3#32) (T 3) 0) + Scalar.select (Scalar.cmpi .eq v 4#32) (T 4) 0)
      + Scalar.select (Scalar.cmpi .eq v 5#32) (T 5) 0) + Scalar.select (Scalar.cmpi .eq v 6#32) (T 6) 0) + Scalar.select (Scalar.cmpi .eq v 7#32) (T 7) 0)
      = T ⟨v.toNat % 8, Nat.mod_lt _ (by decide)⟩ := by
  have hv : v = BitVec.ofNat 32 v.toNat := by rw [BitVec.ofNat_toNat, BitVec.setWidth_eq]
  generalize v.toNat = k at h hv
  subst hv
  have cases : k = 0 ∨ k = 1 ∨ k = 2 ∨ k = 3 ∨ k = 4 ∨ k = 5 ∨ k = 6 ∨ k = 7 := by omega
  rcases cases with rfl | rfl | rfl | rfl | rfl | rfl | rfl | rfl <;>
    simp [Scalar.select, Scalar.cmpi, IntOp.cmpi]

theorem sum8_at (t : Fin 71680) (n : Fin 1024) (h : (te (ix1 (tileOf t))).toNat < 8) :
    @Eq EReal (sum8 x te wg wu wd (ix2 t n)) (one x wg wu wd ⟨(te (ix1 (tileOf t))).toNat % 8, Nat.mod_lt _ (by decide)⟩ t n) := by
  unfold sum8
  simp only [addf_at, keep_at, mask_at, zeros_at]
  rw [feed_at x wg wu wd 0 (by decide), feed_at x wg wu wd 1 (by decide), feed_at x wg wu wd 2 (by decide), feed_at x wg wu wd 3 (by decide),
    feed_at x wg wu wd 4 (by decide), feed_at x wg wu wd 5 (by decide), feed_at x wg wu wd 6 (by decide), feed_at x wg wu wd 7 (by decide)]
  exact choose_one _ h fun e => one x wg wu wd e t n

def whole : FVec Ideal S71680x1024 .bf16 := truncf .bf16 (keep (used nu) (sum8 x te wg wu wd)) bitsLt_bf16_f32

/-- The reference's result at an index: the named expert's feed-forward where the tile is used, zero elsewhere. -/
theorem whole_at (t : Fin 71680) (n : Fin 1024) (h : (te (ix1 (tileOf t))).toNat < 8) :
    @Eq EReal (whole x te nu wg wu wd (ix2 t n))
      (Scalar.select (Scalar.cmpi .slt (BitVec.ofNat 32 (tileOf t).val) (nu (ix1 0)))
        (one x wg wu wd ⟨(te (ix1 (tileOf t))).toNat % 8, Nat.mod_lt _ (by decide)⟩ t n) 0) := by
  show @Eq EReal (keep (used nu) (sum8 x te wg wu wd) (ix2 t n)) _
  rw [keep_at, used_at, sum8_at x te wg wu wd t n h]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run (F := Ideal) m ρ)

end Cert.Reference4Ideal.Hand

end
-- ==== Proof.lean ====
module

public import proofs.«01_k».proof.Proof.Same
public import proofs.«01_k».proof.Proof.Value
public import proofs.«01_k».proof.Proof.RefAt
public import proofs.«01_k».proof.Proof.Finite
public import proofs.«01_k».proof.Defs
public import proofs.«01_k».proof.Proof.Gen.Kernel
public import proofs.«01_k».proof.Proof.Gen.KernelIdeal.Frame
public import proofs.«01_k».proof.Proof.Gen.Pre_finite_scores
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Kernel4.Launch
public import proofs.«01_k».proof.Proof.Gen.Kernel4.Skeleton
public import proofs.«01_k».proof.Proof.Gen.Kernel4Ideal.Launch
public import proofs.«01_k».proof.Proof.Gen.Kernel4Ideal.Skeleton
public import proofs.«01_k».proof.Proof.Gen.Reference4Ideal.Run
public import proofs.«01_k».proof.Proof.Gen.Pre_experts_named
public import proofs.«01_k».proof.Proof.FfnHost
public import proofs.«01_k».proof.Proof.FfnRef
public import proofs.«01_k».proof.Proof.MoeHost
public import proofs.«01_k».proof.Proof.MoeRef
public import proofs.«01_k».proof.Proof.MoeSecondHost
public import proofs.«01_k».proof.Proof.MoeSecondRef

@[expose] public section

noncomputable section

namespace Cert.Proof

open Idealize.ShloMosaic Idealize.SL.Sem Cert.Attention

/-- The kernel at the bit patterns: the run proved over any floats, of the same text. -/
theorem frame_kernel : Cert.quiescent_Kernel (hKernel := Cert.Kernel.Gen.facts) := Cert.KernelIdeal.Hand.frame_printed

/-- The kernel at the extended reals. -/
theorem frame_ideal : Cert.quiescent_KernelIdeal (hKernelIdeal := Cert.KernelIdeal.Gen.facts) := fun m g _ =>
  Cert.KernelIdeal.Hand.frame_run (F := Ideal) m g

/-- The reference at the extended reals. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The same, where every query and every key is finite. -/
theorem frame_reference_pre : Cert.quiescent_ReferenceIdeal_pre_finite_scores (hReferenceIdeal := Cert.ReferenceIdeal.Gen.facts)
    (hPre_finite_scores := Cert.Pre_finite_scores.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result is the reference's, where every query and every key is finite. -/
theorem equal : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre harg
  refine ⟨fun c => Cert.KernelIdeal.Hand.whole m c, (θ_run Cert.KernelIdeal.defs _ _).mono (fun r h c => ⟨(h.1 c).1.trans ?_, (h.1 c).2⟩)
      (Cert.KernelIdeal.Hand.run (F := Ideal) m g),
    (θ_run Cert.ReferenceIdeal.defs _ _).mono (fun r h c => ⟨(h c).1.trans ?_, (h c).2⟩) (Cert.ReferenceIdeal.Value.run (F := Ideal) m' g')⟩
  · obtain ⟨hqc, hqd, hkc, hkd⟩ := hpre c
    exact Cert.KernelIdeal.Hand.result m c (isReal_of_mask _ _ hqc) (isReal_of_mask _ _ hkc) (isReal_of_mask _ _ hqd) (isReal_of_mask _ _ hkd)
  · obtain ⟨hqc, hqd, hkc, hkd⟩ := hpre c
    obtain ⟨a0, a1, a2, a3, a4, a5⟩ := harg c
    rw [Cert.ReferenceIdeal.Hand.res_eq, a0, a1, a2, a3, a4, a5]
    funext y
    obtain ⟨b, t, n, rfl⟩ : ∃ b t n, y = ix3 b t n := ⟨y 0, y 1, y 2, funext fun a => match a with | 0 => rfl | 1 => rfl | 2 => rfl⟩
    exact Cert.ReferenceIdeal.Hand.reference_at _ _ _ _ _ _ (isReal_of_mask _ _ hqc) (isReal_of_mask _ _ hqd) (isReal_of_mask _ _ hkc) (isReal_of_mask _ _ hkd) b t n

/-- The feed-forward's reference at the extended reals. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- The feed-forward call's result is the reference's. -/
theorem equal2 : Cert.algebraic_Kernel2Ideal_Reference2Ideal (hKernel2Ideal := Cert.Kernel2Ideal.Gen.facts)
    (hReference2Ideal := Cert.Reference2Ideal.Gen.facts) := by
  intro m g m' g' hpre harg
  refine ⟨fun c => Cert.Kernel2Ideal.Hand.whole m c, (θ_run Cert.Kernel2Ideal.defs _ _).mono (fun r h c => ⟨(h c).1.trans ?_, (h c).2⟩)
      (Cert.Kernel2Ideal.Value.run_blocks (F := Ideal) m g),
    (θ_run Cert.Reference2Ideal.defs _ _).mono (fun r h c => ⟨(h c).1.trans ?_, (h c).2⟩) (Cert.Reference2Ideal.Hand.run m' g')⟩
  · exact Cert.Kernel2Ideal.Hand.result m c
  · obtain ⟨a0, a1, a2, a3, a4, a5, a6, a7⟩ := harg c
    rw [a0, a1, a2, a3, a4, a5, a6, a7]
    funext y
    obtain ⟨b, t, n, rfl⟩ : ∃ b t n, y = ix3 b t n := ⟨y 0, y 1, y 2, funext fun a => match a with | 0 => rfl | 1 => rfl | 2 => rfl⟩
    refine (Cert.Reference2Ideal.Hand.whole_at _ _ _ _ _ b t n).trans ?_
    rw [Cert.Reference2Ideal.Hand.feed_at]
    rfl

/-- The experts' reference at the extended reals. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The same, where each tile names one of the eight experts. -/
theorem frame_reference3_pre : Cert.quiescent_Reference3Ideal_pre_experts_named (hReference3Ideal := Cert.Reference3Ideal.Gen.facts)
    (hPre_experts_named := Cert.Pre_experts_named.Gen.facts) := fun m g _ =>
  (θ_run Cert.Reference3Ideal.defs _ _).mono (fun r h => ⟨fun c => (h c).2, sem_eq_zero_of_no_sems (by decide) r.2⟩)
    (Cert.Reference3Ideal.Value.run (F := Ideal) m g)

/-- The experts' call's result is the reference's, where each tile names one of the eight experts. -/
theorem equal3 : Cert.algebraic_Kernel3Ideal_Reference3Ideal (hKernel3Ideal := Cert.Kernel3Ideal.Gen.facts)
    (hReference3Ideal := Cert.Reference3Ideal.Gen.facts) (hPre_experts_named := Cert.Pre_experts_named.Gen.facts) := by
  intro m g m' g' hpre harg
  have named : ∀ j, (Cert.Kernel3Ideal.Hand.experts m (ix1 j)).toNat < 8 := Cert.Kernel3Ideal.Hand.named_of_mask _ _ _ (hpre 0)
  refine ⟨fun c => Cert.Kernel3Ideal.Hand.whole m c, Cert.Kernel3Ideal.Hand.run m g named,
    (θ_run Cert.Reference3Ideal.defs _ _).mono (fun r h c => ⟨(h c).1.trans ?_, (h c).2⟩) (Cert.Reference3Ideal.Hand.run m' g')⟩
  obtain rfl : c = 0 := Subsingleton.elim _ _
  obtain ⟨a0, a1, a2, a3, a4, a5⟩ := harg 0
  rw [a0, a1, a2, a3, a4, a5]
  funext y
  obtain ⟨t, n, rfl⟩ : ∃ t n, y = ix2 t n := ⟨y 0, y 1, funext fun a => match a with | 0 => rfl | 1 => rfl⟩
  exact Cert.Reference3Ideal.Hand.whole_at _ _ _ _ _ _ t n (named _)

/-- The second experts' reference at the extended reals. -/
theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The same, where each tile names one of the eight experts. -/
theorem frame_reference4_pre : Cert.quiescent_Reference4Ideal_pre_experts_named (hReference4Ideal := Cert.Reference4Ideal.Gen.facts)
    (hPre_experts_named := Cert.Pre_experts_named.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The second experts' call's result is the reference's, where each tile names one of the eight experts. -/
theorem equal4 : Cert.algebraic_Kernel4Ideal_Reference4Ideal (hKernel4Ideal := Cert.Kernel4Ideal.Gen.facts)
    (hReference4Ideal := Cert.Reference4Ideal.Gen.facts) (hPre_experts_named := Cert.Pre_experts_named.Gen.facts) := by
  intro m g m' g' hpre harg
  have named : ∀ j, (Cert.Kernel4Ideal.Hand.experts m (ix1 j)).toNat < 8 := Cert.Kernel4Ideal.Hand.named_of_mask _ _ _ (hpre 0)
  refine ⟨fun c => Cert.Kernel4Ideal.Hand.whole m c, Cert.Kernel4Ideal.Hand.run m g named,
    (θ_run Cert.Reference4Ideal.defs _ _).mono (fun r h c => ⟨(h c).1.trans ?_, (h c).2⟩) (Cert.Reference4Ideal.Hand.run m' g')⟩
  obtain rfl : c = 0 := Subsingleton.elim _ _
  obtain ⟨a0, a1, a2, a3, a4, a5⟩ := harg 0
  rw [a0, a1, a2, a3, a4, a5]
  funext y
  obtain ⟨t, n, rfl⟩ : ∃ t n, y = ix2 t n := ⟨y 0, y 1, funext fun a => match a with | 0 => rfl | 1 => rfl⟩
  exact Cert.Reference4Ideal.Hand.whole_at _ _ _ _ _ _ t n (named _)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_scores.Gen.facts, Cert.Pre_experts_named.Gen.facts, frame_kernel, frame_ideal,
    fun m g _ => Cert.KernelIdeal.Hand.frame_run (F := Ideal) m g, frame_reference, fun m g h => frame_reference_pre m g h,
    fun m g _ => Cert.Kernel2.Gen.frame m g, fun m g _ => Cert.Kernel2Ideal.Gen.frame m g, frame_reference2,
    Cert.Kernel3Ideal.Hand.frame_printed, Cert.Kernel3Ideal.Hand.frame_ideal, frame_reference3, frame_reference3_pre,
    Cert.Kernel4Ideal.Hand.frame_printed, Cert.Kernel4Ideal.Hand.frame_ideal, frame_reference4, frame_reference4_pre,
    trivial, equal, trivial, equal2, trivial, equal3, trivial, equal4⟩

end Cert.Proof

end
